-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S100000x128 : Shape := ⟨2, ![100000, 128]⟩
abbrev S100000 : Shape := ⟨1, ![100000]⟩
abbrev S256x128 : Shape := ⟨2, ![256, 128]⟩
abbrev S128 : Shape := ⟨1, ![128]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_1 : S100000.Slices ![1] S99999
  slices_S100000_S99999_0 : S100000.Slices ![0] S99999
  reducesTo_S99999_S_d0 : S99999.ReducesTo [0] S_

variable [Facts]

def fn {F : FTy → Type} [FloatOps F] (main_arg0 : FVec F S100000x128 .f32) (main_arg1 : IVec S100000 32) (main_arg2 : FVec F S256x128 .f32) (main_arg3 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 512#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![1] · slices_S100000_S99999_1) main_arg1
  let main_v8 : IVec S99999 32 := (extractStridedSlice S99999 ![0] · slices_S100000_S99999_0) main_arg1
  let main_v9 : IVec S99999 1 := cmpi .sge main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x128 : Shape := ⟨2, ![100000, 128]⟩
abbrev S100000 : Shape := ⟨1, ![100000]⟩
abbrev S256x128 : Shape := ⟨2, ![256, 128]⟩
abbrev S128 : Shape := ⟨1, ![128]⟩
abbrev S32x8192 : Shape := ⟨2, ![32, 8192]⟩
abbrev S1000x16 : Shape := ⟨2, ![1000, 16]⟩
abbrev S1016 : Shape := ⟨1, ![1016]⟩
abbrev S8208 : Shape := ⟨1, ![8208]⟩
abbrev S16 : Shape := ⟨1, ![16]⟩
abbrev S_ : Shape := ⟨0, ![]⟩
abbrev S1000 : Shape := ⟨1, ![1000]⟩
abbrev S1 : Shape := ⟨1, ![1]⟩
abbrev S1x16 : Shape := ⟨2, ![1, 16]⟩
abbrev S8192 : Shape := ⟨1, ![8192]⟩
abbrev S1x8192 : Shape := ⟨2, ![1, 8192]⟩
abbrev S8x8192 : Shape := ⟨2, ![8, 8192]⟩
abbrev S8x512x16 : Shape := ⟨3, ![8, 512, 16]⟩
abbrev S512x8x16 : Shape := ⟨3, ![512, 8, 16]⟩
abbrev S512x128 : Shape := ⟨2, ![512, 128]⟩
abbrev S1x128 : Shape := ⟨2, ![1, 128]⟩
abbrev S128x128 : Shape := ⟨2, ![128, 128]⟩

abbrev nBuf : Table → Nat
  | .hbm => 17
  | .local .tc .vmem => 5
  | .local .scVector .vmem => 15
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S256x128, .f32⟩
  | .hbm, ⟨3, _⟩ => ⟨S128, .f32⟩
  | .hbm, ⟨4, _⟩ => ⟨S32x8192, .f32⟩
  | .hbm, ⟨5, _⟩ => ⟨S32x8192, .f32⟩
  | .hbm, ⟨6, _⟩ => ⟨S32x8192, .f32⟩
  | .hbm, ⟨7, _⟩ => ⟨S8x8192, .f32⟩
  | .hbm, ⟨8, _⟩ => ⟨S8x8192, .f32⟩
  | .hbm, ⟨9, _⟩ => ⟨S8x512x16, .f32⟩
  | .hbm, ⟨10, _⟩ => ⟨S512x8x16, .f32⟩
  | .hbm, ⟨11, _⟩ => ⟨S512x128, .f32⟩
  | .hbm, ⟨12, _⟩ => ⟨S8x512x16, .f32⟩
  | .hbm, ⟨13, _⟩ => ⟨S512x8x16, .f32⟩
  | .hbm, ⟨14, _⟩ => ⟨S512x128, .f32⟩
  | .hbm, ⟨15, _⟩ => ⟨S1x128, .f32⟩
  | .hbm, ⟨16, _⟩ => ⟨S512x128, .f32⟩
  | .local .tc .vmem, ⟨0, _⟩ => ⟨S512x128, .f32⟩
  | .local .tc .vmem, ⟨1, _⟩ => ⟨S512x128, .f32⟩
  | .local .tc .vmem, ⟨2, _⟩ => ⟨S256x128, .f32⟩
  | .local .tc .vmem, ⟨3, _⟩ => ⟨S1x128, .f32⟩
  | .local .tc .vmem, ⟨4, _⟩ => ⟨S512x128, .f32⟩
  | .local .scVector .vmem, ⟨0, _⟩ => ⟨S1000x16, .f32⟩
  | .local .scVector .vmem, ⟨1, _⟩ => ⟨S1016, .i32⟩
  | .local .scVector .vmem, ⟨2, _⟩ => ⟨S1000x16, .f32⟩
  | .local .scVector .vmem, ⟨3, _⟩ => ⟨S1016, .i32⟩
  | .local .scVector .vmem, ⟨4, _⟩ => ⟨S8208, .f32⟩
  | .local .scVector .vmem, ⟨5, _⟩ => ⟨S8208, .f32⟩
  | .local .scVector .vmem, ⟨6, _⟩ => ⟨S8208, .f32⟩
  | .local .scVector .vmem, ⟨7, _⟩ => ⟨S16, .f32⟩
  | .local .scVector .vmem, ⟨8, _⟩ => ⟨S16, .f32⟩
  | .local .scVector .vmem, ⟨9, _⟩ => ⟨S8192, .f32⟩
  | .local .scVector .vmem, ⟨10, _⟩ => ⟨S8192, .f32⟩
  | .local .scVector .vmem, ⟨11, _⟩ => ⟨S8192, .f32⟩
  | .local .scVector .vmem, ⟨12, _⟩ => ⟨S8192, .f32⟩
  | .local .scVector .vmem, ⟨13, _⟩ => ⟨S8192, .f32⟩
  | .local .scVector .vmem, ⟨14, _⟩ => ⟨S8192, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 4, rfl⟩
abbrev main_v0_1_scv : Ref sig .scVector := ⟨.hbm, 5, rfl⟩
abbrev main_v0_2_scv : Ref sig .scVector := ⟨.hbm, 6, rfl⟩
abbrev main_v1_0_scv : Ref sig .scVector := ⟨.hbm, 7, rfl⟩
abbrev main_v1_1_scv : Ref sig .scVector := ⟨.hbm, 8, rfl⟩
abbrev cc2_stg0_0 : Ref sig .tc := ⟨.vmem, 0, rfl⟩
abbrev cc2_stg1_0 : Ref sig .tc := ⟨.vmem, 1, rfl⟩
abbrev cc2_stg2_0 : Ref sig .tc := ⟨.vmem, 2, rfl⟩
abbrev cc2_stg3_0 : Ref sig .tc := ⟨.vmem, 3, rfl⟩
abbrev cc2_stg4_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_scratch0 : Ref sig .scVector := ⟨.vmem, 9, rfl⟩
abbrev cc1_scratch1 : Ref sig .scVector := ⟨.vmem, 10, rfl⟩
abbrev cc1_scratch2 : Ref sig .scVector := ⟨.vmem, 11, rfl⟩
abbrev cc1_scratch3 : Ref sig .scVector := ⟨.vmem, 12, rfl⟩
abbrev cc1_scratch4 : Ref sig .scVector := ⟨.vmem, 13, rfl⟩
abbrev cc1_scratch5 : Ref sig .scVector := ⟨.vmem, 14, rfl⟩
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_13 : BitVec 32 := 0#32
  let c513_i32 : BitVec 32 := 513#32
  let v33 : BitVec 32 := Scalar.addi c0_i32_13 c513_i32
  let c1_i32_14 : BitVec 32 := 1#32
  ⟨c0_i32_13, v33, c1_i32_14⟩
def k0_off1 (k0_t1 : Fin k0_t1_loop.trips) : Fin 1 → Nat :=
  let c0_i32_13 : BitVec 32 := 0#32
  let c1_i32_14 : BitVec 32 := 1#32
  let arg20 : BitVec 32 := Scf.iv c0_i32_13 c1_i32_14 k0_t1
  let c16_i32_43 : BitVec 32 := 16#32
  let v94 : BitVec 32 := Scalar.muli arg20 c16_i32_43
  let v95 : Index := Scalar.indexCast v94
  ![v95.toNat]
def k0_off2 (i : grid0.Coords) (c0_i32_17 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c25000_i32 : BitVec 32 := 25000#32
  let v29 : BitVec 32 := Scalar.muli v18 c25000_i32
  let v41 : BitVec 32 := Scalar.addi v29 c0_i32_17
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_10 : BitVec 32 := 16#32
  let v30 : BitVec 32 := Scalar.muli v28 c16_i32_10
  ![v41.toNat, v30.toNat]
def k0_off3 (i : grid0.Coords) (c0_i32_18 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c25000_i32 : BitVec 32 := 25000#32
  let v29 : BitVec 32 := Scalar.muli v18 c25000_i32
  let v44 : BitVec 32 := Scalar.addi v29 c0_i32_18
  ![v44.toNat]
@[reducible] def k0_t2_loop : Scf.Loop 32 :=
  let c0_i32_22 : BitVec 32 := 0#32
  let c12_i32 : BitVec 32 := 12#32
  let v49 : BitVec 32 := Scalar.addi c0_i32_22 c12_i32
  let c1_i32_23 : BitVec 32 := 1#32
  ⟨c0_i32_22, v49, c1_i32_23⟩
def k0_off4 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c25000_i32 : BitVec 32 := 25000#32
  let v29 : BitVec 32 := Scalar.muli v18 c25000_i32
  let c2_i32 : BitVec 32 := 2#32
  let c0_i32_22 : BitVec 32 := 0#32
  let c1_i32_23 : BitVec 32 := 1#32
  let arg20 : BitVec 32 := Scf.iv c0_i32_22 c1_i32_23 k0_t2
  let v94 : BitVec 32 := Scalar.muli c2_i32 arg20
  let c1000_i32 : BitVec 32 := 1000#32
  let v95 : BitVec 32 := Scalar.muli v94 c1000_i32
  let v96 : BitVec 32 := Scalar.addi v29 v95
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_10 : BitVec 32 := 16#32
  let v30 : BitVec 32 := Scalar.muli v28 c16_i32_10
  ![v96.toNat, v30.toNat]
def k0_off5 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c25000_i32 : BitVec 32 := 25000#32
  let v29 : BitVec 32 := Scalar.muli v18 c25000_i32
  let c2_i32 : BitVec 32 := 2#32
  let c0_i32_22 : BitVec 32 := 0#32
  let c1_i32_23 : BitVec 32 := 1#32
  let arg20 : BitVec 32 := Scf.iv c0_i32_22 c1_i32_23 k0_t2
  let v94 : BitVec 32 := Scalar.muli c2_i32 arg20
  let c1000_i32_43 : BitVec 32 := 1000#32
  let v99 : BitVec 32 := Scalar.muli v94 c1000_i32_43
  let v100 : BitVec 32 := Scalar.addi v29 v99
  ![v100.toNat]
def k0_off6 (i : grid0.Coords) (k0_t2 : Fin k0_t2_loop.trips) (c1_i32_46 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c25000_i32 : BitVec 32 := 25000#32
  let v29 : BitVec 32 := Scalar.muli v18 c25000_i32
  let c2_i32 : BitVec 32 := 2#32
  let c0_i32_22 : BitVec 32 := 0#32
  let c1_i32_23 : BitVec 32 := 1#32
  let arg20 : BitVec 32 := Scf.iv c0_i32_22 c1_i32_23 k0_t2
  let v94 : BitVec 32 := Scalar.muli c2_i32 arg20
  let v105 : BitVec 32 := Scalar.addi v94 c1_i32_46
  let c1000_i32_47 : BitVec 32 := 1000#32
  let v106 : BitVec 32 := Scalar.muli v105 c1000_i32_47
  let v107 : BitVec 32 := Scalar.addi v29 v106
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_10 : BitVec 32 := 16#32
  let v30 : BitVec 32 := Scalar.muli v28 c16_i32_10
  ![v107.toNat, v30.toNat]
def k0_off7 (i : grid0.Coords) (k0_t2 : Fin k0_t2_loop.trips) (c1_i32_46 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c25000_i32 : BitVec 32 := 25000#32
  let v29 : BitVec 32 := Scalar.muli v18 c25000_i32
  let c2_i32 : BitVec 32 := 2#32
  let c0_i32_22 : BitVec 32 := 0#32
  let c1_i32_23 : BitVec 32 := 1#32
  let arg20 : BitVec 32 := Scf.iv c0_i32_22 c1_i32_23 k0_t2
  let v94 : BitVec 32 := Scalar.muli c2_i32 arg20
  let v105 : BitVec 32 := Scalar.addi v94 c1_i32_46
  let c1000_i32_48 : BitVec 32 := 1000#32
  let v110 : BitVec 32 := Scalar.muli v105 c1000_i32_48
  let v111 : BitVec 32 := Scalar.addi v29 v110
  ![v111.toNat]
@[reducible] def k0_t3_loop : Scf.Loop 32 :=
  let c0_i32_51 : BitVec 32 := 0#32
  let c31_i32_52 : BitVec 32 := 31#32
  let v116 : BitVec 32 := Scalar.addi c0_i32_51 c31_i32_52
  let c1_i32_53 : BitVec 32 := 1#32
  ⟨c0_i32_51, v116, c1_i32_53⟩
def k0_off8 (k0_t3 : Fin k0_t3_loop.trips) : Fin 1 → Nat :=
  let c0_i32_51 : BitVec 32 := 0#32
  let c1_i32_53 : BitVec 32 := 1#32
  let arg23 : BitVec 32 := Scf.iv c0_i32_51 c1_i32_53 k0_t3
  let c32_i32 : BitVec 32 := 32#32
  let v166 : BitVec 32 := Scalar.muli arg23 c32_i32
  let v167 : Index := Scalar.indexCast v166
  ![v167.toNat]
def k0_off9 (k0_t3 : Fin k0_t3_loop.trips) : Fin 1 → Nat :=
  let c0_i32_51 : BitVec 32 := 0#32
  let c1_i32_53 : BitVec 32 := 1#32
  let arg23 : BitVec 32 := Scf.iv c0_i32_51 c1_i32_53 k0_t3
  let c32_i32 : BitVec 32 := 32#32
  let v166 : BitVec 32 := Scalar.muli arg23 c32_i32
  let c16_i32_85 : BitVec 32 := 16#32
  let v172 : BitVec 32 := Scalar.addi v166 c16_i32_85
  let v173 : Index := Scalar.indexCast v172
  ![v173.toNat]
def k0_off10 (k0_t3 : Fin k0_t3_loop.trips) (c0_i32_89 : BitVec 32) : Fin 2 → Nat :=
  let c0_i32_51 : BitVec 32 := 0#32
  let c1_i32_53 : BitVec 32 := 1#32
  let arg23 : BitVec 32 := Scf.iv c0_i32_51 c1_i32_53 k0_t3
  let c32_i32 : BitVec 32 := 32#32
  let v166 : BitVec 32 := Scalar.muli arg23 c32_i32
  let v188 : BitVec 32 := Scalar.addi v166 c0_i32_89
  let v189 : Index := Scalar.indexCast v188
  let c0_90 : Index := 0#32
  ![v189.toNat, 0]
@[reducible] def k0_t4_loop (k0_t3 : Fin k0_t3_loop.trips) : Scf.Loop 32 :=
  let c0_i32_51 : BitVec 32 := 0#32
  let c1_i32_53 : BitVec 32 := 1#32
  let arg23 : BitVec 32 := Scf.iv c0_i32_51 c1_i32_53 k0_t3
  let c32_i32 : BitVec 32 := 32#32
  let v166 : BitVec 32 := Scalar.muli arg23 c32_i32
  let c32_i32_87 : BitVec 32 := 32#32
  let v184 : BitVec 32 := Scalar.addi v166 c32_i32_87
  let v189 : BitVec 32 := Scalar.subi v184 v166
  let c1_i32_90 : BitVec 32 := 1#32
  let v191 : BitVec 32 := Scalar.divsi v189 c1_i32_90
  let v192 : BitVec 32 := Scalar.muli v191 c1_i32_90
  let v193 : BitVec 32 := Scalar.addi v166 v192
  let c1_i32_91 : BitVec 32 := 1#32
  ⟨v166, v193, c1_i32_91⟩
def k0_off11 (k0_t3 : Fin k0_t3_loop.trips) (k0_t4 : Fin (k0_t4_loop k0_t3).trips) : Fin 1 → Nat :=
  let c0_i32_51 : BitVec 32 := 0#32
  let c1_i32_53 : BitVec 32 := 1#32
  let arg23 : BitVec 32 := Scf.iv c0_i32_51 c1_i32_53 k0_t3
  let c32_i32 : BitVec 32 := 32#32
  let v166 : BitVec 32 := Scalar.muli arg23 c32_i32
  let c1_i32_91 : BitVec 32 := 1#32
  let arg26 : BitVec 32 := Scf.iv v166 c1_i32_91 k0_t4
  let v202 : Index := Scalar.indexCast arg26
  ![v202.toNat]
def k0_off12 (k0_t3 : Fin k0_t3_loop.trips) (k0_t4 : Fin (k0_t4_loop k0_t3).trips) : Fin 2 → Nat :=
  let c0_i32_51 : BitVec 32 := 0#32
  let c1_i32_53 : BitVec 32 := 1#32
  let arg23 : BitVec 32 := Scf.iv c0_i32_51 c1_i32_53 k0_t3
  let c32_i32 : BitVec 32 := 32#32
  let v166 : BitVec 32 := Scalar.muli arg23 c32_i32
  let c1_i32_91 : BitVec 32 := 1#32
  let arg26 : BitVec 32 := Scf.iv v166 c1_i32_91 k0_t4
  let v207 : Index := Scalar.indexCast arg26
  let c0_95 : Index := 0#32
  ![v207.toNat, 0]
def k0_off13 (arg27 : BitVec 32) : Fin 1 → Nat :=
  let c1_i32_96 : BitVec 32 := 1#32
  let v210 : BitVec 32 := Scalar.addi arg27 c1_i32_96
  let c16_i32_97 : BitVec 32 := 16#32
  let v211 : BitVec 32 := Scalar.muli v210 c16_i32_97
  let v212 : Index := Scalar.indexCast v211
  ![v212.toNat]
def k0_cond1 (arg24 : BitVec 32) (v171 : BitVec 32) (v177 : BitVec 32) : BitVec 1 :=
  let v178 : BitVec 1 := Scalar.cmpi .eq v171 arg24
  let v179 : BitVec 1 := Scalar.cmpi .eq v177 arg24
  let v180 : BitVec 1 := Scalar.andi v178 v179
  let v181 : BitVec 32 := Scalar.extui v180
  let c0_i32_86 : BitVec 32 := 0#32
  let v182 : BitVec 1 := Scalar.cmpi .ne v181 c0_i32_86
  v182

def k0_chk1 (arg24 : BitVec 32) (v171 : BitVec 32) (v177 : BitVec 32) (arg27 : BitVec 32) : Prop :=
  (∀ (k0_h1 : ¬(k0_cond1 arg24 v171 v177 = 1#1)), ∀ a, (k0_off13 arg27) a + S16.size a ≤ S8208.size a)
theorem k0_off13_inb : ∀ (arg24 : BitVec 32) (v171 : BitVec 32) (v177 : BitVec 32) (arg27 : BitVec 32) (k0_hw1 : k0_chk1 arg24 v171 v177 arg27), ∀ (k0_h1 : ¬(k0_cond1 arg24 v171 v177 = 1#1)), ∀ a, (k0_off13 arg27) a + S16.size a ≤ S8208.size a := fun arg24 v171 v177 arg27 k0_hw1 k0_h1 => k0_hw1 k0_h1

@[reducible] def k0_t5_loop (k0_t3 : Fin k0_t3_loop.trips) : Scf.Loop 32 :=
  let c0_i32_51 : BitVec 32 := 0#32
  let c1_i32_53 : BitVec 32 := 1#32
  let arg23 : BitVec 32 := Scf.iv c0_i32_51 c1_i32_53 k0_t3
  let c32_i32 : BitVec 32 := 32#32
  let v166 : BitVec 32 := Scalar.muli arg23 c32_i32
  let c32_i32_87 : BitVec 32 := 32#32
  let v184 : BitVec 32 := Scalar.addi v166 c32_i32_87
  let v189 : BitVec 32 := Scalar.subi v184 v166
  let c1_i32_90 : BitVec 32 := 1#32
  let v191 : BitVec 32 := Scalar.divsi v189 c1_i32_90
  let v192 : BitVec 32 := Scalar.muli v191 c1_i32_90
  let v193 : BitVec 32 := Scalar.addi v166 v192
  let v190 : BitVec 32 := Scalar.addi v166 v189
  let c1_i32_92 : BitVec 32 := 1#32
  ⟨v193, v190, c1_i32_92⟩
def k0_off14 (k0_t3 : Fin k0_t3_loop.trips) (k0_t5 : Fin (k0_t5_loop k0_t3).trips) : Fin 1 → Nat :=
  let c0_i32_51 : BitVec 32 := 0#32
  let c1_i32_53 : BitVec 32 := 1#32
  let arg23 : BitVec 32 := Scf.iv c0_i32_51 c1_i32_53 k0_t3
  let c32_i32 : BitVec 32 := 32#32
  let v166 : BitVec 32 := Scalar.muli arg23 c32_i32
  let c32_i32_87 : BitVec 32 := 32#32
  let v184 : BitVec 32 := Scalar.addi v166 c32_i32_87
  let v189 : BitVec 32 := Scalar.subi v184 v166
  let c1_i32_90 : BitVec 32 := 1#32
  let v191 : BitVec 32 := Scalar.divsi v189 c1_i32_90
  let v192 : BitVec 32 := Scalar.muli v191 c1_i32_90
  let v193 : BitVec 32 := Scalar.addi v166 v192
  let c1_i32_92 : BitVec 32 := 1#32
  let arg26 : BitVec 32 := Scf.iv v193 c1_i32_92 k0_t5
  let v202 : Index := Scalar.indexCast arg26
  ![v202.toNat]
def k0_off15 (k0_t3 : Fin k0_t3_loop.trips) (k0_t5 : Fin (k0_t5_loop k0_t3).trips) : Fin 2 → Nat :=
  let c0_i32_51 : BitVec 32 := 0#32
  let c1_i32_53 : BitVec 32 := 1#32
  let arg23 : BitVec 32 := Scf.iv c0_i32_51 c1_i32_53 k0_t3
  let c32_i32 : BitVec 32 := 32#32
  let v166 : BitVec 32 := Scalar.muli arg23 c32_i32
  let c32_i32_87 : BitVec 32 := 32#32
  let v184 : BitVec 32 := Scalar.addi v166 c32_i32_87
  let v189 : BitVec 32 := Scalar.subi v184 v166
  let c1_i32_90 : BitVec 32 := 1#32
  let v191 : BitVec 32 := Scalar.divsi v189 c1_i32_90
  let v192 : BitVec 32 := Scalar.muli v191 c1_i32_90
  let v193 : BitVec 32 := Scalar.addi v166 v192
  let c1_i32_92 : BitVec 32 := 1#32
  let arg26 : BitVec 32 := Scf.iv v193 c1_i32_92 k0_t5
  let v207 : Index := Scalar.indexCast arg26
  let c0_95 : Index := 0#32
  ![v207.toNat, 0]
def k0_off16 (arg27 : BitVec 32) : Fin 1 → Nat :=
  let c1_i32_96 : BitVec 32 := 1#32
  let v210 : BitVec 32 := Scalar.addi arg27 c1_i32_96
  let c16_i32_97 : BitVec 32 := 16#32
  let v211 : BitVec 32 := Scalar.muli v210 c16_i32_97
  let v212 : Index := Scalar.indexCast v211
  ![v212.toNat]

def k0_chk2 (k0_t3 : Fin k0_t3_loop.trips) (arg24 : BitVec 32) (v171 : BitVec 32) (v177 : BitVec 32) (k0_t5 : Fin (k0_t5_loop k0_t3).trips) (arg27 : BitVec 32) : Prop :=
  (∀ (k0_h1 : ¬(k0_cond1 arg24 v171 v177 = 1#1)), ∀ a, (k0_off16 arg27) a + S16.size a ≤ S8208.size a)
theorem k0_off16_inb : ∀ (k0_t3 : Fin k0_t3_loop.trips) (arg24 : BitVec 32) (v171 : BitVec 32) (v177 : BitVec 32) (k0_t5 : Fin (k0_t5_loop k0_t3).trips) (arg27 : BitVec 32) (k0_hw2 : k0_chk2 k0_t3 arg24 v171 v177 k0_t5 arg27), ∀ (k0_h1 : ¬(k0_cond1 arg24 v171 v177 = 1#1)), ∀ a, (k0_off16 arg27) a + S16.size a ≤ S8208.size a := fun k0_t3 arg24 v171 v177 k0_t5 arg27 k0_hw2 k0_h1 => k0_hw2 k0_h1

@[reducible] def k0_t6_loop : Scf.Loop 32 :=
  let c992_i32_57 : BitVec 32 := 992#32
  let c8_i32_58 : BitVec 32 := 8#32
  let v122 : BitVec 32 := Scalar.addi c992_i32_57 c8_i32_58
  let c1_i32_59 : BitVec 32 := 1#32
  ⟨c992_i32_57, v122, c1_i32_59⟩
def k0_off17 (k0_t6 : Fin k0_t6_loop.trips) : Fin 1 → Nat :=
  let c992_i32_57 : BitVec 32 := 992#32
  let c1_i32_59 : BitVec 32 := 1#32
  let arg23 : BitVec 32 := Scf.iv c992_i32_57 c1_i32_59 k0_t6
  let v166 : Index := Scalar.indexCast arg23
  ![v166.toNat]
def k0_off18 (k0_t6 : Fin k0_t6_loop.trips) : Fin 2 → Nat :=
  let c992_i32_57 : BitVec 32 := 992#32
  let c1_i32_59 : BitVec 32 := 1#32
  let arg23 : BitVec 32 := Scf.iv c992_i32_57 c1_i32_59 k0_t6
  let v171 : Index := Scalar.indexCast arg23
  let c0_85 : Index := 0#32
  ![v171.toNat, 0]
def k0_off19 (arg24 : BitVec 32) : Fin 1 → Nat :=
  let c1_i32_86 : BitVec 32 := 1#32
  let v174 : BitVec 32 := Scalar.addi arg24 c1_i32_86
  let c16_i32_87 : BitVec 32 := 16#32
  let v175 : BitVec 32 := Scalar.muli v174 c16_i32_87
  let v176 : Index := Scalar.indexCast v175
  ![v176.toNat]

def k0_chk3 (arg24 : BitVec 32) : Prop :=
  (∀ a, (k0_off19 arg24) a + S16.size a ≤ S8208.size a)
theorem k0_off19_inb : ∀ (arg24 : BitVec 32) (k0_hw3 : k0_chk3 arg24), ∀ a, (k0_off19 arg24) a + S16.size a ≤ S8208.size a := fun arg24 k0_hw3 => k0_hw3

@[reducible] def k0_t7_loop : Scf.Loop 32 :=
  let c0_i32_73 : BitVec 32 := 0#32
  let c31_i32_74 : BitVec 32 := 31#32
  let v152 : BitVec 32 := Scalar.addi c0_i32_73 c31_i32_74
  let c1_i32_75 : BitVec 32 := 1#32
  ⟨c0_i32_73, v152, c1_i32_75⟩
def k0_off20 (k0_t7 : Fin k0_t7_loop.trips) : Fin 1 → Nat :=
  let c0_i32_73 : BitVec 32 := 0#32
  let c1_i32_75 : BitVec 32 := 1#32
  let arg23 : BitVec 32 := Scf.iv c0_i32_73 c1_i32_75 k0_t7
  let c32_i32 : BitVec 32 := 32#32
  let v166 : BitVec 32 := Scalar.muli arg23 c32_i32
  let v167 : Index := Scalar.indexCast v166
  ![v167.toNat]
def k0_off21 (k0_t7 : Fin k0_t7_loop.trips) : Fin 1 → Nat :=
  let c0_i32_73 : BitVec 32 := 0#32
  let c1_i32_75 : BitVec 32 := 1#32
  let arg23 : BitVec 32 := Scf.iv c0_i32_73 c1_i32_75 k0_t7
  let c32_i32 : BitVec 32 := 32#32
  let v166 : BitVec 32 := Scalar.muli arg23 c32_i32
  let c16_i32_85 : BitVec 32 := 16#32
  let v172 : BitVec 32 := Scalar.addi v166 c16_i32_85
  let v173 : Index := Scalar.indexCast v172
  ![v173.toNat]
def k0_off22 (k0_t7 : Fin k0_t7_loop.trips) (c0_i32_89 : BitVec 32) : Fin 2 → Nat :=
  let c0_i32_73 : BitVec 32 := 0#32
  let c1_i32_75 : BitVec 32 := 1#32
  let arg23 : BitVec 32 := Scf.iv c0_i32_73 c1_i32_75 k0_t7
  let c32_i32 : BitVec 32 := 32#32
  let v166 : BitVec 32 := Scalar.muli arg23 c32_i32
  let v188 : BitVec 32 := Scalar.addi v166 c0_i32_89
  let v189 : Index := Scalar.indexCast v188
  let c0_90 : Index := 0#32
  ![v189.toNat, 0]
@[reducible] def k0_t8_loop (k0_t7 : Fin k0_t7_loop.trips) : Scf.Loop 32 :=
  let c0_i32_73 : BitVec 32 := 0#32
  let c1_i32_75 : BitVec 32 := 1#32
  let arg23 : BitVec 32 := Scf.iv c0_i32_73 c1_i32_75 k0_t7
  let c32_i32 : BitVec 32 := 32#32
  let v166 : BitVec 32 := Scalar.muli arg23 c32_i32
  let c32_i32_87 : BitVec 32 := 32#32
  let v184 : BitVec 32 := Scalar.addi v166 c32_i32_87
  let v189 : BitVec 32 := Scalar.subi v184 v166
  let c1_i32_90 : BitVec 32 := 1#32
  let v191 : BitVec 32 := Scalar.divsi v189 c1_i32_90
  let v192 : BitVec 32 := Scalar.muli v191 c1_i32_90
  let v193 : BitVec 32 := Scalar.addi v166 v192
  let c1_i32_91 : BitVec 32 := 1#32
  ⟨v166, v193, c1_i32_91⟩
def k0_off23 (k0_t7 : Fin k0_t7_loop.trips) (k0_t8 : Fin (k0_t8_loop k0_t7).trips) : Fin 1 → Nat :=
  let c0_i32_73 : BitVec 32 := 0#32
  let c1_i32_75 : BitVec 32 := 1#32
  let arg23 : BitVec 32 := Scf.iv c0_i32_73 c1_i32_75 k0_t7
  let c32_i32 : BitVec 32 := 32#32
  let v166 : BitVec 32 := Scalar.muli arg23 c32_i32
  let c1_i32_91 : BitVec 32 := 1#32
  let arg26 : BitVec 32 := Scf.iv v166 c1_i32_91 k0_t8
  let v202 : Index := Scalar.indexCast arg26
  ![v202.toNat]
def k0_off24 (k0_t7 : Fin k0_t7_loop.trips) (k0_t8 : Fin (k0_t8_loop k0_t7).trips) : Fin 2 → Nat :=
  let c0_i32_73 : BitVec 32 := 0#32
  let c1_i32_75 : BitVec 32 := 1#32
  let arg23 : BitVec 32 := Scf.iv c0_i32_73 c1_i32_75 k0_t7
  let c32_i32 : BitVec 32 := 32#32
  let v166 : BitVec 32 := Scalar.muli arg23 c32_i32
  let c1_i32_91 : BitVec 32 := 1#32
  let arg26 : BitVec 32 := Scf.iv v166 c1_i32_91 k0_t8
  let v207 : Index := Scalar.indexCast arg26
  let c0_95 : Index := 0#32
  ![v207.toNat, 0]
def k0_off25 (arg27 : BitVec 32) : Fin 1 → Nat :=
  let c1_i32_96 : BitVec 32 := 1#32
  let v210 : BitVec 32 := Scalar.addi arg27 c1_i32_96
  let c16_i32_97 : BitVec 32 := 16#32
  let v211 : BitVec 32 := Scalar.muli v210 c16_i32_97
  let v212 : Index := Scalar.indexCast v211
  ![v212.toNat]
def k0_cond2 (arg24 : BitVec 32) (v171 : BitVec 32) (v177 : BitVec 32) : BitVec 1 :=
  let v178 : BitVec 1 := Scalar.cmpi .eq v171 arg24
  let v179 : BitVec 1 := Scalar.cmpi .eq v177 arg24
  let v180 : BitVec 1 := Scalar.andi v178 v179
  let v181 : BitVec 32 := Scalar.extui v180
  let c0_i32_86 : BitVec 32 := 0#32
  let v182 : BitVec 1 := Scalar.cmpi .ne v181 c0_i32_86
  v182

def k0_chk4 (arg24 : BitVec 32) (v171 : BitVec 32) (v177 : BitVec 32) (arg27 : BitVec 32) : Prop :=
  (∀ (k0_h2 : ¬(k0_cond2 arg24 v171 v177 = 1#1)), ∀ a, (k0_off25 arg27) a + S16.size a ≤ S8208.size a)
theorem k0_off25_inb : ∀ (arg24 : BitVec 32) (v171 : BitVec 32) (v177 : BitVec 32) (arg27 : BitVec 32) (k0_hw4 : k0_chk4 arg24 v171 v177 arg27), ∀ (k0_h2 : ¬(k0_cond2 arg24 v171 v177 = 1#1)), ∀ a, (k0_off25 arg27) a + S16.size a ≤ S8208.size a := fun arg24 v171 v177 arg27 k0_hw4 k0_h2 => k0_hw4 k0_h2

@[reducible] def k0_t9_loop (k0_t7 : Fin k0_t7_loop.trips) : Scf.Loop 32 :=
  let c0_i32_73 : BitVec 32 := 0#32
  let c1_i32_75 : BitVec 32 := 1#32
  let arg23 : BitVec 32 := Scf.iv c0_i32_73 c1_i32_75 k0_t7
  let c32_i32 : BitVec 32 := 32#32
  let v166 : BitVec 32 := Scalar.muli arg23 c32_i32
  let c32_i32_87 : BitVec 32 := 32#32
  let v184 : BitVec 32 := Scalar.addi v166 c32_i32_87
  let v189 : BitVec 32 := Scalar.subi v184 v166
  let c1_i32_90 : BitVec 32 := 1#32
  let v191 : BitVec 32 := Scalar.divsi v189 c1_i32_90
  let v192 : BitVec 32 := Scalar.muli v191 c1_i32_90
  let v193 : BitVec 32 := Scalar.addi v166 v192
  let v190 : BitVec 32 := Scalar.addi v166 v189
  let c1_i32_92 : BitVec 32 := 1#32
  ⟨v193, v190, c1_i32_92⟩
def k0_off26 (k0_t7 : Fin k0_t7_loop.trips) (k0_t9 : Fin (k0_t9_loop k0_t7).trips) : Fin 1 → Nat :=
  let c0_i32_73 : BitVec 32 := 0#32
  let c1_i32_75 : BitVec 32 := 1#32
  let arg23 : BitVec 32 := Scf.iv c0_i32_73 c1_i32_75 k0_t7
  let c32_i32 : BitVec 32 := 32#32
  let v166 : BitVec 32 := Scalar.muli arg23 c32_i32
  let c32_i32_87 : BitVec 32 := 32#32
  let v184 : BitVec 32 := Scalar.addi v166 c32_i32_87
  let v189 : BitVec 32 := Scalar.subi v184 v166
  let c1_i32_90 : BitVec 32 := 1#32
  let v191 : BitVec 32 := Scalar.divsi v189 c1_i32_90
  let v192 : BitVec 32 := Scalar.muli v191 c1_i32_90
  let v193 : BitVec 32 := Scalar.addi v166 v192
  let c1_i32_92 : BitVec 32 := 1#32
  let arg26 : BitVec 32 := Scf.iv v193 c1_i32_92 k0_t9
  let v202 : Index := Scalar.indexCast arg26
  ![v202.toNat]
def k0_off27 (k0_t7 : Fin k0_t7_loop.trips) (k0_t9 : Fin (k0_t9_loop k0_t7).trips) : Fin 2 → Nat :=
  let c0_i32_73 : BitVec 32 := 0#32
  let c1_i32_75 : BitVec 32 := 1#32
  let arg23 : BitVec 32 := Scf.iv c0_i32_73 c1_i32_75 k0_t7
  let c32_i32 : BitVec 32 := 32#32
  let v166 : BitVec 32 := Scalar.muli arg23 c32_i32
  let c32_i32_87 : BitVec 32 := 32#32
  let v184 : BitVec 32 := Scalar.addi v166 c32_i32_87
  let v189 : BitVec 32 := Scalar.subi v184 v166
  let c1_i32_90 : BitVec 32 := 1#32
  let v191 : BitVec 32 := Scalar.divsi v189 c1_i32_90
  let v192 : BitVec 32 := Scalar.muli v191 c1_i32_90
  let v193 : BitVec 32 := Scalar.addi v166 v192
  let c1_i32_92 : BitVec 32 := 1#32
  let arg26 : BitVec 32 := Scf.iv v193 c1_i32_92 k0_t9
  let v207 : Index := Scalar.indexCast arg26
  let c0_95 : Index := 0#32
  ![v207.toNat, 0]
def k0_off28 (arg27 : BitVec 32) : Fin 1 → Nat :=
  let c1_i32_96 : BitVec 32 := 1#32
  let v210 : BitVec 32 := Scalar.addi arg27 c1_i32_96
  let c16_i32_97 : BitVec 32 := 16#32
  let v211 : BitVec 32 := Scalar.muli v210 c16_i32_97
  let v212 : Index := Scalar.indexCast v211
  ![v212.toNat]

def k0_chk5 (k0_t7 : Fin k0_t7_loop.trips) (arg24 : BitVec 32) (v171 : BitVec 32) (v177 : BitVec 32) (k0_t9 : Fin (k0_t9_loop k0_t7).trips) (arg27 : BitVec 32) : Prop :=
  (∀ (k0_h2 : ¬(k0_cond2 arg24 v171 v177 = 1#1)), ∀ a, (k0_off28 arg27) a + S16.size a ≤ S8208.size a)
theorem k0_off28_inb : ∀ (k0_t7 : Fin k0_t7_loop.trips) (arg24 : BitVec 32) (v171 : BitVec 32) (v177 : BitVec 32) (k0_t9 : Fin (k0_t9_loop k0_t7).trips) (arg27 : BitVec 32) (k0_hw5 : k0_chk5 k0_t7 arg24 v171 v177 k0_t9 arg27), ∀ (k0_h2 : ¬(k0_cond2 arg24 v171 v177 = 1#1)), ∀ a, (k0_off28 arg27) a + S16.size a ≤ S8208.size a := fun k0_t7 arg24 v171 v177 k0_t9 arg27 k0_hw5 k0_h2 => k0_hw5 k0_h2

@[reducible] def k0_t10_loop : Scf.Loop 32 :=
  let c992_i32_79 : BitVec 32 := 992#32
  let c8_i32_80 : BitVec 32 := 8#32
  let v158 : BitVec 32 := Scalar.addi c992_i32_79 c8_i32_80
  let c1_i32_81 : BitVec 32 := 1#32
  ⟨c992_i32_79, v158, c1_i32_81⟩
def k0_off29 (k0_t10 : Fin k0_t10_loop.trips) : Fin 1 → Nat :=
  let c992_i32_79 : BitVec 32 := 992#32
  let c1_i32_81 : BitVec 32 := 1#32
  let arg23 : BitVec 32 := Scf.iv c992_i32_79 c1_i32_81 k0_t10
  let v166 : Index := Scalar.indexCast arg23
  ![v166.toNat]
def k0_off30 (k0_t10 : Fin k0_t10_loop.trips) : Fin 2 → Nat :=
  let c992_i32_79 : BitVec 32 := 992#32
  let c1_i32_81 : BitVec 32 := 1#32
  let arg23 : BitVec 32 := Scf.iv c992_i32_79 c1_i32_81 k0_t10
  let v171 : Index := Scalar.indexCast arg23
  let c0_85 : Index := 0#32
  ![v171.toNat, 0]
def k0_off31 (arg24 : BitVec 32) : Fin 1 → Nat :=
  let c1_i32_86 : BitVec 32 := 1#32
  let v174 : BitVec 32 := Scalar.addi arg24 c1_i32_86
  let c16_i32_87 : BitVec 32 := 16#32
  let v175 : BitVec 32 := Scalar.muli v174 c16_i32_87
  let v176 : Index := Scalar.indexCast v175
  ![v176.toNat]

def k0_chk6 (arg24 : BitVec 32) : Prop :=
  (∀ a, (k0_off31 arg24) a + S16.size a ≤ S8208.size a)
theorem k0_off31_inb : ∀ (arg24 : BitVec 32) (k0_hw6 : k0_chk6 arg24), ∀ a, (k0_off31 arg24) a + S16.size a ≤ S8208.size a := fun arg24 k0_hw6 => k0_hw6

@[reducible] def k0_t11_loop : Scf.Loop 32 :=
  let c0_i32_28 : BitVec 32 := 0#32
  let c31_i32 : BitVec 32 := 31#32
  let v59 : BitVec 32 := Scalar.addi c0_i32_28 c31_i32
  let c1_i32_29 : BitVec 32 := 1#32
  ⟨c0_i32_28, v59, c1_i32_29⟩
def k0_off32 (k0_t11 : Fin k0_t11_loop.trips) : Fin 1 → Nat :=
  let c0_i32_28 : BitVec 32 := 0#32
  let c1_i32_29 : BitVec 32 := 1#32
  let arg20 : BitVec 32 := Scf.iv c0_i32_28 c1_i32_29 k0_t11
  let c32_i32 : BitVec 32 := 32#32
  let v94 : BitVec 32 := Scalar.muli arg20 c32_i32
  let v95 : Index := Scalar.indexCast v94
  ![v95.toNat]
def k0_off33 (k0_t11 : Fin k0_t11_loop.trips) : Fin 1 → Nat :=
  let c0_i32_28 : BitVec 32 := 0#32
  let c1_i32_29 : BitVec 32 := 1#32
  let arg20 : BitVec 32 := Scf.iv c0_i32_28 c1_i32_29 k0_t11
  let c32_i32 : BitVec 32 := 32#32
  let v94 : BitVec 32 := Scalar.muli arg20 c32_i32
  let c16_i32_43 : BitVec 32 := 16#32
  let v100 : BitVec 32 := Scalar.addi v94 c16_i32_43
  let v101 : Index := Scalar.indexCast v100
  ![v101.toNat]
def k0_off34 (k0_t11 : Fin k0_t11_loop.trips) (c0_i32_47 : BitVec 32) : Fin 2 → Nat :=
  let c0_i32_28 : BitVec 32 := 0#32
  let c1_i32_29 : BitVec 32 := 1#32
  let arg20 : BitVec 32 := Scf.iv c0_i32_28 c1_i32_29 k0_t11
  let c32_i32 : BitVec 32 := 32#32
  let v94 : BitVec 32 := Scalar.muli arg20 c32_i32
  let v116 : BitVec 32 := Scalar.addi v94 c0_i32_47
  let v117 : Index := Scalar.indexCast v116
  let c0_48 : Index := 0#32
  ![v117.toNat, 0]
@[reducible] def k0_t12_loop (k0_t11 : Fin k0_t11_loop.trips) : Scf.Loop 32 :=
  let c0_i32_28 : BitVec 32 := 0#32
  let c1_i32_29 : BitVec 32 := 1#32
  let arg20 : BitVec 32 := Scf.iv c0_i32_28 c1_i32_29 k0_t11
  let c32_i32 : BitVec 32 := 32#32
  let v94 : BitVec 32 := Scalar.muli arg20 c32_i32
  let c32_i32_45 : BitVec 32 := 32#32
  let v112 : BitVec 32 := Scalar.addi v94 c32_i32_45
  let v117 : BitVec 32 := Scalar.subi v112 v94
  let c1_i32_48 : BitVec 32 := 1#32
  let v119 : BitVec 32 := Scalar.divsi v117 c1_i32_48
  let v120 : BitVec 32 := Scalar.muli v119 c1_i32_48
  let v121 : BitVec 32 := Scalar.addi v94 v120
  let c1_i32_49 : BitVec 32 := 1#32
  ⟨v94, v121, c1_i32_49⟩
def k0_off35 (k0_t11 : Fin k0_t11_loop.trips) (k0_t12 : Fin (k0_t12_loop k0_t11).trips) : Fin 1 → Nat :=
  let c0_i32_28 : BitVec 32 := 0#32
  let c1_i32_29 : BitVec 32 := 1#32
  let arg20 : BitVec 32 := Scf.iv c0_i32_28 c1_i32_29 k0_t11
  let c32_i32 : BitVec 32 := 32#32
  let v94 : BitVec 32 := Scalar.muli arg20 c32_i32
  let c1_i32_49 : BitVec 32 := 1#32
  let arg23 : BitVec 32 := Scf.iv v94 c1_i32_49 k0_t12
  let v130 : Index := Scalar.indexCast arg23
  ![v130.toNat]
def k0_off36 (k0_t11 : Fin k0_t11_loop.trips) (k0_t12 : Fin (k0_t12_loop k0_t11).trips) : Fin 2 → Nat :=
  let c0_i32_28 : BitVec 32 := 0#32
  let c1_i32_29 : BitVec 32 := 1#32
  let arg20 : BitVec 32 := Scf.iv c0_i32_28 c1_i32_29 k0_t11
  let c32_i32 : BitVec 32 := 32#32
  let v94 : BitVec 32 := Scalar.muli arg20 c32_i32
  let c1_i32_49 : BitVec 32 := 1#32
  let arg23 : BitVec 32 := Scf.iv v94 c1_i32_49 k0_t12
  let v135 : Index := Scalar.indexCast arg23
  let c0_53 : Index := 0#32
  ![v135.toNat, 0]
def k0_off37 (arg24 : BitVec 32) : Fin 1 → Nat :=
  let c1_i32_54 : BitVec 32 := 1#32
  let v138 : BitVec 32 := Scalar.addi arg24 c1_i32_54
  let c16_i32_55 : BitVec 32 := 16#32
  let v139 : BitVec 32 := Scalar.muli v138 c16_i32_55
  let v140 : Index := Scalar.indexCast v139
  ![v140.toNat]
def k0_cond3 (arg21 : BitVec 32) (v99 : BitVec 32) (v105 : BitVec 32) : BitVec 1 :=
  let v106 : BitVec 1 := Scalar.cmpi .eq v99 arg21
  let v107 : BitVec 1 := Scalar.cmpi .eq v105 arg21
  let v108 : BitVec 1 := Scalar.andi v106 v107
  let v109 : BitVec 32 := Scalar.extui v108
  let c0_i32_44 : BitVec 32 := 0#32
  let v110 : BitVec 1 := Scalar.cmpi .ne v109 c0_i32_44
  v110

def k0_chk7 (arg21 : BitVec 32) (v99 : BitVec 32) (v105 : BitVec 32) (arg24 : BitVec 32) : Prop :=
  (∀ (k0_h3 : ¬(k0_cond3 arg21 v99 v105 = 1#1)), ∀ a, (k0_off37 arg24) a + S16.size a ≤ S8208.size a)
theorem k0_off37_inb : ∀ (arg21 : BitVec 32) (v99 : BitVec 32) (v105 : BitVec 32) (arg24 : BitVec 32) (k0_hw7 : k0_chk7 arg21 v99 v105 arg24), ∀ (k0_h3 : ¬(k0_cond3 arg21 v99 v105 = 1#1)), ∀ a, (k0_off37 arg24) a + S16.size a ≤ S8208.size a := fun arg21 v99 v105 arg24 k0_hw7 k0_h3 => k0_hw7 k0_h3

@[reducible] def k0_t13_loop (k0_t11 : Fin k0_t11_loop.trips) : Scf.Loop 32 :=
  let c0_i32_28 : BitVec 32 := 0#32
  let c1_i32_29 : BitVec 32 := 1#32
  let arg20 : BitVec 32 := Scf.iv c0_i32_28 c1_i32_29 k0_t11
  let c32_i32 : BitVec 32 := 32#32
  let v94 : BitVec 32 := Scalar.muli arg20 c32_i32
  let c32_i32_45 : BitVec 32 := 32#32
  let v112 : BitVec 32 := Scalar.addi v94 c32_i32_45
  let v117 : BitVec 32 := Scalar.subi v112 v94
  let c1_i32_48 : BitVec 32 := 1#32
  let v119 : BitVec 32 := Scalar.divsi v117 c1_i32_48
  let v120 : BitVec 32 := Scalar.muli v119 c1_i32_48
  let v121 : BitVec 32 := Scalar.addi v94 v120
  let v118 : BitVec 32 := Scalar.addi v94 v117
  let c1_i32_50 : BitVec 32 := 1#32
  ⟨v121, v118, c1_i32_50⟩
def k0_off38 (k0_t11 : Fin k0_t11_loop.trips) (k0_t13 : Fin (k0_t13_loop k0_t11).trips) : Fin 1 → Nat :=
  let c0_i32_28 : BitVec 32 := 0#32
  let c1_i32_29 : BitVec 32 := 1#32
  let arg20 : BitVec 32 := Scf.iv c0_i32_28 c1_i32_29 k0_t11
  let c32_i32 : BitVec 32 := 32#32
  let v94 : BitVec 32 := Scalar.muli arg20 c32_i32
  let c32_i32_45 : BitVec 32 := 32#32
  let v112 : BitVec 32 := Scalar.addi v94 c32_i32_45
  let v117 : BitVec 32 := Scalar.subi v112 v94
  let c1_i32_48 : BitVec 32 := 1#32
  let v119 : BitVec 32 := Scalar.divsi v117 c1_i32_48
  let v120 : BitVec 32 := Scalar.muli v119 c1_i32_48
  let v121 : BitVec 32 := Scalar.addi v94 v120
  let c1_i32_50 : BitVec 32 := 1#32
  let arg23 : BitVec 32 := Scf.iv v121 c1_i32_50 k0_t13
  let v130 : Index := Scalar.indexCast arg23
  ![v130.toNat]
def k0_off39 (k0_t11 : Fin k0_t11_loop.trips) (k0_t13 : Fin (k0_t13_loop k0_t11).trips) : Fin 2 → Nat :=
  let c0_i32_28 : BitVec 32 := 0#32
  let c1_i32_29 : BitVec 32 := 1#32
  let arg20 : BitVec 32 := Scf.iv c0_i32_28 c1_i32_29 k0_t11
  let c32_i32 : BitVec 32 := 32#32
  let v94 : BitVec 32 := Scalar.muli arg20 c32_i32
  let c32_i32_45 : BitVec 32 := 32#32
  let v112 : BitVec 32 := Scalar.addi v94 c32_i32_45
  let v117 : BitVec 32 := Scalar.subi v112 v94
  let c1_i32_48 : BitVec 32 := 1#32
  let v119 : BitVec 32 := Scalar.divsi v117 c1_i32_48
  let v120 : BitVec 32 := Scalar.muli v119 c1_i32_48
  let v121 : BitVec 32 := Scalar.addi v94 v120
  let c1_i32_50 : BitVec 32 := 1#32
  let arg23 : BitVec 32 := Scf.iv v121 c1_i32_50 k0_t13
  let v135 : Index := Scalar.indexCast arg23
  let c0_53 : Index := 0#32
  ![v135.toNat, 0]
def k0_off40 (arg24 : BitVec 32) : Fin 1 → Nat :=
  let c1_i32_54 : BitVec 32 := 1#32
  let v138 : BitVec 32 := Scalar.addi arg24 c1_i32_54
  let c16_i32_55 : BitVec 32 := 16#32
  let v139 : BitVec 32 := Scalar.muli v138 c16_i32_55
  let v140 : Index := Scalar.indexCast v139
  ![v140.toNat]

def k0_chk8 (k0_t11 : Fin k0_t11_loop.trips) (arg21 : BitVec 32) (v99 : BitVec 32) (v105 : BitVec 32) (k0_t13 : Fin (k0_t13_loop k0_t11).trips) (arg24 : BitVec 32) : Prop :=
  (∀ (k0_h3 : ¬(k0_cond3 arg21 v99 v105 = 1#1)), ∀ a, (k0_off40 arg24) a + S16.size a ≤ S8208.size a)
theorem k0_off40_inb : ∀ (k0_t11 : Fin k0_t11_loop.trips) (arg21 : BitVec 32) (v99 : BitVec 32) (v105 : BitVec 32) (k0_t13 : Fin (k0_t13_loop k0_t11).trips) (arg24 : BitVec 32) (k0_hw8 : k0_chk8 k0_t11 arg21 v99 v105 k0_t13 arg24), ∀ (k0_h3 : ¬(k0_cond3 arg21 v99 v105 = 1#1)), ∀ a, (k0_off40 arg24) a + S16.size a ≤ S8208.size a := fun k0_t11 arg21 v99 v105 k0_t13 arg24 k0_hw8 k0_h3 => k0_hw8 k0_h3

@[reducible] def k0_t14_loop : Scf.Loop 32 :=
  let c992_i32 : BitVec 32 := 992#32
  let c8_i32_33 : BitVec 32 := 8#32
  let v65 : BitVec 32 := Scalar.addi c992_i32 c8_i32_33
  let c1_i32_34 : BitVec 32 := 1#32
  ⟨c992_i32, v65, c1_i32_34⟩
def k0_off41 (k0_t14 : Fin k0_t14_loop.trips) : Fin 1 → Nat :=
  let c992_i32 : BitVec 32 := 992#32
  let c1_i32_34 : BitVec 32 := 1#32
  let arg20 : BitVec 32 := Scf.iv c992_i32 c1_i32_34 k0_t14
  let v94 : Index := Scalar.indexCast arg20
  ![v94.toNat]
def k0_off42 (k0_t14 : Fin k0_t14_loop.trips) : Fin 2 → Nat :=
  let c992_i32 : BitVec 32 := 992#32
  let c1_i32_34 : BitVec 32 := 1#32
  let arg20 : BitVec 32 := Scf.iv c992_i32 c1_i32_34 k0_t14
  let v99 : Index := Scalar.indexCast arg20
  let c0_43 : Index := 0#32
  ![v99.toNat, 0]
def k0_off43 (arg21 : BitVec 32) : Fin 1 → Nat :=
  let c1_i32_44 : BitVec 32 := 1#32
  let v102 : BitVec 32 := Scalar.addi arg21 c1_i32_44
  let c16_i32_45 : BitVec 32 := 16#32
  let v103 : BitVec 32 := Scalar.muli v102 c16_i32_45
  let v104 : Index := Scalar.indexCast v103
  ![v104.toNat]

def k0_chk9 (arg21 : BitVec 32) : Prop :=
  (∀ a, (k0_off43 arg21) a + S16.size a ≤ S8208.size a)
theorem k0_off43_inb : ∀ (arg21 : BitVec 32) (k0_hw9 : k0_chk9 arg21), ∀ a, (k0_off43 arg21) a + S16.size a ≤ S8208.size a := fun arg21 k0_hw9 => k0_hw9

def k0_off44 (v66_0 : BitVec 32) : Fin 1 → Nat :=
  let c1_i32_38 : BitVec 32 := 1#32
  let v73 : BitVec 32 := Scalar.addi v66_0 c1_i32_38
  let c16_i32_39 : BitVec 32 := 16#32
  let v74 : BitVec 32 := Scalar.muli v73 c16_i32_39
  let v77 : Index := Scalar.indexCast v74
  ![v77.toNat]

def k0_chk10 (v66_0 : BitVec 32) : Prop :=
  (∀ a, (k0_off44 v66_0) a + S16.size a ≤ S8208.size a)
theorem k0_off44_inb : ∀ (v66_0 : BitVec 32) (k0_hw10 : k0_chk10 v66_0), ∀ a, (k0_off44 v66_0) a + S16.size a ≤ S8208.size a := fun v66_0 k0_hw10 => k0_hw10

def k0_off45 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_44_r0 : BitVec 32 := 0#32
  ![v1.toNat, 0]
abbrev grid1 : Pipeline.Grid := ⟨2, ![2, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c8_i32 : BitVec 32 := 8#32
  let v1 : BitVec 1 := Scalar.cmpi .slt arg1 c8_i32
  let v2 : BitVec 1 := Scalar.andi v0 v1
  let v3 : BitVec 32 := Scalar.extui v2
  let c0_i32_0 : BitVec 32 := 0#32
  let v4 : BitVec 1 := Scalar.cmpi .ne v3 c0_i32_0
  v4

def k1_off1 (i : grid1.Coords) : Fin 2 → Nat :=
  let arg1 : BitVec 32 := BitVec.ofNat 32 (i 1).val
  let c0_i32_20_r0 : BitVec 32 := 0#32
  ![arg1.toNat, 0]
def k1_off2 (i : grid1.Coords) (c8_i32_1 : BitVec 32) : Fin 2 → Nat :=
  let arg1 : BitVec 32 := BitVec.ofNat 32 (i 1).val
  let v5 : BitVec 32 := Scalar.addi c8_i32_1 arg1
  let c0_i32_20_r3 : BitVec 32 := 0#32
  ![v5.toNat, 0]
@[reducible] def k1_t1_loop : Scf.Loop 32 :=
  let c0_i32_3 : BitVec 32 := 0#32
  let c512_i32 : BitVec 32 := 512#32
  let v6 : BitVec 32 := Scalar.addi c0_i32_3 c512_i32
  let c1_i32 : BitVec 32 := 1#32
  ⟨c0_i32_3, v6, c1_i32⟩
def k1_off3 (k1_t1 : Fin k1_t1_loop.trips) : Fin 1 → Nat :=
  let c0_i32_3 : BitVec 32 := 0#32
  let c1_i32 : BitVec 32 := 1#32
  let arg13 : BitVec 32 := Scf.iv c0_i32_3 c1_i32 k1_t1
  let c16_i32_20 : BitVec 32 := 16#32
  let v16 : BitVec 32 := Scalar.muli arg13 c16_i32_20
  let v17 : Index := Scalar.indexCast v16
  ![v17.toNat]
@[reducible] def k1_t2_loop : Scf.Loop 32 :=
  let c0_i32_6 : BitVec 32 := 0#32
  let c512_i32_7 : BitVec 32 := 512#32
  let v9 : BitVec 32 := Scalar.addi c0_i32_6 c512_i32_7
  let c1_i32_8 : BitVec 32 := 1#32
  ⟨c0_i32_6, v9, c1_i32_8⟩
def k1_off4 (k1_t2 : Fin k1_t2_loop.trips) : Fin 1 → Nat :=
  let c0_i32_6 : BitVec 32 := 0#32
  let c1_i32_8 : BitVec 32 := 1#32
  let arg13 : BitVec 32 := Scf.iv c0_i32_6 c1_i32_8 k1_t2
  let c16_i32_20 : BitVec 32 := 16#32
  let v16 : BitVec 32 := Scalar.muli arg13 c16_i32_20
  let v17 : Index := Scalar.indexCast v16
  ![v17.toNat]
@[reducible] def k1_t3_loop : Scf.Loop 32 :=
  let c0_i32_11 : BitVec 32 := 0#32
  let c512_i32_12 : BitVec 32 := 512#32
  let v12 : BitVec 32 := Scalar.addi c0_i32_11 c512_i32_12
  let c1_i32_13 : BitVec 32 := 1#32
  ⟨c0_i32_11, v12, c1_i32_13⟩
def k1_off5 (k1_t3 : Fin k1_t3_loop.trips) : Fin 1 → Nat :=
  let c0_i32_11 : BitVec 32 := 0#32
  let c1_i32_13 : BitVec 32 := 1#32
  let arg13 : BitVec 32 := Scf.iv c0_i32_11 c1_i32_13 k1_t3
  let c16_i32_20 : BitVec 32 := 16#32
  let v16 : BitVec 32 := Scalar.muli arg13 c16_i32_20
  let v17 : Index := Scalar.indexCast v16
  ![v17.toNat]
@[reducible] def k1_t4_loop : Scf.Loop 32 :=
  let c0_i32_16 : BitVec 32 := 0#32
  let c512_i32_17 : BitVec 32 := 512#32
  let v14 : BitVec 32 := Scalar.addi c0_i32_16 c512_i32_17
  let c1_i32_18 : BitVec 32 := 1#32
  ⟨c0_i32_16, v14, c1_i32_18⟩
def k1_off6 (k1_t4 : Fin k1_t4_loop.trips) : Fin 1 → Nat :=
  let c0_i32_16 : BitVec 32 := 0#32
  let c1_i32_18 : BitVec 32 := 1#32
  let arg13 : BitVec 32 := Scf.iv c0_i32_16 c1_i32_18 k1_t4
  let c16_i32_20 : BitVec 32 := 16#32
  let v16 : BitVec 32 := Scalar.muli arg13 c16_i32_20
  let v17 : Index := Scalar.indexCast v16
  ![v17.toNat]
def k1_off7 (i : grid1.Coords) : Fin 2 → Nat :=
  let arg1 : BitVec 32 := BitVec.ofNat 32 (i 1).val
  let c0_i32_20_r12 : BitVec 32 := 0#32
  ![arg1.toNat, 0]
abbrev grid2 : Pipeline.Grid := .none

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S512x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S100000x128 : Shape := ⟨2, ![100000, 128]⟩
abbrev S100000 : Shape := ⟨1, ![100000]⟩
abbrev S256x128 : Shape := ⟨2, ![256, 128]⟩
abbrev S128 : Shape := ⟨1, ![128]⟩
abbrev S_ : Shape := ⟨0, ![]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x100000 : Shape := ⟨2, ![1, 100000]⟩
abbrev S512x100000 : Shape := ⟨2, ![512, 100000]⟩
abbrev S512x100000x1 : Shape := ⟨3, ![512, 100000, 1]⟩
abbrev S1x100000x128 : Shape := ⟨3, ![1, 100000, 128]⟩
abbrev S512x100000x128 : Shape := ⟨3, ![512, 100000, 128]⟩
abbrev S512x256 : Shape := ⟨2, ![512, 256]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S256x128, .f32⟩
  | .hbm, ⟨3, _⟩ => ⟨S128, .f32⟩
  | .hbm, ⟨4, _⟩ => ⟨S_, .f32⟩
  | .hbm, ⟨5, _⟩ => ⟨S512x128, .f32⟩
  | .hbm, ⟨6, _⟩ => ⟨S100000x1, .i32⟩
  | .hbm, ⟨7, _⟩ => ⟨S512x128, .f32⟩
  | .hbm, ⟨8, _⟩ => ⟨S_, .f32⟩
  | .hbm, ⟨9, _⟩ => ⟨S100000, .f32⟩
  | .hbm, ⟨10, _⟩ => ⟨S_, .f32⟩
  | .hbm, ⟨11, _⟩ => ⟨S512, .f32⟩
  | .hbm, ⟨12, _⟩ => ⟨S100000x1, .i32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512x1, .f32⟩
  | .hbm, ⟨18, _⟩ => ⟨S512x128, .f32⟩
  | .hbm, ⟨19, _⟩ => ⟨S512x128, .f32⟩
  | .hbm, ⟨20, _⟩ => ⟨S1x100000, .i32⟩
  | .hbm, ⟨21, _⟩ => ⟨S512, .i32⟩
  | .hbm, ⟨22, _⟩ => ⟨S512x1, .i32⟩
  | .hbm, ⟨23, _⟩ => ⟨S512x100000, .i32⟩
  | .hbm, ⟨24, _⟩ => ⟨S512x100000, .i32⟩
  | .hbm, ⟨25, _⟩ => ⟨S512x100000, .i1⟩
  | .hbm, ⟨26, _⟩ => ⟨S512x100000x1, .i1⟩
  | .hbm, ⟨27, _⟩ => ⟨S1x100000x128, .f32⟩
  | .hbm, ⟨28, _⟩ => ⟨S_, .f32⟩
  | .hbm, ⟨29, _⟩ => ⟨S_, .f32⟩
  | .hbm, ⟨30, _⟩ => ⟨S512x100000x128, .i1⟩
  | .hbm, ⟨31, _⟩ => ⟨S512x100000x128, .f32⟩
  | .hbm, ⟨32, _⟩ => ⟨S512x100000x128, .f32⟩
  | .hbm, ⟨33, _⟩ => ⟨S512x100000x128, .f32⟩
  | .hbm, ⟨34, _⟩ => ⟨S_, .f32⟩
  | .hbm, ⟨35, _⟩ => ⟨S512x128, .f32⟩
  | .hbm, ⟨36, _⟩ => ⟨S512x256, .f32⟩
  | .hbm, ⟨37, _⟩ => ⟨S512x128, .f32⟩
  | .hbm, ⟨38, _⟩ => ⟨S1x128, .f32⟩
  | .hbm, ⟨39, _⟩ => ⟨S512x128, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S_, .f32⟩
  | .hbm, ⟨44, _⟩ => ⟨S512x128, .f32⟩
  | .hbm, ⟨45, _⟩ => ⟨S512x128, .f32⟩
  | .hbm, ⟨46, _⟩ => ⟨S_, .f32⟩
  | .hbm, ⟨47, _⟩ => ⟨S512x128, .f32⟩
  | .hbm, ⟨48, _⟩ => ⟨S512x128, .f32⟩
  | .hbm, ⟨49, _⟩ => ⟨S512x128, .f32⟩
  | .hbm, ⟨50, _⟩ => ⟨S_, .f32⟩
  | .hbm, ⟨51, _⟩ => ⟨S512x128, .f32⟩
  | .hbm, ⟨52, _⟩ => ⟨S512x128, .f32⟩
  | .hbm, ⟨53, _⟩ => ⟨S512x128, .f32⟩
  | .hbm, ⟨54, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Proof.Common.lean ====
/-
  The program as the launch theorem sees it, the resource algebra, the arrays and the scratch buffers, and the
  names the other modules use for them.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Pipeline.RegionsLoop
public import Idealize.ShloMosaic.Lib.Tactic
public import Idealize.ShloMosaic.Lib.LoopRemainder
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores and the buffers of the program are as the launch theorem needs them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × (UR sig nD τ × Counters)

/-- The rounds of the launch handshakes inside the algebra. -/
abbrev EH : Emb UH (MT nD τ sig (HIx 2) (Elt F) ℕ UU ℕ) := embL

/-- The rounds of the TensorCore call's staging buffers inside the algebra. -/
abbrev EP : Emb (UR sig nD τ) (MT nD τ sig (HIx 2) (Elt F) ℕ UU ℕ) := (Emb.inl : Emb (UR sig nD τ) (UR sig nD τ × Counters)).trans embR

/-! ## The coordinates of a tile -/

abbrev cV (L : grid0.Coords) : Fin τ.nSC := (L 0).castLE hcore0
abbrev jV (L : grid0.Coords) : Fin τ.nSub := (L 1).castLE hsub0

abbrev M2 := Memref sig Kind.scVector Space.vmem S1000x16 EltTy.f32
abbrev M1 := Memref sig Kind.scVector Space.vmem S1016 EltTy.i32

end Cert.Proof
-- ==== Proof.Model.lean ====
/-
  What one tile computes, as a pure function of the rows it is given: the running state of the segment sums, and one
  row's, one block's and one chunk's step. Stated for any arithmetic `F`.
-/
module

public import proofs.«01_k».proof.Proof.Common

@[expose] public section

noncomputable section

namespace Cert.Proof

open Cert.KernelIdeal Cert.KernelIdeal.Gen
open Idealize.ShloMosaic

variable {F : FTy → Type} [FloatOps F]

/-- A vector of 16 lanes. -/
abbrev V16 (F : FTy → Type) : Type := FVec F S16 .f32
/-- An accumulator: 513 slots of 16 lanes. -/
abbrev Acc (F : FTy → Type) : Type := S8208.Idx → F .f32

/-- The index of entry `n` of a list of one axis. -/
abbrev ix16 (n : Fin 16) : S16.Idx := fun | 0 => n | ⟨_ + 1, h⟩ => absurd h (Nat.not_lt.2 (Nat.le_add_left _ _))

/-- The constant one. -/
def one1 : F .f32 := Scalar.ofBits .f32 0x3F800000#32

/-- The first entry of segment `c`'s slot; slot 0 belongs to `c = -1`. -/
def slot (c : BitVec 32) : ℕ := ((c + 1#32) * 16#32).toNat

/-- The accumulator `A` with its 16 entries from `o` on replaced by `p`. -/
def put (A : Acc F) (o : ℕ) (p : V16 F) : Acc F :=
  fun y => if h : o ≤ (y 0).val ∧ (y 0).val < o + 16 then p (ix16 ⟨(y 0).val - o, by omega⟩) else A y

/-- The running state: the current segment, its count, its sum and its maximum so far, and the three accumulators. -/
structure St (F : FTy → Type) where
  cur : BitVec 32
  cnt : F .f32
  sm : V16 F
  mx : V16 F
  As : Acc F
  Am : Acc F
  Ac : Acc F

/-- The state with the running sum, maximum and count written to the current segment's slots. -/
def flush (st : St F) : St F :=
  { st with
    As := put st.As (slot st.cur) st.sm
    Am := put st.Am (slot st.cur) st.mx
    Ac := put st.Ac (slot st.cur) (mulf (broadcast S16 one1) (broadcast S16 st.cnt)) }

/-- One row: the running values are written out, and then either restarted (a new segment) or extended. -/
def rowStep (b : BitVec 32) (x : V16 F) (st : St F) : St F :=
  { flush st with
    cur := b
    cnt := if b = st.cur then Scalar.addf st.cnt one1 else one1
    sm := if b = st.cur then addf st.sm x else x
    mx := if b = st.cur then maximumf st.mx x else x }

/-- `n` rows from row `o` on, one by one. -/
def rows (b : ℕ → BitVec 32) (x : ℕ → V16 F) (o : ℕ) : ℕ → St F → St F
  | 0, st => st
  | n + 1, st => rowStep (b (o + n)) (x (o + n)) (rows b x o n st)

/-- The sum of `n` rows from row `o` on added to `s`, in order. -/
def addRows (x : ℕ → V16 F) (o : ℕ) : ℕ → V16 F → V16 F
  | 0, s => s
  | n + 1, s => addf (addRows x o n s) (x (o + n))

/-- The maximum of `n` rows from row `o` on and `s`, in order. -/
def maxRows (x : ℕ → V16 F) (o : ℕ) : ℕ → V16 F → V16 F
  | 0, s => s
  | n + 1, s => maximumf (maxRows x o n s) (x (o + n))

/-- A block of 32 rows of the current segment, added at once. -/
def fastStep (x : ℕ → V16 F) (o : ℕ) (st : St F) : St F :=
  { st with
    cnt := Scalar.addf st.cnt (Scalar.ofBits .f32 0x42000000#32)
    sm := addRows x o 32 st.sm
    mx := maxRows x o 32 st.mx }

/-- One block of 32 rows: at once when its first and last row belong to the current segment, else row by row. -/
def blockStep (b : ℕ → BitVec 32) (x : ℕ → V16 F) (o : ℕ) (st : St F) : St F :=
  if b o = st.cur ∧ b (o + 31) = st.cur then fastStep x o st else rows b x o 32 st

/-- `n` blocks from row `o` on. -/
def blocks (b : ℕ → BitVec 32) (x : ℕ → V16 F) (o : ℕ) : ℕ → St F → St F
  | 0, st => st
  | n + 1, st => blockStep b x (o + 32 * n) (blocks b x o n st)

/-- A chunk of 1000 rows from row `o` on: 31 blocks, then 8 rows. -/
def chunkStep (b : ℕ → BitVec 32) (x : ℕ → V16 F) (o : ℕ) (st : St F) : St F :=
  rows b x (o + 992) 8 (blocks b x o 31 st)

/-- `n` chunks. -/
def chunks (b : ℕ → BitVec 32) (x : ℕ → V16 F) : ℕ → St F → St F
  | 0, st => st
  | n + 1, st => chunkStep b x (1000 * n) (chunks b x n st)

/-- The state a tile starts from: no segment, and accumulators of zeros, of `-∞` and of zeros. -/
def st0 : St F :=
  { cur := 4294967295#32
    cnt := Scalar.ofBits .f32 0x00000000#32
    sm := broadcast S16 (Scalar.ofBits .f32 0x00000000#32)
    mx := broadcast S16 (Scalar.ofBits .f32 0xFF800000#32)
    As := fun _ => Scalar.ofBits .f32 0x00000000#32
    Am := fun _ => Scalar.ofBits .f32 0xFF800000#32
    Ac := fun _ => Scalar.ofBits .f32 0x00000000#32 }

end Cert.Proof
-- ==== Proof.Reads.lean ====
/-
  What the loads of a row read and what its stores leave, in terms of the rows and the accumulators.
-/
module

public import proofs.«01_k».proof.Proof.Model
public import Idealize.ShloMosaic.Lib.Pipeline.Value

@[expose] public section

noncomputable section

namespace Cert.Proof

open Cert.KernelIdeal Cert.KernelIdeal.Gen
open Idealize.ShloMosaic

variable {F : FTy → Type} [FloatOps F]

/-- The memrefs of the two row buffers, of an accumulator and of a vector of 16 lanes. -/
abbrev M8 := Memref sig Kind.scVector Space.vmem S8208 EltTy.f32
abbrev Mv := Memref sig Kind.scVector Space.vmem S16 EltTy.f32

/-- Entry `(r, l)` of a buffer of 1000 rows. -/
abbrev ixX (r : Fin 1000) (l : Fin 16) : S1000x16.Idx :=
  fun | 0 => r | 1 => l | ⟨_ + 2, h⟩ => absurd h (Nat.not_lt.2 (Nat.le_add_left _ _))
/-- Entry `r` of a buffer of 1016 segment numbers. -/
abbrev ixB (r : Fin 1016) : S1016.Idx := fun | 0 => r | ⟨_ + 1, h⟩ => absurd h (Nat.not_lt.2 (Nat.le_add_left _ _))

/-- The buffer `X` holds the 1000 rows of `x` from row `o` on. -/
def DataX (X : M2) (fX : X.view.ty.Contents (Elt F)) (x : ℕ → V16 F) (o : ℕ) : Prop :=
  ∀ (r : Fin 1000) (l : Fin 16), X.view.read (Elt F) fX (ixX r l) = x (o + r.val) (ix16 l)
/-- The first 1000 entries of the buffer `B` hold the segment numbers `b` from row `o` on. -/
def DataB (B : M1) (fB : B.view.ty.Contents (Elt F)) (b : ℕ → BitVec 32) (o : ℕ) : Prop :=
  ∀ r : Fin 1016, r.val < 1000 → B.view.read (Elt F) fB (ixB r) = b (o + r.val)

/-- A row of the buffer, loaded as 16 lanes. -/
theorem loadX (X : M2) (fX : X.view.ty.Contents (Elt F)) (x : ℕ → V16 F) (o : ℕ) (h : DataX X fX x o)
    (off : Fin 2 → ℕ) (hin) (r : ℕ) (hr : r < 1000) (hoff : off = ![r, 0]) (hs) :
    shapeCast S16 (X.view.readAt (Elt F) (Rect.unit (s := S1000x16) off S1x16.size hin).toLoadRect fX : FVec F S1x16 .f32) hs = x (o + r) := by
  subst hoff
  funext y
  obtain ⟨l, rfl⟩ : ∃ l : Fin 16, y = ix16 l := ⟨y 0, funext fun a => by fin_cases a; rfl⟩
  rw [← h ⟨r, hr⟩ l]
  rw [shapeCast_apply (s := S1x16) (t := S16) _ hs (ix16 l)
    (fun | 0 => (0 : Fin 1) | 1 => l | ⟨_ + 2, h⟩ => absurd h (Nat.not_lt.2 (Nat.le_add_left _ _)))]
  · rw [View.readAt_apply]
    congr 1
    funext a
    fin_cases a
    · exact Fin.ext (by simp [LoadRect.idx, Rect.unit])
    · exact Fin.ext (by simp [LoadRect.idx, Rect.unit])
  · rw [Shape.rowMajor_val_two, Shape.rowMajor_val_one]
    simp

/-- The segment number of a row: lane `k` of 16 loaded from entry `q`. -/
theorem loadB (B : M1) (fB : B.view.ty.Contents (Elt F)) (b : ℕ → BitVec 32) (o : ℕ) (h : DataB B fB b o)
    (off : Fin 1 → ℕ) (hin) (q : ℕ) (hoff : off = ![q]) (k : ℕ) (hk : k < 16) (hr : q + k < 1000) (hs) (hsl) (hp) :
    extractAt ![0] (extractStridedSlice S1 ![k] (shapeCast S16
      (B.view.readAt (Elt F) (Rect.unit (s := S1016) off S16.size hin).toLoadRect fB : IVec S16 32) hs) hsl) hp = b (o + (q + k)) := by
  subst hoff
  rw [← h ⟨q + k, by omega⟩ hr]
  rw [show shapeCast S16 (B.view.readAt (Elt F) (Rect.unit (s := S1016) ![q] S16.size hin).toLoadRect fB : IVec S16 32) hs
    = (B.view.readAt (Elt F) (Rect.unit (s := S1016) ![q] S16.size hin).toLoadRect fB : IVec S16 32) from shapeCast_self (s := S16) _ _]
  unfold extractAt extractStridedSlice
  rw [View.readAt_apply]
  congr 1
  funext a
  fin_cases a
  exact Fin.ext (by simp [LoadRect.idx, Rect.unit])

/-- A store of 16 lanes from entry `o` on of an accumulator. -/
theorem read_put (a : M8) (f : a.view.ty.Contents (Elt F)) (off : Fin 1 → ℕ) (o : ℕ) (hoff : off = ![o]) (hin) (p : V16 F) :
    a.view.read (Elt F) (a.view.writes (Elt F) f [⟨Rect.unit (s := S8208) off S16.size hin, p⟩]) = put (a.view.read (Elt F) f) o p := by
  subst hoff
  funext y
  unfold put
  split
  · next h =>
    exact View.read_writes_cons_hit_of_coords _ _ _ _ _ _ _ (by
      intro a; fin_cases a; simp [Rect.unit]; omega)
  · next h =>
    rw [View.read_writes_cons_miss_of_axis (a := 0) (o := o) (n := 16)]
    · rfl
    · rfl
    · rfl
    · rfl
    · omega

/-- A vector of 16 lanes, loaded whole. -/
theorem readAt_whole (a : Mv) (f : a.view.ty.Contents (Elt F)) (hin) :
    a.view.readAt (Elt F) (Rect.unit (s := S16) ![0] S16.size hin).toLoadRect f = a.view.read (Elt F) f := by
  funext y
  rw [View.readAt_apply]
  congr 1
  funext k
  fin_cases k
  exact Fin.ext (by simp [LoadRect.idx, Rect.unit])

/-- A vector of 16 lanes, stored whole. -/
theorem read_whole (a : Mv) (f : a.view.ty.Contents (Elt F)) (hin) (p : V16 F) :
    a.view.read (Elt F) (a.view.writes (Elt F) f [⟨Rect.unit (s := S16) ![0] S16.size hin, p⟩]) = p := by
  funext y
  exact View.read_writes_cons_hit_of_coords _ _ _ _ _ _ _ (by intro k; fin_cases k; simp [Rect.unit])

theorem select_eq_ite {α : Type} (b c : BitVec 32) (p q : α) : Scalar.select (Scalar.cmpi .ne b c) p q = if b = c then q else p := by
  unfold Scalar.select Scalar.cmpi IntOp.cmpi
  by_cases h : b = c
  · subst h; simp
  · have : (b != c) = true := by simpa using h
    simp [h, this]

theorem off13_eq (c : BitVec 32) : k0_off13 c = ![slot c] := rfl
theorem off19_eq (c : BitVec 32) : k0_off19 c = ![slot c] := rfl
theorem off11_eq : ∀ (t3 : Fin k0_t3_loop.trips) (t4 : Fin (k0_t4_loop t3).trips), k0_off11 t3 t4 = ![32 * t3.val + t4.val] := by decide +kernel
theorem off12_eq : ∀ (t3 : Fin k0_t3_loop.trips) (t4 : Fin (k0_t4_loop t3).trips), k0_off12 t3 t4 = ![32 * t3.val + t4.val, 0] := by decide +kernel
theorem off17_eq (t : Fin k0_t6_loop.trips) : k0_off17 t = ![992 + t.val] := (k0_off17_eq t).trans (by rw [Nat.add_comm])
theorem off18_eq (t : Fin k0_t6_loop.trips) : k0_off18 t = ![992 + t.val, 0] := (k0_off18_eq t).trans (by rw [Nat.add_comm])
theorem trips_t4 : ∀ t3 : Fin k0_t3_loop.trips, (k0_t4_loop t3).trips = 32 := by decide +kernel
theorem trips_t3 : k0_t3_loop.trips = 31 := by decide +kernel
theorem trips_t6 : k0_t6_loop.trips = 8 := by decide +kernel

theorem cond1_iff (c p q : BitVec 32) : k0_cond1 c p q = 1#1 ↔ p = c ∧ q = c := by
  have e : ∀ u v : Bool, Scalar.cmpi .ne ((Scalar.extui (Scalar.andi (BitVec.ofBool u) (BitVec.ofBool v))) : BitVec 32) 0#32 = 1#1 ↔ u = true ∧ v = true := by
    decide
  have h := e (p == c) (q == c)
  rw [beq_iff_eq, beq_iff_eq] at h
  exact h

end Cert.Proof
-- ==== Proof.Row.lean ====
/-
  One row of the row-by-row loops on a tile, and these loops.
-/
module

public import proofs.«01_k».proof.Proof.Reads

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

/-- A buffer of the tile, held whole at contents `f`. -/
abbrev own {sh : Shape} {e : EltTy} (m : Memref sig .scVector .vmem sh e) (f : Buf (Elt F) (m.view.loc (V d (cV L) (jV L)))) : sProp 𝕄 :=
  m.view.loc (V d (cV L) (jV L)) ↦[m.view.set]{fullShare} f

/-- A buffer of the tile, held whole at contents that read as `A`. -/
abbrev holds {sh : Shape} {e : EltTy} (m : Memref sig .scVector .vmem sh e) (A : sh.Idx → Elt F e) : sProp 𝕄 :=
  iprop(∃ f, own d L m f ∗ ⌜m.view.read (Elt F) f = A⌝)

/-- The three accumulators at the state `st`. -/
abbrev accs (a11 a12 a13 : M8) (st : St F) : sProp 𝕄 :=
  iprop(holds d L a11 st.As ∗ holds d L a12 st.Am ∗ holds d L a13 st.Ac)

variable (A2 : Memref sig .scVector .hbm S100000x128 .f32) (hA2 : A2.IsWhole) (A3 : Memref sig .scVector .hbm S100000 .i32) (hA3 : A3.IsWhole)
  (A4 : Memref sig .scVector .hbm S32x8192 .f32) (hA4 : A4.IsWhole) (A5 : Memref sig .scVector .hbm S32x8192 .f32) (hA5 : A5.IsWhole)
  (A6 : Memref sig .scVector .hbm S32x8192 .f32) (hA6 : A6.IsWhole)
  (X : M2) (hX : X.IsWhole) (B : M1) (hB : B.IsWhole) (X' : M2) (hX' : X'.IsWhole) (B' : M1) (hB' : B'.IsWhole)
  (a11 : M8) (h11 : a11.IsWhole) (a12 : M8) (h12 : a12.IsWhole) (a13 : M8) (h13 : a13.IsWhole) (a14 : Mv) (h14 : a14.IsWhole)
  (a15 : Mv) (h15 : a15.IsWhole) (e16 e17 e18 e19 r0 r1 r2 : DmaSems sig S_)

/-- What the loops carry in registers at the state `st`. -/
abbrev regs (st : St F) : BitVec 32 × F .f32 × V16 F × V16 F := (st.cur, st.cnt, st.sm, st.mx)

/-- One row of a block, row by row: the state takes the row's step. -/
theorem row_t4 (v29 c0 c1 : BitVec 32) (t2 : Fin k0_t2_loop.trips) (u : BitVec 32) (w : F .f32) (t3 : Fin k0_t3_loop.trips) (v24 v171 v177 : BitVec 32)
    (hc : ¬ k0_cond1 v24 v171 v177 = 1#1) (t4 : Fin (k0_t4_loop t3).trips) (st : St F) (hcur : slot st.cur + 16 ≤ 8208)
    (fX : Buf (Elt F) (X.view.loc (V d (cV L) (jV L)))) (fB : Buf (Elt F) (B.view.loc (V d (cV L) (jV L))))
    (b : ℕ → BitVec 32) (x : ℕ → V16 F) (o : ℕ) (hx : DataX X fX x o) (hb : DataB B fB b o) :
    iprop(own d L X fX ∗ own d L B fB ∗ accs d L a11 a12 a13 st)
      ⊢ wp (M := 𝕄) frame (wpE (defs₀ (F := F)) 𝒱₀ (V d (cV L) (jV L)) none) Set.univ
          (k0_t4_body L A2 hA2 A3 hA3 A4 hA4 A5 hA5 A6 hA6 X hX B hB X' hX' B' hB' a11 h11 a12 h12 a13 h13 a14 h14 a15 h15 e16 e17 e18 e19 r0 r1 r2
            v29 c0 c1 t2 u w t3 v24 v171 v177 hc t4 (regs st))
          fun acc => iprop(own d L X fX ∗ own d L B fB ∗ accs d L a11 a12 a13 (rowStep (b (o + (32 * t3.val + t4.val))) (x (o + (32 * t3.val + t4.val))) st)
            ∗ ⌜acc = regs (rowStep (b (o + (32 * t3.val + t4.val))) (x (o + (32 * t3.val + t4.val))) st)⌝) := by
  have hck : k0_chk1 v24 v171 v177 st.cur := by
    intro _ a
    rw [off13_eq]; fin_cases a; exact hcur
  have h3 : t3.val < 31 := lt_of_lt_of_eq t3.isLt trips_t3
  have h4 : t4.val < 32 := lt_of_lt_of_eq t4.isLt (trips_t4 t3)
  unfold k0_t4_body
  iintro ⟨HX, HB, ⟨%f11, H11, %e11⟩, ⟨%f12, H12, %e12⟩, ⟨%f13, H13, %e13⟩⟩
  sl_exec
  sl_step
  isplitl [HX]; · iexact HX
  isplitl [HB]; · iexact HB
  isplitl [H11 H12 H13]
  · isplitl [H11]
    · iexists _; isplitl [H11]; · iexact H11
      ipureintro; rw [read_put _ _ _ _ (off13_eq st.cur), e11]; exact congrArg _ (shapeCast_self (s := S16) _ _)
    isplitl [H12]
    · iexists _; isplitl [H12]; · iexact H12
      ipureintro; rw [read_put _ _ _ _ (off13_eq st.cur), e12]; exact congrArg _ (shapeCast_self (s := S16) _ _)
    · iexists _; isplitl [H13]; · iexact H13
      ipureintro; rw [read_put _ _ _ _ (off13_eq st.cur), e13]; exact congrArg _ (shapeCast_self (s := S16) _ _)
  ipureintro
  have eb := loadB B fB b o hb (k0_off11 t3 t4) (k0_off11_inb t3 t4) _ (off11_eq t3 t4) 0 (by omega) (by omega) shapeCasts_S16_S16 slices_S16_o0_S1 inpos_S1_p0
  have ex := loadX X fX x o hx (k0_off12 t3 t4) (k0_off12_inb t3 t4) _ (by omega) (off12_eq t3 t4) shapeCasts_S1x16_S16
  unfold k0_pay92 k0_pay90 k0_pay91 k0_pay86 k0_pay85
  simp only [select_eq_ite]
  erw [eb, ex]
  exact Prod.ext eb rfl

/-- One row of the last 8 rows of a chunk: the state takes the row's step. -/
theorem row_t6 (v29 c0 c1 : BitVec 32) (t2 : Fin k0_t2_loop.trips) (u : BitVec 32) (w : F .f32) (t6 : Fin k0_t6_loop.trips) (st : St F) (hcur : slot st.cur + 16 ≤ 8208)
    (fX : Buf (Elt F) (X.view.loc (V d (cV L) (jV L)))) (fB : Buf (Elt F) (B.view.loc (V d (cV L) (jV L))))
    (b : ℕ → BitVec 32) (x : ℕ → V16 F) (o : ℕ) (hx : DataX X fX x o) (hb : DataB B fB b o) :
    iprop(own d L X fX ∗ own d L B fB ∗ accs d L a11 a12 a13 st)
      ⊢ wp (M := 𝕄) frame (wpE (defs₀ (F := F)) 𝒱₀ (V d (cV L) (jV L)) none) Set.univ
          (k0_t6_body L A2 hA2 A3 hA3 A4 hA4 A5 hA5 A6 hA6 X hX B hB X' hX' B' hB' a11 h11 a12 h12 a13 h13 a14 h14 a15 h15 e16 e17 e18 e19 r0 r1 r2
            v29 c0 c1 t2 u w t6 (regs st))
          fun acc => iprop(own d L X fX ∗ own d L B fB ∗ accs d L a11 a12 a13 (rowStep (b (o + (992 + t6.val))) (x (o + (992 + t6.val))) st)
            ∗ ⌜acc = regs (rowStep (b (o + (992 + t6.val))) (x (o + (992 + t6.val))) st)⌝) := by
  have hck : k0_chk3 st.cur := by
    intro a
    rw [off19_eq]; fin_cases a; exact hcur
  have h6 : t6.val < 8 := lt_of_lt_of_eq t6.isLt trips_t6
  unfold k0_t6_body
  iintro ⟨HX, HB, ⟨%f11, H11, %e11⟩, ⟨%f12, H12, %e12⟩, ⟨%f13, H13, %e13⟩⟩
  sl_exec
  sl_step
  isplitl [HX]; · iexact HX
  isplitl [HB]; · iexact HB
  isplitl [H11 H12 H13]
  · isplitl [H11]
    · iexists _; isplitl [H11]; · iexact H11
      ipureintro; rw [read_put _ _ _ _ (off19_eq st.cur), e11]; exact congrArg _ (shapeCast_self (s := S16) _ _)
    isplitl [H12]
    · iexists _; isplitl [H12]; · iexact H12
      ipureintro; rw [read_put _ _ _ _ (off19_eq st.cur), e12]; exact congrArg _ (shapeCast_self (s := S16) _ _)
    · iexists _; isplitl [H13]; · iexact H13
      ipureintro; rw [read_put _ _ _ _ (off19_eq st.cur), e13]; exact congrArg _ (shapeCast_self (s := S16) _ _)
  ipureintro
  have eb := loadB B fB b o hb (k0_off17 t6) (k0_off17_inb t6) _ (off17_eq t6) 0 (by omega) (by omega) shapeCasts_S16_S16 slices_S16_o0_S1 inpos_S1_p0
  have ex := loadX X fX x o hx (k0_off18 t6) (k0_off18_inb t6) _ (by omega) (off18_eq t6) shapeCasts_S1x16_S16
  unfold k0_pay112 k0_pay110 k0_pay111 k0_pay106 k0_pay105
  simp only [select_eq_ite]
  erw [eb, ex]
  exact Prod.ext eb rfl

end Cert.Proof
-- ==== Proof.Block.lean ====
/-
  One block of 32 rows of a chunk.
-/
module

public import proofs.«01_k».proof.Proof.Row

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

variable (A2 : Memref sig .scVector .hbm S100000x128 .f32) (hA2 : A2.IsWhole) (A3 : Memref sig .scVector .hbm S100000 .i32) (hA3 : A3.IsWhole)
  (A4 : Memref sig .scVector .hbm S32x8192 .f32) (hA4 : A4.IsWhole) (A5 : Memref sig .scVector .hbm S32x8192 .f32) (hA5 : A5.IsWhole)
  (A6 : Memref sig .scVector .hbm S32x8192 .f32) (hA6 : A6.IsWhole)
  (X : M2) (hX : X.IsWhole) (B : M1) (hB : B.IsWhole) (X' : M2) (hX' : X'.IsWhole) (B' : M1) (hB' : B'.IsWhole)
  (a11 : M8) (h11 : a11.IsWhole) (a12 : M8) (h12 : a12.IsWhole) (a13 : M8) (h13 : a13.IsWhole) (a14 : Mv) (h14 : a14.IsWhole)
  (a15 : Mv) (h15 : a15.IsWhole) (e16 e17 e18 e19 r0 r1 r2 : DmaSems sig S_)

/-- The state of a segment number whose slot lies in the accumulators. -/
def Ok (c : BitVec 32) : Prop := slot c + 16 ≤ 8208

theorem rows_ok (b : ℕ → BitVec 32) (x : ℕ → V16 F) (o : ℕ) (hb : ∀ n, Ok (b n)) (st : St F) (h : Ok st.cur) : ∀ n, Ok (rows b x o n st).cur
  | 0 => h
  | _ + 1 => hb _

theorem blockStep_ok (b : ℕ → BitVec 32) (x : ℕ → V16 F) (o : ℕ) (hb : ∀ n, Ok (b n)) (st : St F) (h : Ok st.cur) : Ok (blockStep b x o st).cur := by
  unfold blockStep; split
  · exact h
  · exact rows_ok b x o hb st h 32

theorem blocks_ok (b : ℕ → BitVec 32) (x : ℕ → V16 F) (o : ℕ) (hb : ∀ n, Ok (b n)) (st : St F) (h : Ok st.cur) : ∀ n, Ok (blocks b x o n st).cur
  | 0 => h
  | n + 1 => blockStep_ok b x _ hb _ (blocks_ok b x o hb st h n)

theorem addRows_congr : ∀ (n : ℕ) (x y : ℕ → V16 F) (o o' : ℕ), (∀ r < n, x (o + r) = y (o' + r)) → ∀ s, addRows x o n s = addRows y o' n s
  | 0, _, _, _, _, _, _ => rfl
  | n + 1, x, y, o, o', h, s => by
    unfold addRows; rw [addRows_congr n x y o o' (fun r hr => h r (by omega)), h n (by omega)]

theorem maxRows_congr : ∀ (n : ℕ) (x y : ℕ → V16 F) (o o' : ℕ), (∀ r < n, x (o + r) = y (o' + r)) → ∀ s, maxRows x o n s = maxRows y o' n s
  | 0, _, _, _, _, _, _ => rfl
  | n + 1, x, y, o, o', h, s => by
    unfold maxRows; rw [maxRows_congr n x y o o' (fun r hr => h r (by omega)), h n (by omega)]

/-- One block: the state takes the block's step. -/
theorem block_t3 (v29 c0 c1 : BitVec 32) (t2 : Fin k0_t2_loop.trips) (u : BitVec 32) (w : F .f32) (t3 : Fin k0_t3_loop.trips)
    (st : St F) (hcur : Ok st.cur)
    (fX : Buf (Elt F) (X.view.loc (V d (cV L) (jV L)))) (fB : Buf (Elt F) (B.view.loc (V d (cV L) (jV L))))
    (b : ℕ → BitVec 32) (x : ℕ → V16 F) (o : ℕ) (hx : DataX X fX x o) (hb : DataB B fB b o) (hok : ∀ n, Ok (b n)) :
    iprop(own d L X fX ∗ own d L B fB ∗ accs d L a11 a12 a13 st ∗ holds d L a14 st.sm ∗ holds d L a15 st.mx)
      ⊢ wp (M := 𝕄) frame (wpE (defs₀ (F := F)) 𝒱₀ (V d (cV L) (jV L)) none) Set.univ
          (k0_t3_body L A2 hA2 A3 hA3 A4 hA4 A5 hA5 A6 hA6 X hX B hB X' hX' B' hB' a11 h11 a12 h12 a13 h13 a14 h14 a15 h15 e16 e17 e18 e19 r0 r1 r2
            v29 c0 c1 t2 u w t3 (st.cur, st.cnt))
          fun acc => iprop(own d L X fX ∗ own d L B fB ∗ accs d L a11 a12 a13 (blockStep b x (o + 32 * t3.val) st)
            ∗ holds d L a14 (blockStep b x (o + 32 * t3.val) st).sm ∗ holds d L a15 (blockStep b x (o + 32 * t3.val) st).mx
            ∗ ⌜acc = ((blockStep b x (o + 32 * t3.val) st).cur, (blockStep b x (o + 32 * t3.val) st).cnt)⌝) := by
  have h3 : t3.val < 31 := lt_of_lt_of_eq t3.isLt trips_t3
  have ea := loadB B fB b o hb (k0_off8 t3) (k0_off8_inb t3) _ (k0_off8_eq t3) 0 (by omega) (by omega) shapeCasts_S16_S16 slices_S16_o0_S1 inpos_S1_p0
  have ez := loadB B fB b o hb (k0_off9 t3) (k0_off9_inb t3) _ (k0_off9_eq t3) 15 (by omega) (by omega) shapeCasts_S16_S16 slices_S16_o15_S1 inpos_S1_p0
  unfold k0_t3_body
  iintro ⟨HX, HB, ⟨H11, H12, H13⟩, ⟨%f14, H14, %e14⟩, ⟨%f15, H15, %e15⟩⟩
  sl_exec
  have hq : ∀ p q : BitVec 32, p = b (o + (32 * t3.val + 0)) → q = b (o + (32 * t3.val + 16 + 15)) →
      (k0_cond1 st.cur p q = 1#1 ↔ b (o + 32 * t3.val) = st.cur ∧ b (o + 32 * t3.val + 31) = st.cur) := by
    intro p q hp hq'
    rw [cond1_iff, hp, hq', Nat.add_zero, Nat.add_assoc _ 16 15, Nat.add_assoc o]
  have hcc := hq (block_t3.sl.v171 d L B t3 fB) (block_t3.sl.v177 d L B t3 fB) ea ez
  by_cases hc : b (o + 32 * t3.val) = st.cur ∧ b (o + 32 * t3.val + 31) = st.cur
  · rw [dif_pos (hcc.mpr hc)]
    have hbs : blockStep b x (o + 32 * t3.val) st = fastStep x (o + 32 * t3.val) st := if_pos hc
    rw [hbs]
    sl_unfold [k0_part1]
    sl_exec
    sl_step
    have hxx : ∀ r < 32, (fun r => shapeCast S16 (X.view.readAt (Elt F) (Rect.unit (s := S1000x16) (k0_off10 t3 (BitVec.ofNat 32 (Fin.ofNat 32 r).val)) S1x16.size
        (k0_off10_inb t3 (Fin.ofNat 32 r))).toLoadRect fX : FVec F S1x16 .f32) shapeCasts_S1x16_S16) (0 + r) = x (o + 32 * t3.val + r) := fun r hr => by
      have hv : (Fin.ofNat 32 (0 + r)).val = r := by simp [Fin.ofNat, Nat.mod_eq_of_lt hr]
      show shapeCast S16 _ _ = _
      rw [loadX X fX x o hx _ (k0_off10_inb t3 (Fin.ofNat 32 (0 + r))) (32 * t3.val + r) (by omega) ((k0_off10_eq t3 _).trans (by rw [hv])), Nat.add_assoc]
    have h14' : shapeCast S16 (a14.view.readAt (Elt F) (Rect.unit (s := S16) ![0] S16.size inb_S16_S16_0).toLoadRect f14 : FVec F S16 .f32) shapeCasts_S16_S16 = st.sm := by
      rw [readAt_whole, e14]; exact shapeCast_self (s := S16) _ _
    have h15' : shapeCast S16 (a15.view.readAt (Elt F) (Rect.unit (s := S16) ![0] S16.size inb_S16_S16_0).toLoadRect f15 : FVec F S16 .f32) shapeCasts_S16_S16 = st.mx := by
      rw [readAt_whole, e15]; exact shapeCast_self (s := S16) _ _
    isplitl [HX]; · iexact HX
    isplitl [HB]; · iexact HB
    isplitl [H11 H12 H13]
    · isplitl [H11]; · iexact H11
      isplitl [H12]; · iexact H12
      iexact H13
    isplitl [H14]
    · iexists _; isplitl [H14]; · iexact H14
      ipureintro
      rw [read_whole]
      refine (show _ = shapeCast S16 (addRows (fun r => shapeCast S16 (X.view.readAt (Elt F) (Rect.unit (s := S1000x16)
        (k0_off10 t3 (BitVec.ofNat 32 (Fin.ofNat 32 r).val)) S1x16.size (k0_off10_inb t3 (Fin.ofNat 32 r))).toLoadRect fX : FVec F S1x16 .f32) shapeCasts_S1x16_S16) 0 32
        (shapeCast S16 (a14.view.readAt (Elt F) (Rect.unit (s := S16) ![0] S16.size inb_S16_S16_0).toLoadRect f14 : FVec F S16 .f32) shapeCasts_S16_S16)) shapeCasts_S16_S16 from rfl).trans ?_
      rw [addRows_congr 32 _ _ _ _ hxx, h14']
      exact shapeCast_self (s := S16) _ _
    isplitl [H15]
    · iexists _; isplitl [H15]; · iexact H15
      ipureintro
      rw [read_whole]
      refine (show _ = shapeCast S16 (maxRows (fun r => shapeCast S16 (X.view.readAt (Elt F) (Rect.unit (s := S1000x16)
        (k0_off10 t3 (BitVec.ofNat 32 (Fin.ofNat 32 r).val)) S1x16.size (k0_off10_inb t3 (Fin.ofNat 32 r))).toLoadRect fX : FVec F S1x16 .f32) shapeCasts_S1x16_S16) 0 32
        (shapeCast S16 (a15.view.readAt (Elt F) (Rect.unit (s := S16) ![0] S16.size inb_S16_S16_0).toLoadRect f15 : FVec F S16 .f32) shapeCasts_S16_S16)) shapeCasts_S16_S16 from rfl).trans ?_
      rw [maxRows_congr 32 _ _ _ _ hxx, h15']
      exact shapeCast_self (s := S16) _ _
    ipureintro; rfl
  · rw [dif_neg (fun h => hc (hcc.mp h))]
    have hbs : blockStep b x (o + 32 * t3.val) st = rows b x (o + 32 * t3.val) 32 st := if_neg hc
    rw [hbs]
    sl_exec
    sl_for (fun k acc => iprop(own d L X fX ∗ own d L B fB ∗ accs d L a11 a12 a13 (rows b x (o + 32 * t3.val) k st)
      ∗ ⌜acc = regs (rows b x (o + 32 * t3.val) k st)⌝)) $$ [HX HB H11 H12 H13]
    case region =>
      intro k acc
      iintro ⟨HX, HB, HA, %hacc⟩
      subst hacc
      have hr := row_t4 d L A2 hA2 A3 hA3 A4 hA4 A5 hA5 A6 hA6 X hX B hB X' hX' B' hB' a11 h11 a12 h12 a13 h13 a14 h14 a15 h15 e16 e17 e18 e19 r0 r1 r2
        v29 c0 c1 t2 u w t3 st.cur _ _ (fun h => hc (hcc.mp h)) k (rows b x (o + 32 * t3.val) k.val st) (rows_ok b x _ hok st hcur _) fX fB b x o hx hb
      rw [← Nat.add_assoc o] at hr
      iapply hr
      isplitl [HX]; · iexact HX
      isplitl [HB]; · iexact HB
      iexact HA
    · isplitl [HX]; · iexact HX
      isplitl [HB]; · iexact HB
      isplitl [H11 H12 H13]
      · isplitl [H11]; · iexact H11
        isplitl [H12]; · iexact H12
        iexact H13
      ipureintro
      refine Prod.ext rfl (Prod.ext rfl (Prod.ext ?_ ?_))
      · exact (shapeCast_self (s := S16) _ _).trans ((readAt_whole a14 f14 _).trans e14)
      · exact (shapeCast_self (s := S16) _ _).trans ((readAt_whole a15 f15 _).trans e15)
    iintro %acc HI
    icases HI with ⟨HX, HB, ⟨H11, H12, H13⟩, %hacc⟩
    subst hacc
    sl_exec
    sl_step
    rw [show Scf.trips (k0_t4_loop t3).lb (k0_t4_loop t3).ub (k0_t4_loop t3).st = 32 from trips_t4 t3]
    isplitl [HX]; · iexact HX
    isplitl [HB]; · iexact HB
    isplitl [H11 H12 H13]
    · isplitl [H11]; · iexact H11
      isplitl [H12]; · iexact H12
      iexact H13
    isplitl [H14]
    · iexists _; isplitl [H14]; · iexact H14
      ipureintro; rw [read_whole]; exact shapeCast_self (s := S16) _ _
    isplitl [H15]
    · iexists _; isplitl [H15]; · iexact H15
      ipureintro; rw [read_whole]; exact shapeCast_self (s := S16) _ _
    ipureintro; rfl

end Cert.Proof
-- ==== Proof.Copies.lean ====
/-
  The other two copies of a chunk's loops are the first one at other buffers.
-/
module

public import proofs.«01_k».proof.Proof.Block

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

variable (A2 : Memref sig .scVector .hbm S100000x128 .f32) (hA2 : A2.IsWhole) (A3 : Memref sig .scVector .hbm S100000 .i32) (hA3 : A3.IsWhole)
  (A4 : Memref sig .scVector .hbm S32x8192 .f32) (hA4 : A4.IsWhole) (A5 : Memref sig .scVector .hbm S32x8192 .f32) (hA5 : A5.IsWhole)
  (A6 : Memref sig .scVector .hbm S32x8192 .f32) (hA6 : A6.IsWhole)
  (X : M2) (hX : X.IsWhole) (B : M1) (hB : B.IsWhole) (X' : M2) (hX' : X'.IsWhole) (B' : M1) (hB' : B'.IsWhole)
  (a11 : M8) (h11 : a11.IsWhole) (a12 : M8) (h12 : a12.IsWhole) (a13 : M8) (h13 : a13.IsWhole) (a14 : Mv) (h14 : a14.IsWhole)
  (a15 : Mv) (h15 : a15.IsWhole) (e16 e17 e18 e19 r0 r1 r2 : DmaSems sig S_)

theorem t10_eq (v29 c0 c1 : BitVec 32) (t2 : Fin k0_t2_loop.trips) (u : BitVec 32) (w : F .f32) (v94 p : BitVec 32) (q : F .f32) (r : FVec F S16 .f32) :
    k0_t10_body L A2 hA2 A3 hA3 A4 hA4 A5 hA5 A6 hA6 X hX B hB X' hX' B' hB' a11 h11 a12 h12 a13 h13 a14 h14 a15 h15 e16 e17 e18 e19 r0 r1 r2 v29 t2 v94 p q r
      = k0_t6_body L A2 hA2 A3 hA3 A4 hA4 A5 hA5 A6 hA6 X' hX' B' hB' X hX B hB a11 h11 a12 h12 a13 h13 a14 h14 a15 h15 e16 e17 e18 e19 r0 r1 r2 v29 c0 c1 t2 u w := rfl

theorem t7_eq (v29 c0 c1 : BitVec 32) (t2 : Fin k0_t2_loop.trips) (u : BitVec 32) (w : F .f32) (v94 p : BitVec 32) (q : F .f32) (r : FVec F S16 .f32) :
    k0_t7_body L A2 hA2 A3 hA3 A4 hA4 A5 hA5 A6 hA6 X hX B hB X' hX' B' hB' a11 h11 a12 h12 a13 h13 a14 h14 a15 h15 e16 e17 e18 e19 r0 r1 r2 v29 t2 v94 p q r
      = k0_t3_body L A2 hA2 A3 hA3 A4 hA4 A5 hA5 A6 hA6 X' hX' B' hB' X hX B hB a11 h11 a12 h12 a13 h13 a14 h14 a15 h15 e16 e17 e18 e19 r0 r1 r2 v29 c0 c1 t2 u w := rfl

theorem t11_eq (v29 c0 c1 : BitVec 32) (t2 : Fin k0_t2_loop.trips) (u : BitVec 32) (w : F .f32) (v31 v32 : FVec F S16 .f32) :
    k0_t11_body L A2 hA2 A3 hA3 A4 hA4 A5 hA5 A6 hA6 X hX B hB X' hX' B' hB' a11 h11 a12 h12 a13 h13 a14 h14 a15 h15 e16 e17 e18 e19 r0 r1 r2 v29 v31 v32
      = k0_t3_body L A2 hA2 A3 hA3 A4 hA4 A5 hA5 A6 hA6 X hX B hB X' hX' B' hB' a11 h11 a12 h12 a13 h13 a14 h14 a15 h15 e16 e17 e18 e19 r0 r1 r2 v29 c0 c1 t2 u w := rfl

theorem t14_eq (v29 c0 c1 : BitVec 32) (t2 : Fin k0_t2_loop.trips) (u : BitVec 32) (w : F .f32) (p : BitVec 32) (q : F .f32) (v62 v64 : FVec F S16 .f32) (c992 c8 : BitVec 32) :
    k0_t14_body L A2 hA2 A3 hA3 A4 hA4 A5 hA5 A6 hA6 X hX B hB X' hX' B' hB' a11 h11 a12 h12 a13 h13 a14 h14 a15 h15 e16 e17 e18 e19 r0 r1 r2 p q v62 v64 c992 c8
      = k0_t6_body L A2 hA2 A3 hA3 A4 hA4 A5 hA5 A6 hA6 X hX B hB X' hX' B' hB' a11 h11 a12 h12 a13 h13 a14 h14 a15 h15 e16 e17 e18 e19 r0 r1 r2 v29 c0 c1 t2 u w := rfl

end Cert.Proof
-- ==== Proof.Offsets.lean ====
/-
  The rectangles of the copies in, and the loops' trip counts: tile `16 * c + s` reads the rows of row group
  `(16 * c + s) / 8`, 1000 at a time, and of them the 16 columns of column group `(16 * c + s) % 8`.
-/
module

public import proofs.«01_k».proof.Proof.Copies

@[expose] public section

noncomputable section

namespace Cert.Proof

open Cert.KernelIdeal Cert.KernelIdeal.Gen
open Idealize.ShloMosaic

/-- The tile of core `c` and subcore `s`. -/
abbrev coords0 (c : Fin 2) (s : Fin 16) : grid0.Coords :=
  fun | 0 => c | 1 => s | ⟨_ + 2, h⟩ => absurd h (Nat.not_lt.2 (Nat.le_add_left _ _))

theorem coords0_eta (L : grid0.Coords) : L = coords0 (L 0) (L 1) := funext fun a => by fin_cases a <;> rfl

/-- The tile's number, the first row of its row group, and the first column of its column group. -/
abbrev wid (L : grid0.Coords) : ℕ := 16 * (L 0).val + (L 1).val
abbrev row0 (L : grid0.Coords) : ℕ := 25000 * (wid L / 8)
abbrev col0 (L : grid0.Coords) : ℕ := 16 * (wid L % 8)

theorem trips_t2 : k0_t2_loop.trips = 12 := by decide +kernel
theorem trips_t1 : k0_t1_loop.trips = 513 := by decide +kernel

theorem off2_eq' : ∀ (c : Fin 2) (s : Fin 16), k0_off2 (coords0 c s) 0#32 = ![row0 (coords0 c s), col0 (coords0 c s)] := by decide +kernel
theorem off3_eq' : ∀ (c : Fin 2) (s : Fin 16), k0_off3 (coords0 c s) 0#32 = ![row0 (coords0 c s)] := by decide +kernel
theorem off6_eq' : ∀ (c : Fin 2) (s : Fin 16) (t2 : Fin k0_t2_loop.trips) (r : Fin 2),
    k0_off6 (coords0 c s) t2 (BitVec.ofNat 32 (r.val + 1)) = ![row0 (coords0 c s) + 1000 * (2 * t2.val + 1 + r.val), col0 (coords0 c s)] := by decide +kernel
theorem off7_eq' : ∀ (c : Fin 2) (s : Fin 16) (t2 : Fin k0_t2_loop.trips) (r : Fin 2),
    k0_off7 (coords0 c s) t2 (BitVec.ofNat 32 (r.val + 1)) = ![row0 (coords0 c s) + 1000 * (2 * t2.val + 1 + r.val)] := by decide +kernel

theorem off2_eq (L : grid0.Coords) : k0_off2 L 0#32 = ![row0 L, col0 L] := by rw [coords0_eta L]; exact off2_eq' _ _
theorem off3_eq (L : grid0.Coords) : k0_off3 L 0#32 = ![row0 L] := by rw [coords0_eta L]; exact off3_eq' _ _
theorem off6_eq (L : grid0.Coords) (t2 : Fin k0_t2_loop.trips) (r : Fin 2) :
    k0_off6 L t2 (BitVec.ofNat 32 (r.val + 1)) = ![row0 L + 1000 * (2 * t2.val + 1 + r.val), col0 L] := by rw [coords0_eta L]; exact off6_eq' _ _ _ _
theorem off7_eq (L : grid0.Coords) (t2 : Fin k0_t2_loop.trips) (r : Fin 2) :
    k0_off7 L t2 (BitVec.ofNat 32 (r.val + 1)) = ![row0 L + 1000 * (2 * t2.val + 1 + r.val)] := by rw [coords0_eta L]; exact off7_eq' _ _ _ _

end Cert.Proof
-- ==== Proof.In.lean ====
/-
  A copy of one chunk's rows, or of its segment numbers, into the tile's memory: in flight, and landed.
-/
module

public import proofs.«01_k».proof.Proof.Offsets
public import Idealize.ShloMosaic.Lib.SparseCore.FromWhole

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

variable (A2 : Memref sig .scVector .hbm S100000x128 .f32) (A3 : Memref sig .scVector .hbm S100000 .i32)
  (fA : Buf (Elt F) (A2.view.loc (V d (cV L) (jV L)))) (fI : Buf (Elt F) (A3.view.loc (V d (cV L) (jV L))))
  (q : PosShare TreeShare) (X : M2) (B : M1) (e : DmaSems sig S_)

/-- The tile's counters. -/
abbrev EC : UEmb Counters 𝕄 := countersEmb

/-- A share of the rows, or of the segment numbers. -/
abbrev tokX : sProp 𝕄 := A2.view.loc (V d (cV L) (jV L)) ↦{q} fA
abbrev tokB : sProp 𝕄 := A3.view.loc (V d (cV L) (jV L)) ↦{q} fI

/-- Row `r` of the tile's row group, the tile's 16 columns of it. -/
def xt (r : ℕ) : V16 F := fun l => A2.view.read (Elt F) fA
  (fun | 0 => (Fin.ofNat 100000 (row0 L + r) : Fin 100000) | 1 => (Fin.ofNat 128 (col0 L + (l 0).val) : Fin 128) | ⟨_ + 2, h⟩ => absurd h (Nat.not_lt.2 (Nat.le_add_left _ _)))
/-- The segment number of row `r` of the tile's row group. -/
def bt (r : ℕ) : BitVec 32 := A3.view.read (Elt F) fI
  (fun | 0 => (Fin.ofNat 100000 (row0 L + r) : Fin 100000) | ⟨_ + 1, h⟩ => absurd h (Nat.not_lt.2 (Nat.le_add_left _ _)))

/-- What a copy of 1000 rows from row `o` of the group on delivers, and of their segment numbers. -/
abbrev gotX (o : ℕ) : sProp 𝕄 := iprop((∃ f, own d L X f ∗ ⌜DataX X f (xt d L A2 fA) o⌝) ∗ tokX d L A2 fA q)
abbrev gotB (o : ℕ) : sProp 𝕄 := iprop((∃ f, own d L B f ∗ ⌜DataB B f (bt d L A3 fI) o⌝) ∗ tokB d L A3 fI q)

abbrev flyX (o : ℕ) : sProp 𝕄 := Transfers.Flight (EC (F := F)) (V d (cV L) (jV L)) (.dma e.sem) (none : HIx 2) X.view.dmaCredit (gotX d L A2 fA q X o)
abbrev flyB (o : ℕ) : sProp 𝕄 := Transfers.Flight (EC (F := F)) (V d (cV L) (jV L)) (.dma e.sem) (none : HIx 2)
  (B.slice (Rect.unit (s := S1016) ![0] S1000.size inb_S1016_S1000_0) (fun _ => rfl)).view.dmaCredit (gotB d L A3 fI q B o)

theorem row0_le : row0 L + 25000 ≤ 100000 := by
  have h0 : (L 0).val < 2 := (L 0).isLt
  have h1 : (L 1).val < 16 := (L 1).isLt
  show 25000 * ((16 * (L 0).val + (L 1).val) / 8) + 25000 ≤ 100000
  omega
theorem col0_le : col0 L + 16 ≤ 128 := by
  show 16 * ((16 * (L 0).val + (L 1).val) % 8) + 16 ≤ 128
  omega

/-- The rows a copy from row `o` of the group on writes. -/
theorem data_x (o : ℕ) (ho : o + 1000 ≤ 25000) (off : Fin 2 → ℕ) (hin) (hoff : off = ![row0 L + o, col0 L]) (hs) (f : Buf (Elt F) (X.view.loc (V d (cV L) (jV L)))) :
    DataX X (X.view.write (Elt F) f ((A2.slice (Rect.unit (s := S100000x128) off S1000x16.size hin) hs).view.read (Elt F) fA) Finset.univ) (xt d L A2 fA) o := by
  subst hoff
  intro r l
  have h0 := row0_le L
  have h1 := col0_le L
  rw [View.read_write_univ]
  show A2.view.read (Elt F) fA _ = A2.view.read (Elt F) fA _
  congr 1
  funext a
  fin_cases a
  · refine Fin.ext ?_
    have : (row0 L + (o + r.val)) % 100000 = row0 L + (o + r.val) := Nat.mod_eq_of_lt (by omega)
    show row0 L + o + 1 * r.val = (row0 L + (o + r.val)) % 100000
    omega
  · refine Fin.ext ?_
    have : (col0 L + l.val) % 128 = col0 L + l.val := Nat.mod_eq_of_lt (by omega)
    show col0 L + 1 * l.val = (col0 L + l.val) % 128
    omega

/-- The segment numbers a copy from row `o` of the group on writes. -/
theorem data_b (o : ℕ) (ho : o + 1000 ≤ 25000) (off : Fin 1 → ℕ) (hin) (hoff : off = ![row0 L + o]) (hs) (hs') (f : Buf (Elt F) (B.view.loc (V d (cV L) (jV L)))) :
    DataB B ((B.slice (Rect.unit (s := S1016) ![0] S1000.size inb_S1016_S1000_0) hs').view.write (Elt F) f
      ((A3.slice (Rect.unit (s := S100000) off S1000.size hin) hs).view.read (Elt F) fI) Finset.univ) (bt d L A3 fI) o := by
  subst hoff
  intro r hr
  have h0 := row0_le L
  have e : ∀ g : Buf (Elt F) (B.view.loc (V d (cV L) (jV L))), B.view.read (Elt F) g (ixB r)
      = (B.slice (Rect.unit (s := S1016) ![0] S1000.size inb_S1016_S1000_0) hs').view.read (Elt F) g
        (fun | 0 => (⟨r.val, hr⟩ : Fin 1000) | ⟨_ + 1, h⟩ => absurd h (Nat.not_lt.2 (Nat.le_add_left _ _))) := by
    intro g
    show B.view.read (Elt F) g _ = B.view.read (Elt F) g _
    congr 1
    funext a
    fin_cases a
    exact Fin.ext (show r.val = 0 + 1 * r.val by omega)
  rw [e, View.read_write_univ]
  show A3.view.read (Elt F) fI _ = A3.view.read (Elt F) fI _
  congr 1
  funext a
  fin_cases a
  refine Fin.ext ?_
  have : (row0 L + (o + r.val)) % 100000 = row0 L + (o + r.val) := Nat.mod_eq_of_lt (by omega)
  show row0 L + o + 1 * r.val = (row0 L + (o + r.val)) % 100000
  omega

/-- A copy of 1000 rows starts. -/
theorem start_x {α : Type} {k : PUnit → Prog (TpuEff nD τ sig (Elt F) Λ₀ (V d (cV L) (jV L)).2) α} {Q : α → sProp 𝕄} (o : ℕ) (ho : o + 1000 ≤ 25000) (off : Fin 2 → ℕ) (hin) (hoff : off = ![row0 L + o, col0 L]) (hs)
    {hsrc} {hdst} {hsem} (f : Buf (Elt F) (X.view.loc (V d (cV L) (jV L)))) :
    iprop(tokX d L A2 fA q ∗ own d L X f ∗ semVal ((V d (cV L) (jV L) : Thread nD τ), SemLoc.dma e.sem) 0)
      ⊢ iprop((flyX d L A2 fA q X e o -∗ wp (M := 𝕄) frame (wpE (defs₀ (F := F)) 𝒱₀ (V d (cV L) (jV L)) none) Set.univ (k ⟨⟩) Q)
        -∗ wp (M := 𝕄) frame (wpE (defs₀ (F := F)) 𝒱₀ (V d (cV L) (jV L)) none) Set.univ
          (.op (.enqueueDmaAs (A2.slice (Rect.unit (s := S100000x128) off S1000x16.size hin) hs) (.here X) .same (.dma e.sem) hsrc hdst hsem) k) Q) := by
  iintro ⟨Ht, HX, Hv⟩ Hk
  iapply (Transfers.wp_dmaFromWhole (EC (F := F)) 𝒱₀ (V d (cV L) (jV L)) none (none : HIx 2) X.view.dmaCredit (rfl : X.view.amount (.dma e.sem) = _)
    (View.amount_pos X.view (.dma e.sem) (show 0 < S1000x16.numel by decide)) (Finset.Subset.refl _)) $$ [Ht HX Hv]
  · isplitl [Ht]; · iexact Ht
    isplitl [HX]; · iexact HX
    iexact Hv
  iintro Hfl
  iapply Hk
  iapply (Transfers.Flight_mono (EC (F := F)) (V d (cV L) (jV L)) (by
    iintro ⟨HX, Ht⟩
    isplitl [HX]
    · iexists _; isplitl [HX]; · iexact HX
      ipureintro; exact data_x d L A2 fA X o ho off hin hoff hs f
    iexact Ht)) $$ Hfl

/-- A copy of their segment numbers starts. -/
theorem start_b {α : Type} {k : PUnit → Prog (TpuEff nD τ sig (Elt F) Λ₀ (V d (cV L) (jV L)).2) α} {Q : α → sProp 𝕄} (o : ℕ) (ho : o + 1000 ≤ 25000) (off : Fin 1 → ℕ) (hin) (hoff : off = ![row0 L + o]) (hs) (hs')
    {hsrc} {hdst} {hsem} (f : Buf (Elt F) (B.view.loc (V d (cV L) (jV L)))) :
    iprop(tokB d L A3 fI q ∗ own d L B f ∗ semVal ((V d (cV L) (jV L) : Thread nD τ), SemLoc.dma e.sem) 0)
      ⊢ iprop((flyB d L A3 fI q B e o -∗ wp (M := 𝕄) frame (wpE (defs₀ (F := F)) 𝒱₀ (V d (cV L) (jV L)) none) Set.univ (k ⟨⟩) Q)
        -∗ wp (M := 𝕄) frame (wpE (defs₀ (F := F)) 𝒱₀ (V d (cV L) (jV L)) none) Set.univ
          (.op (.enqueueDmaAs (A3.slice (Rect.unit (s := S100000) off S1000.size hin) hs)
            (.here (B.slice (Rect.unit (s := S1016) ![0] S1000.size inb_S1016_S1000_0) hs')) .same (.dma e.sem) hsrc hdst hsem) k) Q) := by
  iintro ⟨Ht, HX, Hv⟩ Hk
  iapply (Transfers.wp_dmaFromWhole (EC (F := F)) 𝒱₀ (V d (cV L) (jV L)) none (none : HIx 2)
    (B.slice (Rect.unit (s := S1016) ![0] S1000.size inb_S1016_S1000_0) hs').view.dmaCredit
    (rfl : (B.slice (Rect.unit (s := S1016) ![0] S1000.size inb_S1016_S1000_0) hs').view.amount (.dma e.sem) = _)
    (View.amount_pos _ (.dma e.sem) (show 0 < S1000.numel by decide)) (View.set_slice_subset _ _)) $$ [Ht HX Hv]
  · isplitl [Ht]; · iexact Ht
    isplitl [HX]; · iexact HX
    iexact Hv
  iintro Hfl
  iapply Hk
  iapply (Transfers.Flight_mono (EC (F := F)) (V d (cV L) (jV L)) (by
    iintro ⟨HX, Ht⟩
    isplitl [HX]
    · iexists _; isplitl [HX]; · iexact HX
      ipureintro; exact data_b d L A3 fI B o ho off hin hoff hs hs' f
    iexact Ht)) $$ Hfl

end Cert.Proof
-- ==== Proof.Chunk.lean ====
/-
  The loops of a chunk: 31 blocks, and then 8 rows.
-/
module

public import proofs.«01_k».proof.Proof.Copies

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

variable (A2 : Memref sig .scVector .hbm S100000x128 .f32) (hA2 : A2.IsWhole) (A3 : Memref sig .scVector .hbm S100000 .i32) (hA3 : A3.IsWhole)
  (A4 : Memref sig .scVector .hbm S32x8192 .f32) (hA4 : A4.IsWhole) (A5 : Memref sig .scVector .hbm S32x8192 .f32) (hA5 : A5.IsWhole)
  (A6 : Memref sig .scVector .hbm S32x8192 .f32) (hA6 : A6.IsWhole)
  (X : M2) (hX : X.IsWhole) (B : M1) (hB : B.IsWhole) (X' : M2) (hX' : X'.IsWhole) (B' : M1) (hB' : B'.IsWhole)
  (a11 : M8) (h11 : a11.IsWhole) (a12 : M8) (h12 : a12.IsWhole) (a13 : M8) (h13 : a13.IsWhole) (a14 : Mv) (h14 : a14.IsWhole)
  (a15 : Mv) (h15 : a15.IsWhole) (e16 e17 e18 e19 r0 r1 r2 : DmaSems sig S_)

/-- The 31 blocks of a chunk. -/
theorem loop_t3 (v29 c0 c1 : BitVec 32) (t2 : Fin k0_t2_loop.trips) (u : BitVec 32) (w : F .f32) (st : St F) (hcur : Ok st.cur)
    (fX : Buf (Elt F) (X.view.loc (V d (cV L) (jV L)))) (fB : Buf (Elt F) (B.view.loc (V d (cV L) (jV L))))
    (b : ℕ → BitVec 32) (x : ℕ → V16 F) (o : ℕ) (hx : DataX X fX x o) (hb : DataB B fB b o) (hok : ∀ n, Ok (b n)) :
    iprop(own d L X fX ∗ own d L B fB ∗ accs d L a11 a12 a13 st ∗ holds d L a14 st.sm ∗ holds d L a15 st.mx)
      ⊢ wp (M := 𝕄) frame (wpE (defs₀ (F := F)) 𝒱₀ (V d (cV L) (jV L)) none) Set.univ
          (k0_t3_loop.for k0_t3_ok (st.cur, st.cnt) (k0_t3_body L A2 hA2 A3 hA3 A4 hA4 A5 hA5 A6 hA6 X hX B hB X' hX' B' hB' a11 h11 a12 h12 a13 h13 a14 h14 a15 h15 e16 e17 e18 e19 r0 r1 r2 v29 c0 c1 t2 u w))
          fun acc => iprop(own d L X fX ∗ own d L B fB ∗ accs d L a11 a12 a13 (blocks b x o 31 st)
            ∗ holds d L a14 (blocks b x o 31 st).sm ∗ holds d L a15 (blocks b x o 31 st).mx
            ∗ ⌜acc = ((blocks b x o 31 st).cur, (blocks b x o 31 st).cnt)⌝) := by
  iintro ⟨HX, HB, HA, H14, H15⟩
  sl_for (fun n acc => iprop(own d L X fX ∗ own d L B fB ∗ accs d L a11 a12 a13 (blocks b x o n st)
      ∗ holds d L a14 (blocks b x o n st).sm ∗ holds d L a15 (blocks b x o n st).mx
      ∗ ⌜acc = ((blocks b x o n st).cur, (blocks b x o n st).cnt)⌝)) $$ [HX HB HA H14 H15]
  case region =>
    intro n acc
    iintro ⟨HX, HB, HA, H14, H15, %hacc⟩
    subst hacc
    iapply (block_t3 d L A2 hA2 A3 hA3 A4 hA4 A5 hA5 A6 hA6 X hX B hB X' hX' B' hB' a11 h11 a12 h12 a13 h13 a14 h14 a15 h15 e16 e17 e18 e19 r0 r1 r2 v29 c0 c1 t2 u w n (blocks b x o n.val st) (blocks_ok b x o hok st hcur _) fX fB b x o hx hb hok)
    iframe HX HB HA H14 H15
  isplitl [HX HB HA H14 H15]
  · isplitl [HX]; · iexact HX
    isplitl [HB]; · iexact HB
    isplitl [HA]; · iexact HA
    isplitl [H14]; · iexact H14
    isplitl [H15]; · iexact H15
    ipureintro; rfl
  iintro %acc HI
  rw [show Scf.trips k0_t3_loop.lb k0_t3_loop.ub k0_t3_loop.st = 31 from trips_t3]
  iexact HI

/-- The last 8 rows of a chunk. -/
theorem loop_t6 (v29 c0 c1 : BitVec 32) (t2 : Fin k0_t2_loop.trips) (u : BitVec 32) (w : F .f32) (st : St F) (hcur : Ok st.cur)
    (fX : Buf (Elt F) (X.view.loc (V d (cV L) (jV L)))) (fB : Buf (Elt F) (B.view.loc (V d (cV L) (jV L))))
    (b : ℕ → BitVec 32) (x : ℕ → V16 F) (o : ℕ) (hx : DataX X fX x o) (hb : DataB B fB b o) (hok : ∀ n, Ok (b n)) :
    iprop(own d L X fX ∗ own d L B fB ∗ accs d L a11 a12 a13 st)
      ⊢ wp (M := 𝕄) frame (wpE (defs₀ (F := F)) 𝒱₀ (V d (cV L) (jV L)) none) Set.univ
          (k0_t6_loop.for k0_t6_ok (regs st) (k0_t6_body L A2 hA2 A3 hA3 A4 hA4 A5 hA5 A6 hA6 X hX B hB X' hX' B' hB' a11 h11 a12 h12 a13 h13 a14 h14 a15 h15 e16 e17 e18 e19 r0 r1 r2 v29 c0 c1 t2 u w))
          fun acc => iprop(own d L X fX ∗ own d L B fB ∗ accs d L a11 a12 a13 (rows b x (o + 992) 8 st) ∗ ⌜acc = regs (rows b x (o + 992) 8 st)⌝) := by
  iintro ⟨HX, HB, HA⟩
  sl_for (fun n acc => iprop(own d L X fX ∗ own d L B fB ∗ accs d L a11 a12 a13 (rows b x (o + 992) n st)
      ∗ ⌜acc = regs (rows b x (o + 992) n st)⌝)) $$ [HX HB HA]
  case region =>
    intro n acc
    iintro ⟨HX, HB, HA, %hacc⟩
    subst hacc
    have hr := row_t6 d L A2 hA2 A3 hA3 A4 hA4 A5 hA5 A6 hA6 X hX B hB X' hX' B' hB' a11 h11 a12 h12 a13 h13 a14 h14 a15 h15 e16 e17 e18 e19 r0 r1 r2 v29 c0 c1 t2 u w n (rows b x (o + 992) n.val st) (rows_ok b x _ hok st hcur _) fX fB b x o hx hb
    rw [← Nat.add_assoc o] at hr
    iapply hr
    iframe HX HB HA
  isplitl [HX HB HA]
  · isplitl [HX]; · iexact HX
    isplitl [HB]; · iexact HB
    isplitl [HA]; · iexact HA
    ipureintro; rfl
  iintro %acc HI
  rw [show Scf.trips k0_t6_loop.lb k0_t6_loop.ub k0_t6_loop.st = 8 from trips_t6]
  iexact HI

/-- The same of the chunk in the other buffers. -/
theorem loop_t7 (v29 : BitVec 32) (t2 : Fin k0_t2_loop.trips) (v94 p : BitVec 32) (q : F .f32) (r : FVec F S16 .f32) (st : St F) (hcur : Ok st.cur)
    (fX : Buf (Elt F) (X'.view.loc (V d (cV L) (jV L)))) (fB : Buf (Elt F) (B'.view.loc (V d (cV L) (jV L))))
    (b : ℕ → BitVec 32) (x : ℕ → V16 F) (o : ℕ) (hx : DataX X' fX x o) (hb : DataB B' fB b o) (hok : ∀ n, Ok (b n)) :
    iprop(own d L X' fX ∗ own d L B' fB ∗ accs d L a11 a12 a13 st ∗ holds d L a14 st.sm ∗ holds d L a15 st.mx)
      ⊢ wp (M := 𝕄) frame (wpE (defs₀ (F := F)) 𝒱₀ (V d (cV L) (jV L)) none) Set.univ
          (k0_t7_loop.for k0_t7_ok (st.cur, st.cnt) (k0_t7_body L A2 hA2 A3 hA3 A4 hA4 A5 hA5 A6 hA6 X hX B hB X' hX' B' hB' a11 h11 a12 h12 a13 h13 a14 h14 a15 h15 e16 e17 e18 e19 r0 r1 r2 v29 t2 v94 p q r))
          fun acc => iprop(own d L X' fX ∗ own d L B' fB ∗ accs d L a11 a12 a13 (blocks b x o 31 st)
            ∗ holds d L a14 (blocks b x o 31 st).sm ∗ holds d L a15 (blocks b x o 31 st).mx
            ∗ ⌜acc = ((blocks b x o 31 st).cur, (blocks b x o 31 st).cnt)⌝) :=
  loop_t3 d L A2 hA2 A3 hA3 A4 hA4 A5 hA5 A6 hA6 X' hX' B' hB' X hX B hB a11 h11 a12 h12 a13 h13 a14 h14 a15 h15 e16 e17 e18 e19 r0 r1 r2 v29 0 0 t2 0 q st hcur fX fB b x o hx hb hok

theorem loop_t10 (v29 : BitVec 32) (t2 : Fin k0_t2_loop.trips) (v94 p : BitVec 32) (q : F .f32) (r : FVec F S16 .f32) (st : St F) (hcur : Ok st.cur)
    (fX : Buf (Elt F) (X'.view.loc (V d (cV L) (jV L)))) (fB : Buf (Elt F) (B'.view.loc (V d (cV L) (jV L))))
    (b : ℕ → BitVec 32) (x : ℕ → V16 F) (o : ℕ) (hx : DataX X' fX x o) (hb : DataB B' fB b o) (hok : ∀ n, Ok (b n)) :
    iprop(own d L X' fX ∗ own d L B' fB ∗ accs d L a11 a12 a13 st)
      ⊢ wp (M := 𝕄) frame (wpE (defs₀ (F := F)) 𝒱₀ (V d (cV L) (jV L)) none) Set.univ
          (k0_t10_loop.for k0_t10_ok (regs st) (k0_t10_body L A2 hA2 A3 hA3 A4 hA4 A5 hA5 A6 hA6 X hX B hB X' hX' B' hB' a11 h11 a12 h12 a13 h13 a14 h14 a15 h15 e16 e17 e18 e19 r0 r1 r2 v29 t2 v94 p q r))
          fun acc => iprop(own d L X' fX ∗ own d L B' fB ∗ accs d L a11 a12 a13 (rows b x (o + 992) 8 st) ∗ ⌜acc = regs (rows b x (o + 992) 8 st)⌝) :=
  loop_t6 d L A2 hA2 A3 hA3 A4 hA4 A5 hA5 A6 hA6 X' hX' B' hB' X hX B hB a11 h11 a12 h12 a13 h13 a14 h14 a15 h15 e16 e17 e18 e19 r0 r1 r2 v29 0 0 t2 0 q st hcur fX fB b x o hx hb hok

/-- The same of the last chunk. -/
theorem loop_t11 (v29 : BitVec 32) (v31 v32 : FVec F S16 .f32) (st : St F) (hcur : Ok st.cur)
    (fX : Buf (Elt F) (X.view.loc (V d (cV L) (jV L)))) (fB : Buf (Elt F) (B.view.loc (V d (cV L) (jV L))))
    (b : ℕ → BitVec 32) (x : ℕ → V16 F) (o : ℕ) (hx : DataX X fX x o) (hb : DataB B fB b o) (hok : ∀ n, Ok (b n)) :
    iprop(own d L X fX ∗ own d L B fB ∗ accs d L a11 a12 a13 st ∗ holds d L a14 st.sm ∗ holds d L a15 st.mx)
      ⊢ wp (M := 𝕄) frame (wpE (defs₀ (F := F)) 𝒱₀ (V d (cV L) (jV L)) none) Set.univ
          (k0_t11_loop.for k0_t11_ok (st.cur, st.cnt) (k0_t11_body L A2 hA2 A3 hA3 A4 hA4 A5 hA5 A6 hA6 X hX B hB X' hX' B' hB' a11 h11 a12 h12 a13 h13 a14 h14 a15 h15 e16 e17 e18 e19 r0 r1 r2 v29 v31 v32))
          fun acc => iprop(own d L X fX ∗ own d L B fB ∗ accs d L a11 a12 a13 (blocks b x o 31 st)
            ∗ holds d L a14 (blocks b x o 31 st).sm ∗ holds d L a15 (blocks b x o 31 st).mx
            ∗ ⌜acc = ((blocks b x o 31 st).cur, (blocks b x o 31 st).cnt)⌝) :=
  loop_t3 d L A2 hA2 A3 hA3 A4 hA4 A5 hA5 A6 hA6 X hX B hB X' hX' B' hB' a11 h11 a12 h12 a13 h13 a14 h14 a15 h15 e16 e17 e18 e19 r0 r1 r2 v29 0 0 ⟨0, by decide +kernel⟩ 0 st.cnt st hcur fX fB b x o hx hb hok

theorem loop_t14 (p : BitVec 32) (q : F .f32) (v62 v64 : FVec F S16 .f32) (c992 c8 : BitVec 32) (st : St F) (hcur : Ok st.cur)
    (fX : Buf (Elt F) (X.view.loc (V d (cV L) (jV L)))) (fB : Buf (Elt F) (B.view.loc (V d (cV L) (jV L))))
    (b : ℕ → BitVec 32) (x : ℕ → V16 F) (o : ℕ) (hx : DataX X fX x o) (hb : DataB B fB b o) (hok : ∀ n, Ok (b n)) :
    iprop(own d L X fX ∗ own d L B fB ∗ accs d L a11 a12 a13 st)
      ⊢ wp (M := 𝕄) frame (wpE (defs₀ (F := F)) 𝒱₀ (V d (cV L) (jV L)) none) Set.univ
          (k0_t14_loop.for k0_t14_ok (regs st) (k0_t14_body L A2 hA2 A3 hA3 A4 hA4 A5 hA5 A6 hA6 X hX B hB X' hX' B' hB' a11 h11 a12 h12 a13 h13 a14 h14 a15 h15 e16 e17 e18 e19 r0 r1 r2 p q v62 v64 c992 c8))
          fun acc => iprop(own d L X fX ∗ own d L B fB ∗ accs d L a11 a12 a13 (rows b x (o + 992) 8 st) ∗ ⌜acc = regs (rows b x (o + 992) 8 st)⌝) :=
  loop_t6 d L A2 hA2 A3 hA3 A4 hA4 A5 hA5 A6 hA6 X hX B hB X' hX' B' hB' a11 h11 a12 h12 a13 h13 a14 h14 a15 h15 e16 e17 e18 e19 r0 r1 r2 0 0 0 ⟨0, by decide +kernel⟩ 0 q st hcur fX fB b x o hx hb hok

end Cert.Proof
-- ==== Proof.Pair.lean ====
/-
  One trip of the loop over pairs of chunks: chunk `2 * t` is processed while chunk `2 * t + 1` comes in, and then that one
  while chunk `2 * t + 2` comes in.
-/
module

public import proofs.«01_k».proof.Proof.In
public import proofs.«01_k».proof.Proof.Chunk

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

variable (A2 : Memref sig .scVector .hbm S100000x128 .f32) (hA2 : A2.IsWhole) (A3 : Memref sig .scVector .hbm S100000 .i32) (hA3 : A3.IsWhole)
  (A4 : Memref sig .scVector .hbm S32x8192 .f32) (hA4 : A4.IsWhole) (A5 : Memref sig .scVector .hbm S32x8192 .f32) (hA5 : A5.IsWhole)
  (A6 : Memref sig .scVector .hbm S32x8192 .f32) (hA6 : A6.IsWhole)
  (X : M2) (hX : X.IsWhole) (B : M1) (hB : B.IsWhole) (X' : M2) (hX' : X'.IsWhole) (B' : M1) (hB' : B'.IsWhole)
  (a11 : M8) (h11 : a11.IsWhole) (a12 : M8) (h12 : a12.IsWhole) (a13 : M8) (h13 : a13.IsWhole) (a14 : Mv) (h14 : a14.IsWhole)
  (a15 : Mv) (h15 : a15.IsWhole) (e16 e17 e18 e19 r0 r1 r2 : DmaSems sig S_)

variable (fA : Buf (Elt F) (A2.view.loc (V d (cV L) (jV L)))) (fI : Buf (Elt F) (A3.view.loc (V d (cV L) (jV L))))
  (q0 q1 : PosShare TreeShare) (O : CellTallies nD τ sig (HIx 2)) (W : Waits sig (HIx 2))

/-- A semaphore of the tile, at zero. -/
abbrev zero (e : DmaSems sig S_) : sProp 𝕄 := semVal ((V d (cV L) (jV L) : Thread nD τ), SemLoc.dma e.sem) 0

/-- What the tile owes, the waits it has made recorded. -/
abbrev owing (n : Fin 2) : sProp 𝕄 := iprop(∃ W', ⌜∀ p ∈ W', p ∈ W ∨ p.2 = none ∨ p.2 = some n⌝ ∗ owes (V d (cV L) (jV L)) O W')

/-- The state after `n` chunks. -/
abbrev stAt (n : ℕ) : St F := chunks (bt d L A3 fI) (xt d L A2 fA) n st0

/-- Before pair `k`: the state is the one after `2 * k` chunks, and the next chunk is on its way in. -/
abbrev pairInv (k : ℕ) (acc : BitVec 32 × F .f32) : sProp 𝕄 :=
  iprop(Transfers.MayWaits (V d (cV L) (jV L)) (none : HIx 2) O
    ∗ flyX d L A2 fA q0 X e16 (1000 * (2 * k)) ∗ flyB d L A3 fI q0 B e17 (1000 * (2 * k))
    ∗ tokX d L A2 fA q1 ∗ tokB d L A3 fI q1 ∗ (∃ f, own d L X' f) ∗ (∃ f, own d L B' f) ∗ zero d L e18 ∗ zero d L e19
    ∗ accs d L a11 a12 a13 (stAt d L A2 A3 fA fI (2 * k)) ∗ holds d L a14 (stAt d L A2 A3 fA fI (2 * k)).sm ∗ holds d L a15 (stAt d L A2 A3 fA fI (2 * k)).mx
    ∗ owing d L O W 0
    ∗ ⌜acc = ((stAt d L A2 A3 fA fI (2 * k)).cur, (stAt d L A2 A3 fA fI (2 * k)).cnt)⌝)

theorem chunks_ok (b : ℕ → BitVec 32) (x : ℕ → V16 F) (hb : ∀ n, Ok (b n)) : ∀ n, Ok (chunks b x n st0).cur
  | 0 => show Ok 4294967295#32 by unfold Ok slot; decide
  | _ + 1 => rows_ok b x _ hb _ (blocks_ok b x _ hb _ (chunks_ok b x hb _) 31) 8

/-- A vector buffer just stored whole holds what was stored. -/
theorem stored (a : Mv) (f : Buf (Elt F) (a.view.loc (V d (cV L) (jV L)))) (p p' : V16 F) (hp : p' = p) :
    iprop((a.access (Rect.unit (s := S16) ![0] S16.size inb_S16_S16_0)).loc (V d (cV L) (jV L)) ↦[a.view.set]{fullShare}
        ((a.access (Rect.unit (s := S16) ![0] S16.size inb_S16_S16_0)).write (Elt F) f p' Finset.univ))
      ⊢ (holds d L a p : sProp 𝕄) := by
  iintro H
  iexists ((a.access (Rect.unit (s := S16) ![0] S16.size inb_S16_S16_0)).write (Elt F) f p' Finset.univ)
  isplitl [H]; · iexact H
  ipureintro
  show a.view.read (Elt F) (a.view.writes (Elt F) f [⟨Rect.unit (s := S16) ![0] S16.size inb_S16_S16_0, p'⟩]) = p
  rw [read_whole]; exact hp

/-- A pair of chunks: the first is added up while the second comes in, and then the second while the next comes in. -/
theorem pair_t2 (v29 : BitVec 32) (v31 v32 : FVec F S16 .f32) (t2 : Fin k0_t2_loop.trips) (acc : BitVec 32 × F .f32)
    (hok : ∀ n, Ok (bt d L A3 fI n)) :
    pairInv d L A2 A3 X B X' B' a11 a12 a13 a14 a15 e16 e17 e18 e19 fA fI q0 q1 O W t2.val acc
      ⊢ wp (M := 𝕄) frame (wpE (defs₀ (F := F)) 𝒱₀ (V d (cV L) (jV L)) none) Set.univ
          (k0_t2_body L A2 hA2 A3 hA3 A4 hA4 A5 hA5 A6 hA6 X hX B hB X' hX' B' hB' a11 h11 a12 h12 a13 h13 a14 h14 a15 h15 e16 e17 e18 e19 r0 r1 r2 v29 v31 v32 t2 acc)
          fun acc' => pairInv d L A2 A3 X B X' B' a11 a12 a13 a14 a15 e16 e17 e18 e19 fA fI q0 q1 O W (t2.val + 1) acc' := by
  have ht : t2.val < 12 := lt_of_lt_of_eq t2.isLt trips_t2
  obtain ⟨acc0, acc1⟩ := acc
  unfold k0_t2_body
  simp only [k0_part9_eq_skeleton, k0_part10_eq_skeleton]
  unfold k0_part9_skel k0_part10_skel
  simp only [Prog.lift, Prog.bind_op, Prog.bind_ret, Prog.pure_eq_ret, Prog.bind_assoc]
  iintro ⟨#Hmw, HfX, HfB, HtX, HtB, ⟨%gX, HX'⟩, ⟨%gB, HB'⟩, Hz18, Hz19, HA, H14, H15, ⟨%W', %hW', HO⟩, %hacc⟩
  obtain ⟨rfl, rfl⟩ := Prod.mk.inj hacc
  iapply (Transfers.wp_waitLocalO (EC (F := F)) 𝒱₀ (V d (cV L) (jV L)) none (none : HIx 2) rfl) $$ [HfX HO]
  · isplitl [HfX]; · iexact HfX
    isplitl [HO]; · iexact HO
    iapply (Transfers.MayWaits.elim (SemLoc.dma e16.sem)) $$ Hmw
  iintro ⟨⟨⟨%fX, HX, %hx⟩, HtX0⟩, Hz16, HO⟩
  iapply (Transfers.wp_waitLocalO (EC (F := F)) 𝒱₀ (V d (cV L) (jV L)) none (none : HIx 2) rfl) $$ [HfB HO]
  · isplitl [HfB]; · iexact HfB
    isplitl [HO]; · iexact HO
    iapply (Transfers.MayWaits.elim (SemLoc.dma e17.sem)) $$ Hmw
  iintro ⟨⟨⟨%fB, HB, %hb⟩, HtB0⟩, Hz17, HO⟩
  iapply (start_x d L A2 fA q1 X' e18 (1000 * (2 * t2.val + 1)) (by omega) _ _ ((off6_eq L t2 0).trans (by simp)) _ gX) $$ [HtX HX' Hz18]
  · isplitl [HtX]; · iexact HtX
    isplitl [HX']; · iexact HX'
    iexact Hz18
  iintro HfX
  iapply (start_b d L A3 fI q1 B' e19 (1000 * (2 * t2.val + 1)) (by omega) _ _ ((off7_eq L t2 0).trans (by simp)) _ _ gB) $$ [HtB HB' Hz19]
  · isplitl [HtB]; · iexact HtB
    isplitl [HB']; · iexact HB'
    iexact Hz19
  iintro HfB
  -- chunk `2 * t2` while the next one comes in
  have hc := chunks_ok (bt d L A3 fI) (xt d L A2 fA) hok (2 * t2.val)
  change Ok (stAt d L A2 A3 fA fI (2 * t2.val)).cur at hc
  generalize hst : stAt d L A2 A3 fA fI (2 * t2.val) = st at *
  rw [wp_bind]
  iapply (wp_wand_r frame (wpE (defs₀ (F := F)) 𝒱₀ (V d (cV L) (jV L)) none) Set.univ)
  isplitl [HX HB HA H14 H15]
  · iapply (loop_t3 d L A2 hA2 A3 hA3 A4 hA4 A5 hA5 A6 hA6 X hX B hB X' hX' B' hB' a11 h11 a12 h12 a13 h13 a14 h14 a15 h15 e16 e17 e18 e19 r0 r1 r2 v29 0#32 1#32 t2 st.cur st.cnt st hc fX fB _ _ _ hx hb hok)
    iframe HX HB HA H14 H15
  iintro %acc ⟨HX, HB, HA, ⟨%f14, H14, %e14⟩, ⟨%f15, H15, %e15⟩, %hacc⟩
  subst hacc
  sl_step
  sl_step
  have hc1 := blocks_ok (bt d L A3 fI) (xt d L A2 fA) (1000 * (2 * t2.val)) hok st hc 31
  generalize hst1 : blocks (bt d L A3 fI) (xt d L A2 fA) (1000 * (2 * t2.val)) 31 st = st1 at *
  have p14 : k0_pay103 (a14.view.readAt (Elt F) (Rect.unit (s := S16) ![0] S16.size inb_S16_S16_0).toLoadRect f14) = st1.sm :=
    (shapeCast_self (s := S16) _ _).trans ((readAt_whole a14 f14 _).trans e14)
  have p15 : k0_pay104 (a15.view.readAt (Elt F) (Rect.unit (s := S16) ![0] S16.size inb_S16_S16_0).toLoadRect f15) = st1.mx :=
    (shapeCast_self (s := S16) _ _).trans ((readAt_whole a15 f15 _).trans e15)
  rw [p14, p15]
  rw [wp_bind]
  iapply (wp_wand_r frame (wpE (defs₀ (F := F)) 𝒱₀ (V d (cV L) (jV L)) none) Set.univ)
  isplitl [HX HB HA]
  · iapply (loop_t6 d L A2 hA2 A3 hA3 A4 hA4 A5 hA5 A6 hA6 X hX B hB X' hX' B' hB' a11 h11 a12 h12 a13 h13 a14 h14 a15 h15 e16 e17 e18 e19 r0 r1 r2 v29 0#32 1#32 t2 st.cur st.cnt st1 hc1 fX fB _ _ _ hx hb hok)
    iframe HX HB HA
  iintro %acc ⟨HX, HB, HA, %hacc⟩
  subst hacc
  have hst2 : rows (bt d L A3 fI) (xt d L A2 fA) (1000 * (2 * t2.val) + 992) 8 st1 = stAt d L A2 A3 fA fI (2 * t2.val + 1) := by
    rw [← hst1, ← hst]; rfl
  rw [hst2]
  have hc2 := chunks_ok (bt d L A3 fI) (xt d L A2 fA) hok (2 * t2.val + 1)
  change Ok (stAt d L A2 A3 fA fI (2 * t2.val + 1)).cur at hc2
  generalize hst3 : stAt d L A2 A3 fA fI (2 * t2.val + 1) = st2 at *
  sl_step
  sl_step
  sl_step
  sl_step
  -- the next one is in; the one after it starts
  iapply (Transfers.wp_waitLocalO (EC (F := F)) 𝒱₀ (V d (cV L) (jV L)) none (none : HIx 2) rfl) $$ [HfX HO]
  · isplitl [HfX]; · iexact HfX
    isplitl [HO]; · iexact HO
    iapply (Transfers.MayWaits.elim (SemLoc.dma e18.sem)) $$ Hmw
  iintro ⟨⟨⟨%fX', HX', %hx'⟩, HtX⟩, Hz18, HO⟩
  iapply (Transfers.wp_waitLocalO (EC (F := F)) 𝒱₀ (V d (cV L) (jV L)) none (none : HIx 2) rfl) $$ [HfB HO]
  · isplitl [HfB]; · iexact HfB
    isplitl [HO]; · iexact HO
    iapply (Transfers.MayWaits.elim (SemLoc.dma e19.sem)) $$ Hmw
  iintro ⟨⟨⟨%fB', HB', %hb'⟩, HtB⟩, Hz19, HO⟩
  iapply (start_x d L A2 fA q0 X e16 (1000 * (2 * (t2.val + 1))) (by omega) _ _ ((off6_eq L t2 1).trans (by simp; omega)) _ fX) $$ [HtX0 HX Hz16]
  · isplitl [HtX0]; · iexact HtX0
    isplitl [HX]; · iexact HX
    iexact Hz16
  iintro HfX
  iapply (start_b d L A3 fI q0 B e17 (1000 * (2 * (t2.val + 1))) (by omega) _ _ ((off7_eq L t2 1).trans (by simp; omega)) _ _ fB) $$ [HtB0 HB Hz17]
  · isplitl [HtB0]; · iexact HtB0
    isplitl [HB]; · iexact HB
    iexact Hz17
  iintro HfB
  -- chunk `2 * t2 + 1`
  rw [wp_bind]
  iapply (wp_wand_r frame (wpE (defs₀ (F := F)) 𝒱₀ (V d (cV L) (jV L)) none) Set.univ)
  isplitl [HX' HB' HA H14 H15]
  · iapply (loop_t7 d L A2 hA2 A3 hA3 A4 hA4 A5 hA5 A6 hA6 X hX B hB X' hX' B' hB' a11 h11 a12 h12 a13 h13 a14 h14 a15 h15 e16 e17 e18 e19 r0 r1 r2 v29 t2 _ _ _ _ st2 hc2 fX' fB' _ _ _ hx' hb' hok)
    isplitl [HX']; · iexact HX'
    isplitl [HB']; · iexact HB'
    isplitl [HA]; · iexact HA
    isplitl [H14]
    · iapply (stored d L a14 f14 st2.sm (k0_pay113 st2.sm) (shapeCast_self (s := S16) _ _)) $$ H14
    iapply (stored d L a15 f15 st2.mx (k0_pay114 st2.mx) (shapeCast_self (s := S16) _ _)) $$ H15
  iintro %acc ⟨HX', HB', HA, ⟨%g14, H14, %h14'⟩, ⟨%g15, H15, %h15'⟩, %hacc⟩
  subst hacc
  sl_step
  sl_step
  have hc3 := blocks_ok (bt d L A3 fI) (xt d L A2 fA) (1000 * (2 * t2.val + 1)) hok st2 hc2 31
  generalize hst4 : blocks (bt d L A3 fI) (xt d L A2 fA) (1000 * (2 * t2.val + 1)) 31 st2 = st3 at *
  have p14' : k0_pay143 (a14.view.readAt (Elt F) (Rect.unit (s := S16) ![0] S16.size inb_S16_S16_0).toLoadRect g14) = st3.sm :=
    (shapeCast_self (s := S16) _ _).trans ((readAt_whole a14 g14 _).trans h14')
  have p15' : k0_pay144 (a15.view.readAt (Elt F) (Rect.unit (s := S16) ![0] S16.size inb_S16_S16_0).toLoadRect g15) = st3.mx :=
    (shapeCast_self (s := S16) _ _).trans ((readAt_whole a15 g15 _).trans h15')
  rw [p14', p15']
  rw [wp_bind]
  iapply (wp_wand_r frame (wpE (defs₀ (F := F)) 𝒱₀ (V d (cV L) (jV L)) none) Set.univ)
  isplitl [HX' HB' HA]
  · iapply (loop_t10 d L A2 hA2 A3 hA3 A4 hA4 A5 hA5 A6 hA6 X hX B hB X' hX' B' hB' a11 h11 a12 h12 a13 h13 a14 h14 a15 h15 e16 e17 e18 e19 r0 r1 r2 v29 t2 _ _ _ _ st3 hc3 fX' fB' _ _ _ hx' hb' hok)
    iframe HX' HB' HA
  iintro %acc ⟨HX', HB', HA, %hacc⟩
  subst hacc
  have hst5 : rows (bt d L A3 fI) (xt d L A2 fA) (1000 * (2 * t2.val + 1) + 992) 8 st3 = stAt d L A2 A3 fA fI (2 * (t2.val + 1)) := by
    rw [← hst4, ← hst3]; rfl
  rw [hst5]
  sl_step
  sl_step
  sl_step
  sl_step
  sl_step
  isplitl [Hmw]; · iexact Hmw
  isplitl [HfX]; · iexact HfX
  isplitl [HfB]; · iexact HfB
  isplitl [HtX]; · iexact HtX
  isplitl [HtB]; · iexact HtB
  isplitl [HX']; · iexists fX'; iexact HX'
  isplitl [HB']; · iexists fB'; iexact HB'
  isplitl [Hz18]; · iexact Hz18
  isplitl [Hz19]; · iexact Hz19
  isplitl [HA]; · iexact HA
  isplitl [H14]
  · iapply (stored d L a14 g14 (stAt d L A2 A3 fA fI (2 * (t2.val + 1))).sm (k0_pay197 (stAt d L A2 A3 fA fI (2 * (t2.val + 1))).sm) (shapeCast_self (s := S16) _ _)) $$ H14
  isplitl [H15]
  · iapply (stored d L a15 g15 (stAt d L A2 A3 fA fI (2 * (t2.val + 1))).mx (k0_pay198 (stAt d L A2 A3 fA fI (2 * (t2.val + 1))).mx) (shapeCast_self (s := S16) _ _)) $$ H15
  isplitl [HO]
  · iexists _
    isplitr [HO]; rotate_left; · iexact HO
    ipureintro
    intro p hp
    simp only [Finset.mem_insert] at hp
    rcases hp with rfl | rfl | rfl | rfl | hp
    iterate 4 exact .inr (.inl rfl)
    exact hW' p hp
  ipureintro
  rfl

end Cert.Proof
-- ==== Proof.Out.lean ====
/-
  The start and the end of the first call's task: the accumulators cleared, and their slots 1 … 512 copied to the task's
  row of the result.
-/
module

public import proofs.«01_k».proof.Proof.Pair

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

variable (A2 : Memref sig .scVector .hbm S100000x128 .f32) (hA2 : A2.IsWhole) (A3 : Memref sig .scVector .hbm S100000 .i32) (hA3 : A3.IsWhole)
  (A4 : Memref sig .scVector .hbm S32x8192 .f32) (hA4 : A4.IsWhole) (A5 : Memref sig .scVector .hbm S32x8192 .f32) (hA5 : A5.IsWhole)
  (A6 : Memref sig .scVector .hbm S32x8192 .f32) (hA6 : A6.IsWhole)
  (X : M2) (hX : X.IsWhole) (B : M1) (hB : B.IsWhole) (X' : M2) (hX' : X'.IsWhole) (B' : M1) (hB' : B'.IsWhole)
  (a11 : M8) (h11 : a11.IsWhole) (a12 : M8) (h12 : a12.IsWhole) (a13 : M8) (h13 : a13.IsWhole) (a14 : Mv) (h14 : a14.IsWhole)
  (a15 : Mv) (h15 : a15.IsWhole) (e16 e17 e18 e19 r0 r1 r2 : DmaSems sig S_)

variable (fA : Buf (Elt F) (A2.view.loc (V d (cV L) (jV L)))) (fI : Buf (Elt F) (A3.view.loc (V d (cV L) (jV L))))
  (q0 q1 : PosShare TreeShare) (O : CellTallies nD τ sig (HIx 2)) (W : Waits sig (HIx 2))

/-- Entry `y + 16` of an accumulator. -/
abbrev ix8 (y : S8192.Idx) : S8208.Idx := fun | 0 => (⟨(y 0).val + 16, by have h : (y 0).val < 8192 := (y 0).isLt; omega⟩ : Fin 8208) | ⟨_ + 1, h⟩ => absurd h (Nat.not_lt.2 (Nat.le_add_left _ _))

/-- Slots 1 … 512 of an accumulator. -/
def slots (A : Acc F) : S8192.Idx → F .f32 := fun y => A (ix8 y)

/-- The task's row of a result. -/
abbrev outM (A : Memref sig .scVector .hbm S32x8192 .f32) : Memref sig .scVector .hbm S8192 .f32 :=
  (A.slice (Rect.unit (s := S32x8192) (k0_off45 L) S1x8192.size (k0_off45_inb L)) (fun _ => rfl)).squeeze S8192 squeezes_S1x8192_S8192
/-- Slots 1 … 512 of an accumulator's buffer. -/
abbrev srcM (a : M8) : Memref sig .scVector .vmem S8192 .f32 :=
  a.slice (Rect.unit (s := S8208) ![16] S8192.size inb_S8208_S8192_16) (fun _ => rfl)

/-- The task's row of a result, held at contents that read as `p`. -/
abbrev outPts (A : Memref sig .scVector .hbm S32x8192 .f32) (f : Buf (Elt F) ((outM L A).view.loc (V d (cV L) (jV L)))) : sProp 𝕄 :=
  (outM L A).view.loc (V d (cV L) (jV L)) ↦[(outM L A).view.set]{fullShare} f
abbrev outHolds (A : Memref sig .scVector .hbm S32x8192 .f32) (p : S8192.Idx → F .f32) : sProp 𝕄 :=
  iprop(∃ f, outPts d L A f ∗ ⌜(outM L A).view.read (Elt F) f = p⌝)

theorem read_srcM (a : M8) (f : a.view.ty.Contents (Elt F)) : (srcM a).view.read (Elt F) f = slots (a.view.read (Elt F) f) := by
  funext y
  show a.view.read (Elt F) f _ = a.view.read (Elt F) f _
  congr 1
  funext k
  fin_cases k
  exact Fin.ext (show 16 + 1 * (y 0).val = (y 0).val + 16 by omega)

/-- A copy of an accumulator's slots 1 … 512 to the task's row of a result starts. -/
theorem start_out {α : Type} {k : PUnit → Prog (TpuEff nD τ sig (Elt F) Λ₀ (V d (cV L) (jV L)).2) α} {Q : α → sProp 𝕄}
    (a : M8) (A : Memref sig .scVector .hbm S32x8192 .f32) (e : DmaSems sig S_) (p : Acc F)
    {hsrc} {hdst} {hsem} (f : Buf (Elt F) ((outM L A).view.loc (V d (cV L) (jV L)))) :
    iprop(holds d L a p ∗ outPts d L A f ∗ zero d L e)
      ⊢ iprop((Transfers.Flight (EC (F := F)) (V d (cV L) (jV L)) (.dma e.sem) (none : HIx 2) (outM L A).view.dmaCredit iprop(outHolds d L A (slots p) ∗ holds d L a p)
          -∗ wp (M := 𝕄) frame (wpE (defs₀ (F := F)) 𝒱₀ (V d (cV L) (jV L)) none) Set.univ (k ⟨⟩) Q)
        -∗ wp (M := 𝕄) frame (wpE (defs₀ (F := F)) 𝒱₀ (V d (cV L) (jV L)) none) Set.univ
          (.op (.enqueueDmaAs (srcM a) (.here (outM L A)) .same (.dma e.sem) hsrc hdst hsem) k) Q) := by
  iintro ⟨⟨%g, Ha, %hg⟩, HO, Hv⟩ Hk
  have hmono : iprop((a.view.loc (V d (cV L) (jV L)) ↦[a.view.set \ (srcM a).view.set]{fullShare} g)
      ∗ ((outM L A).view.loc (V d (cV L) (jV L)) ↦[(outM L A).view.set]{fullShare} ((outM L A).view.write (Elt F) f ((srcM a).view.read (Elt F) g) Finset.univ))
      ∗ ((srcM a).view.loc (V d (cV L) (jV L)) ↦[(srcM a).view.set]{fullShare} g))
      ⊢ (iprop(outHolds d L A (slots p) ∗ holds d L a p) : sProp 𝕄) := by
    iintro ⟨Hs2, HO, Hs1⟩
    isplitl [HO]
    · iexists _; isplitl [HO]; · iexact HO
      ipureintro
      rw [View.read_write_univ]
      exact (read_srcM a g).trans (congrArg slots hg)
    iexists g
    isplitl [Hs1 Hs2]
    · iapply ((pointsTo_split_subset (View.set_slice_subset a.view (Rect.unit (s := S8208) ![16] S8192.size inb_S8208_S8192_16))).2)
      isplitl [Hs1]; · iexact Hs1
      iexact Hs2
    ipureintro; exact hg
  ihave ⟨Hs1, Hs2⟩ := ((pointsTo_split_subset (View.set_slice_subset a.view (Rect.unit (s := S8208) ![16] S8192.size inb_S8208_S8192_16))).1) $$ Ha
  iapply (Transfers.wp_dmaLocal (EC (F := F)) 𝒱₀ (V d (cV L) (jV L)) none (none : HIx 2) (outM L A).view.dmaCredit (rfl : (outM L A).view.amount (.dma e.sem) = _)
    (View.amount_pos (outM L A).view (.dma e.sem) (show 0 < S8192.numel by decide)) (Finset.Subset.refl _)) $$ [Hs1 HO Hv]
  · isplitl [Hs1]; · iexact Hs1
    isplitl [HO]; · iexact HO
    iexact Hv
  iintro Hfl
  iapply Hk
  iapply (Transfers.Flight_mono (EC (F := F)) (V d (cV L) (jV L)) hmono)
  iapply (Transfers.Flight_frame (EC (F := F)) (V d (cV L) (jV L)))
  isplitl [Hs2]; · iexact Hs2
  iexact Hfl

/-- Every entry below `16 * n` is `c`. -/
def Below (A : Acc F) (n : ℕ) (c : F .f32) : Prop := ∀ y : S8208.Idx, (y 0).val < 16 * n → A y = c

theorem below_put (A : Acc F) (n : ℕ) (c : F .f32) (h : Below A n c) : Below (put A (16 * n) (broadcast S16 c)) (n + 1) c := by
  intro y hy
  unfold put
  split
  · rfl
  · exact h y (by omega)

theorem below_all (A : Acc F) (c : F .f32) (h : Below A 513 c) : A = fun _ => c :=
  funext fun y => h y (show (y 0).val < 16 * 513 from (y 0).isLt)

abbrev clearInv (n : ℕ) : sProp 𝕄 :=
  iprop((∃ f, own d L a11 f ∗ ⌜Below (a11.view.read (Elt F) f) n (Scalar.ofBits .f32 0x00000000#32)⌝)
      ∗ (∃ f, own d L a12 f ∗ ⌜Below (a12.view.read (Elt F) f) n (Scalar.ofBits .f32 0xFF800000#32)⌝)
      ∗ (∃ f, own d L a13 f ∗ ⌜Below (a13.view.read (Elt F) f) n (Scalar.ofBits .f32 0x00000000#32)⌝))

/-- One slot cleared. -/
theorem clear_slot (n : Fin k0_t1_loop.trips) (acc : BitVec 32) :
    clearInv d L a11 a12 a13 n.val
      ⊢ wp (M := 𝕄) frame (wpE (defs₀ (F := F)) 𝒱₀ (V d (cV L) (jV L)) none) Set.univ
          (k0_t1_body L A2 hA2 A3 hA3 A4 hA4 A5 hA5 A6 hA6 X hX B hB X' hX' B' hB' a11 h11 a12 h12 a13 h13 a14 h14 a15 h15 e16 e17 e18 e19 r0 r1 r2 n acc)
          fun _ => clearInv d L a11 a12 a13 (n.val + 1) := by
  iintro ⟨⟨%g11, H11, %e11⟩, ⟨%g12, H12, %e12⟩, ⟨%g13, H13, %e13⟩⟩
  unfold k0_t1_body
  sl_exec
  sl_step
  isplitl [H11]
  · iexists _; isplitl [H11]; · iexact H11
    ipureintro; rw [read_put _ _ _ _ (k0_off1_eq n)]; exact below_put _ _ _ e11
  isplitl [H12]
  · iexists _; isplitl [H12]; · iexact H12
    ipureintro; rw [read_put _ _ _ _ (k0_off1_eq n)]; exact below_put _ _ _ e12
  · iexists _; isplitl [H13]; · iexact H13
    ipureintro; rw [read_put _ _ _ _ (k0_off1_eq n)]; exact below_put _ _ _ e13

/-- The accumulators cleared. -/
theorem clear_t1 :
    iprop((∃ f, own d L a11 f) ∗ (∃ f, own d L a12 f) ∗ (∃ f, own d L a13 f))
      ⊢ wp (M := 𝕄) frame (wpE (defs₀ (F := F)) 𝒱₀ (V d (cV L) (jV L)) none) Set.univ
          (k0_t1_loop.for k0_t1_ok 0#32 (k0_t1_body L A2 hA2 A3 hA3 A4 hA4 A5 hA5 A6 hA6 X hX B hB X' hX' B' hB' a11 h11 a12 h12 a13 h13 a14 h14 a15 h15 e16 e17 e18 e19 r0 r1 r2))
          fun _ => iprop(accs d L a11 a12 a13 st0) := by
  iintro ⟨⟨%f11, H11⟩, ⟨%f12, H12⟩, ⟨%f13, H13⟩⟩
  sl_for (fun n acc => clearInv d L a11 a12 a13 n) $$ [H11 H12 H13]
  case region =>
    intro n acc
    iintro H
    iapply (clear_slot d L A2 hA2 A3 hA3 A4 hA4 A5 hA5 A6 hA6 X hX B hB X' hX' B' hB' a11 h11 a12 h12 a13 h13 a14 h14 a15 h15 e16 e17 e18 e19 r0 r1 r2 n acc) $$ H
  isplitl [H11 H12 H13]
  · isplitl [H11]; · iexists f11; isplitl [H11]; · iexact H11
                     ipureintro; intro y hy; omega
    isplitl [H12]; · iexists f12; isplitl [H12]; · iexact H12
                     ipureintro; intro y hy; omega
    iexists f13; isplitl [H13]; · iexact H13
    ipureintro; intro y hy; omega
  iintro %acc ⟨⟨%g11, H11, %e11⟩, ⟨%g12, H12, %e12⟩, ⟨%g13, H13, %e13⟩⟩
  rw [show Scf.trips k0_t1_loop.lb k0_t1_loop.ub k0_t1_loop.st = 513 from trips_t1] at e11 e12 e13
  isplitl [H11]
  · iexists g11; isplitl [H11]; · iexact H11
    ipureintro; exact below_all _ _ e11
  isplitl [H12]
  · iexists g12; isplitl [H12]; · iexact H12
    ipureintro; exact below_all _ _ e12
  iexists g13; isplitl [H13]; · iexact H13
  ipureintro; exact below_all _ _ e13

end Cert.Proof
-- ==== Proof.Task0.lean ====
/-
  The task of the first call: the segment sums, maxima and counts of one row group and one column group.
-/
module

public import proofs.«01_k».proof.Proof.Out

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

variable (A2 : Memref sig .scVector .hbm S100000x128 .f32) (hA2 : A2.IsWhole) (A3 : Memref sig .scVector .hbm S100000 .i32) (hA3 : A3.IsWhole)
  (A4 : Memref sig .scVector .hbm S32x8192 .f32) (hA4 : A4.IsWhole) (A5 : Memref sig .scVector .hbm S32x8192 .f32) (hA5 : A5.IsWhole)
  (A6 : Memref sig .scVector .hbm S32x8192 .f32) (hA6 : A6.IsWhole)
  (X : M2) (hX : X.IsWhole) (B : M1) (hB : B.IsWhole) (X' : M2) (hX' : X'.IsWhole) (B' : M1) (hB' : B'.IsWhole)
  (a11 : M8) (h11 : a11.IsWhole) (a12 : M8) (h12 : a12.IsWhole) (a13 : M8) (h13 : a13.IsWhole) (a14 : Mv) (h14 : a14.IsWhole)
  (a15 : Mv) (h15 : a15.IsWhole) (e16 e17 e18 e19 r0 r1 r2 : DmaSems sig S_)

variable (fA : Buf (Elt F) (A2.view.loc (V d (cV L) (jV L)))) (fI : Buf (Elt F) (A3.view.loc (V d (cV L) (jV L))))
  (q0 q1 : PosShare TreeShare) (O : CellTallies nD τ sig (HIx 2)) (W : Waits sig (HIx 2))

/-- What the task has computed at its end. -/
abbrev finSt : St F := flush (stAt d L A2 A3 fA fI 25)

/-- The pairs of chunks. -/
theorem loop_t2 (v29 : BitVec 32) (v31 v32 : FVec F S16 .f32) (hok : ∀ n, Ok (bt d L A3 fI n)) :
    pairInv d L A2 A3 X B X' B' a11 a12 a13 a14 a15 e16 e17 e18 e19 fA fI q0 q1 O W 0 (4294967295#32, Scalar.ofBits .f32 0x00000000#32)
      ⊢ wp (M := 𝕄) frame (wpE (defs₀ (F := F)) 𝒱₀ (V d (cV L) (jV L)) none) Set.univ
          (k0_t2_loop.for k0_t2_ok (4294967295#32, Scalar.ofBits .f32 0x00000000#32) (k0_t2_body L A2 hA2 A3 hA3 A4 hA4 A5 hA5 A6 hA6 X hX B hB X' hX' B' hB' a11 h11 a12 h12 a13 h13 a14 h14 a15 h15 e16 e17 e18 e19 r0 r1 r2 v29 v31 v32))
          fun acc => pairInv d L A2 A3 X B X' B' a11 a12 a13 a14 a15 e16 e17 e18 e19 fA fI q0 q1 O W 12 acc := by
  iintro H
  sl_for (fun n acc => pairInv d L A2 A3 X B X' B' a11 a12 a13 a14 a15 e16 e17 e18 e19 fA fI q0 q1 O W n acc) $$ [H]
  case region =>
    intro n acc
    iintro H
    iapply (pair_t2 d L A2 hA2 A3 hA3 A4 hA4 A5 hA5 A6 hA6 X hX B hB X' hX' B' hB' a11 h11 a12 h12 a13 h13 a14 h14 a15 h15 e16 e17 e18 e19 r0 r1 r2 fA fI q0 q1 O W v29 v31 v32 n acc hok) $$ H
  isplitl [H]; · iexact H
  iintro %acc HI
  rw [show Scf.trips k0_t2_loop.lb k0_t2_loop.ub k0_t2_loop.st = 12 from trips_t2]
  iexact HI

/-- What the task is given, and what it gives back: read shares of the rows and of the segment numbers, its own buffers
    and semaphores, and its row of each result. -/
abbrev bufs0 : sProp 𝕄 :=
  iprop((∃ f, own d L X f) ∗ (∃ f, own d L B f) ∗ (∃ f, own d L X' f) ∗ (∃ f, own d L B' f)
    ∗ (∃ f, own d L a11 f) ∗ (∃ f, own d L a12 f) ∗ (∃ f, own d L a13 f) ∗ (∃ f, own d L a14 f) ∗ (∃ f, own d L a15 f))
abbrev sems0 : sProp 𝕄 :=
  iprop(zero d L e16 ∗ zero d L e17 ∗ zero d L e18 ∗ zero d L e19 ∗ zero d L r0 ∗ zero d L r1 ∗ zero d L r2)

/-- An accumulator with a slot just stored. -/
theorem storedAcc (a : M8) (f : Buf (Elt F) (a.view.loc (V d (cV L) (jV L)))) (off : Fin 1 → ℕ) (hin) (o : ℕ) (ho : o + 16 ≤ 8208) (hoff : off = ![o])
    (p p' : V16 F) (hp : p' = p) (A : Acc F) (hA : a.view.read (Elt F) f = A) :
    iprop((a.access (Rect.unit (s := S8208) off S16.size hin)).loc (V d (cV L) (jV L)) ↦[a.view.set]{fullShare}
        ((a.access (Rect.unit (s := S8208) off S16.size hin)).write (Elt F) f p' Finset.univ))
      ⊢ (holds d L a (put A o p) : sProp 𝕄) := by
  iintro H
  iexists ((a.access (Rect.unit (s := S8208) off S16.size hin)).write (Elt F) f p' Finset.univ)
  isplitl [H]; · iexact H
  ipureintro
  show a.view.read (Elt F) (a.view.writes (Elt F) f [⟨Rect.unit (s := S8208) off S16.size hin, p'⟩]) = _
  rw [read_put _ _ _ _ hoff, hA, hp]

set_option maxHeartbeats 600000 in
/-- The run of the task. -/
theorem task0 (hok : ∀ n, Ok (bt d L A3 fI n)) (g4 : Buf (Elt F) ((outM L A4).view.loc (V d (cV L) (jV L))))
    (g5 : Buf (Elt F) ((outM L A5).view.loc (V d (cV L) (jV L)))) (g6 : Buf (Elt F) ((outM L A6).view.loc (V d (cV L) (jV L)))) :
    iprop(Transfers.MayWaits (V d (cV L) (jV L)) (none : HIx 2) O
        ∗ (tokX d L A2 fA q0 ∗ tokX d L A2 fA q1 ∗ tokB d L A3 fI q0 ∗ tokB d L A3 fI q1)
        ∗ bufs0 d L X B X' B' a11 a12 a13 a14 a15 ∗ sems0 d L e16 e17 e18 e19 r0 r1 r2
        ∗ (outPts d L A4 g4 ∗ outPts d L A5 g5 ∗ outPts d L A6 g6) ∗ owes (V d (cV L) (jV L)) O W)
      ⊢ wp (M := 𝕄) frame (wpE (defs₀ (F := F)) 𝒱₀ (V d (cV L) (jV L)) none) Set.univ
          (cc0__seg_partials_body L A2 hA2 A3 hA3 A4 hA4 A5 hA5 A6 hA6 X hX B hB X' hX' B' hB' a11 h11 a12 h12 a13 h13 a14 h14 a15 h15 e16 e17 e18 e19 r0 r1 r2)
          fun _ => iprop((tokX d L A2 fA q0 ∗ tokX d L A2 fA q1 ∗ tokB d L A3 fI q0 ∗ tokB d L A3 fI q1)
            ∗ bufs0 d L X B X' B' a11 a12 a13 a14 a15 ∗ sems0 d L e16 e17 e18 e19 r0 r1 r2
            ∗ (outHolds d L A4 (slots (finSt d L A2 A3 fA fI).As) ∗ outHolds d L A5 (slots (finSt d L A2 A3 fA fI).Am) ∗ outHolds d L A6 (slots (finSt d L A2 A3 fA fI).Ac))
            ∗ owing d L O W 0) := by
  rw [cc0__seg_partials_body_eq_skeleton]
  unfold cc0__seg_partials_body_skel
  simp only [k0_part15_eq_skeleton, k0_part16_eq_skeleton, k0_part17_eq_skeleton]
  unfold k0_part15_skel k0_part16_skel k0_part17_skel
  simp only [Prog.lift, Prog.bind_op, Prog.bind_ret, Prog.pure_eq_ret, Prog.bind_assoc]
  iintro ⟨#Hmw, ⟨HtX0, HtX1, HtB0, HtB1⟩, ⟨⟨%fX, HX⟩, ⟨%fB, HB⟩, HX', HB', H11, H12, H13, ⟨%f14, H14⟩, ⟨%f15, H15⟩⟩, ⟨Hz16, Hz17, Hz18, Hz19, Hr0, Hr1, Hr2⟩, ⟨HO4, HO5, HO6⟩, HO⟩
  rw [wp_bind]
  iapply (wp_wand_r frame (wpE (defs₀ (F := F)) 𝒱₀ (V d (cV L) (jV L)) none) Set.univ)
  isplitl [H11 H12 H13]
  · iapply (clear_t1 d L A2 hA2 A3 hA3 A4 hA4 A5 hA5 A6 hA6 X hX B hB X' hX' B' hB' a11 h11 a12 h12 a13 h13 a14 h14 a15 h15 e16 e17 e18 e19 r0 r1 r2)
    isplitl [H11]; · iexact H11
    isplitl [H12]; · iexact H12
    iexact H13
  iintro %_ HA
  sl_step
  sl_step
  sl_step
  sl_step
  ihave H14 := (stored d L a14 f14 (st0 (F := F)).sm (k0_pay195 (k0_pay190 (F := F))) (shapeCast_self (s := S16) _ _)) $$ H14
  ihave H15 := (stored d L a15 f15 (st0 (F := F)).mx (k0_pay196 (k0_pay191 (F := F))) (shapeCast_self (s := S16) _ _)) $$ H15
  iapply (start_x d L A2 fA q0 X e16 (1000 * (2 * 0)) (by omega) _ _ ((off2_eq L).trans (by simp)) _ fX) $$ [HtX0 HX Hz16]
  · isplitl [HtX0]; · iexact HtX0
    isplitl [HX]; · iexact HX
    iexact Hz16
  iintro HfX
  iapply (start_b d L A3 fI q0 B e17 (1000 * (2 * 0)) (by omega) _ _ ((off3_eq L).trans (by simp)) _ _ fB) $$ [HtB0 HB Hz17]
  · isplitl [HtB0]; · iexact HtB0
    isplitl [HB]; · iexact HB
    iexact Hz17
  iintro HfB
  rw [wp_bind]
  iapply (wp_wand_r frame (wpE (defs₀ (F := F)) 𝒱₀ (V d (cV L) (jV L)) none) Set.univ)
  isplitl [HfX HfB HtX1 HtB1 HX' HB' Hz18 Hz19 HA H14 H15 HO]
  · iapply (loop_t2 d L A2 hA2 A3 hA3 A4 hA4 A5 hA5 A6 hA6 X hX B hB X' hX' B' hB' a11 h11 a12 h12 a13 h13 a14 h14 a15 h15 e16 e17 e18 e19 r0 r1 r2 fA fI q0 q1 O W _ _ _ hok)
    isplitr; · iexact Hmw
    isplitl [HfX]; · iexact HfX
    isplitl [HfB]; · iexact HfB
    isplitl [HtX1]; · iexact HtX1
    isplitl [HtB1]; · iexact HtB1
    isplitl [HX']; · iexact HX'
    isplitl [HB']; · iexact HB'
    isplitl [Hz18]; · iexact Hz18
    isplitl [Hz19]; · iexact Hz19
    isplitl [HA]; · iexact HA
    isplitl [H14]; · iexact H14
    isplitl [H15]; · iexact H15
    isplitl [HO]
    · iexists W; isplitr; · ipureintro; exact fun p hp => .inl hp
      iexact HO
    ipureintro; rfl
  iintro %acc ⟨-, HfX, HfB, HtX1, HtB1, HX', HB', Hz18, Hz19, HA, H14, H15, ⟨%W', %hW', HO⟩, %hacc⟩
  subst hacc
  iapply (Transfers.wp_waitLocalO (EC (F := F)) 𝒱₀ (V d (cV L) (jV L)) none (none : HIx 2) rfl) $$ [HfX HO]
  · isplitl [HfX]; · iexact HfX
    isplitl [HO]; · iexact HO
    iapply (Transfers.MayWaits.elim (SemLoc.dma e16.sem)) $$ Hmw
  iintro ⟨⟨⟨%fX', HX, %hx⟩, HtX0⟩, Hz16, HO⟩
  iapply (Transfers.wp_waitLocalO (EC (F := F)) 𝒱₀ (V d (cV L) (jV L)) none (none : HIx 2) rfl) $$ [HfB HO]
  · isplitl [HfB]; · iexact HfB
    isplitl [HO]; · iexact HO
    iapply (Transfers.MayWaits.elim (SemLoc.dma e17.sem)) $$ Hmw
  iintro ⟨⟨⟨%fB', HB, %hb⟩, HtB0⟩, Hz17, HO⟩
  -- the last chunk
  have hc := chunks_ok (bt d L A3 fI) (xt d L A2 fA) hok 24
  change Ok (stAt d L A2 A3 fA fI (2 * 12)).cur at hc
  generalize hst : stAt d L A2 A3 fA fI (2 * 12) = st at *
  rw [wp_bind]
  iapply (wp_wand_r frame (wpE (defs₀ (F := F)) 𝒱₀ (V d (cV L) (jV L)) none) Set.univ)
  isplitl [HX HB HA H14 H15]
  · iapply (loop_t11 d L A2 hA2 A3 hA3 A4 hA4 A5 hA5 A6 hA6 X hX B hB X' hX' B' hB' a11 h11 a12 h12 a13 h13 a14 h14 a15 h15 e16 e17 e18 e19 r0 r1 r2 _ _ _ st hc fX' fB' _ _ _ hx hb hok)
    iframe HX HB HA H14 H15
  iintro %acc ⟨HX, HB, HA, ⟨%g14, H14, %e14⟩, ⟨%g15, H15, %e15⟩, %hacc⟩
  subst hacc
  sl_step
  sl_step
  have hc1 := blocks_ok (bt d L A3 fI) (xt d L A2 fA) (1000 * (2 * 12)) hok st hc 31
  generalize hst1 : blocks (bt d L A3 fI) (xt d L A2 fA) (1000 * (2 * 12)) 31 st = st1 at *
  have p14 : k0_pay227 (a14.view.readAt (Elt F) (Rect.unit (s := S16) ![0] S16.size inb_S16_S16_0).toLoadRect g14) = st1.sm :=
    (shapeCast_self (s := S16) _ _).trans ((readAt_whole a14 g14 _).trans e14)
  have p15 : k0_pay228 (a15.view.readAt (Elt F) (Rect.unit (s := S16) ![0] S16.size inb_S16_S16_0).toLoadRect g15) = st1.mx :=
    (shapeCast_self (s := S16) _ _).trans ((readAt_whole a15 g15 _).trans e15)
  rw [p14, p15]
  rw [wp_bind]
  iapply (wp_wand_r frame (wpE (defs₀ (F := F)) 𝒱₀ (V d (cV L) (jV L)) none) Set.univ)
  isplitl [HX HB HA]
  · iapply (loop_t14 d L A2 hA2 A3 hA3 A4 hA4 A5 hA5 A6 hA6 X hX B hB X' hX' B' hB' a11 h11 a12 h12 a13 h13 a14 h14 a15 h15 e16 e17 e18 e19 r0 r1 r2 _ _ _ _ _ _ st1 hc1 fX' fB' _ _ _ hx hb hok)
    iframe HX HB HA
  iintro %acc ⟨HX, HB, HA, %hacc⟩
  subst hacc
  have hst2 : rows (bt d L A3 fI) (xt d L A2 fA) (1000 * (2 * 12) + 992) 8 st1 = stAt d L A2 A3 fA fI 25 := by
    rw [← hst1, ← hst]; rfl
  rw [hst2]
  have hc2 := chunks_ok (bt d L A3 fI) (xt d L A2 fA) hok 25
  change Ok (stAt d L A2 A3 fA fI 25).cur at hc2
  generalize hst3 : stAt d L A2 A3 fA fI 25 = st2 at *
  have hck : k0_chk10 st2.cur := by
    intro a
    rw [show k0_off44 st2.cur = ![slot st2.cur] from rfl]; fin_cases a; exact hc2
  iapply (wp_assume _ _ _ _ hck)
  sl_step
  sl_step
  sl_step
  sl_step
  ihave ⟨%w14, H14, %hw14⟩ := (stored d L a14 g14 st2.sm (k0_pay237 st2.sm) (shapeCast_self (s := S16) _ _)) $$ H14
  ihave ⟨%w15, H15, %hw15⟩ := (stored d L a15 g15 st2.mx (k0_pay238 st2.mx) (shapeCast_self (s := S16) _ _)) $$ H15
  icases HA with ⟨⟨%f11, H11, %e11⟩, ⟨%f12, H12, %e12⟩, ⟨%f13, H13, %e13⟩⟩
  sl_step
  sl_step
  sl_step
  sl_step
  sl_step
  sl_step
  sl_step
  sl_step
  ihave H11 := (storedAcc d L a11 f11 (k0_off44 (regs st2).1) (k0_off44_inb (regs st2).1 hck) (slot st2.cur) hc2 rfl st2.sm (k0_pay239 (a14.view.readAt (Elt F) (Rect.unit (s := S16) ![0] S16.size inb_S16_S16_0).toLoadRect w14)) ((shapeCast_self (s := S16) _ _).trans ((shapeCast_self (s := S16) _ _).trans ((readAt_whole a14 w14 _).trans hw14))) _ e11) $$ H11
  ihave H12 := (storedAcc d L a12 f12 (k0_off44 (regs st2).1) (k0_off44_inb (regs st2).1 hck) (slot st2.cur) hc2 rfl st2.mx (k0_pay240 (a15.view.readAt (Elt F) (Rect.unit (s := S16) ![0] S16.size inb_S16_S16_0).toLoadRect w15)) ((shapeCast_self (s := S16) _ _).trans ((shapeCast_self (s := S16) _ _).trans ((readAt_whole a15 w15 _).trans hw15))) _ e12) $$ H12
  ihave H13 := (storedAcc d L a13 f13 (k0_off44 (regs st2).1) (k0_off44_inb (regs st2).1 hck) (slot st2.cur) hc2 rfl (mulf (broadcast S16 one1) (broadcast S16 st2.cnt)) (k0_pay241 (regs st2).2.1) (shapeCast_self (s := S16) _ _) _ e13) $$ H13
  iapply (start_out d L a11 A4 r0 (flush st2).As g4) $$ [H11 HO4 Hr0]
  · isplitl [H11]; · iexact H11
    isplitl [HO4]; · iexact HO4
    iexact Hr0
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r0.sem)) $$ Hmw
  iintro ⟨⟨HO4, H11⟩, Hr0, HO⟩
  iapply (start_out d L a12 A5 r1 (flush st2).Am g5) $$ [H12 HO5 Hr1]
  · isplitl [H12]; · iexact H12
    isplitl [HO5]; · iexact HO5
    iexact Hr1
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r1.sem)) $$ Hmw
  iintro ⟨⟨HO5, H12⟩, Hr1, HO⟩
  iapply (start_out d L a13 A6 r2 (flush st2).Ac g6) $$ [H13 HO6 Hr2]
  · isplitl [H13]; · iexact H13
    isplitl [HO6]; · iexact HO6
    iexact Hr2
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r2.sem)) $$ Hmw
  iintro ⟨⟨HO6, H13⟩, Hr2, HO⟩
  sl_step
  isplitl [HtX0 HtX1 HtB0 HtB1]
  · iframe HtX0 HtX1 HtB0 HtB1
  icases H11 with ⟨%k11, H11, -⟩
  icases H12 with ⟨%k12, H12, -⟩
  icases H13 with ⟨%k13, H13, -⟩
  isplitl [HX HB HX' HB' H11 H12 H13 H14 H15]
  · isplitl [HX]; · iexists _; iexact HX
    isplitl [HB]; · iexists _; iexact HB
    isplitl [HX']; · iexact HX'
    isplitl [HB']; · iexact HB'
    isplitl [H11]; · iexists _; iexact H11
    isplitl [H12]; · iexists _; iexact H12
    isplitl [H13]; · iexists _; iexact H13
    isplitl [H14]; · iexists _; iexact H14
    iexists _; iexact H15
  isplitl [Hz16 Hz17 Hz18 Hz19 Hr0 Hr1 Hr2]
  · iframe Hz16 Hz17 Hz18 Hz19 Hr0 Hr1 Hr2
  isplitl [HO4 HO5 HO6]
  · rw [show finSt d L A2 A3 fA fI = flush st2 from congrArg flush hst3]
    isplitl [HO4]; · iexact HO4
    isplitl [HO5]; · iexact HO5
    iexact HO6
  iexists _
  isplitr
  rotate_left
  · iexact HO
  ipureintro
  intro p hp
  simp only [Finset.mem_insert] at hp
  rcases hp with rfl | rfl | rfl | rfl | rfl | hp
  · exact .inr (.inl rfl)
  · exact .inr (.inl rfl)
  · exact .inr (.inl rfl)
  · exact .inr (.inl rfl)
  · exact .inr (.inl rfl)
  exact hW' p hp

end Cert.Proof
-- ==== Proof.Merge.lean ====
/-
  The second call's loops: three row groups merged into the first, slot by slot, and the sums divided by the counts.
-/
module

public import proofs.«01_k».proof.Proof.Out

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

theorem trips_m1 : k1_t1_loop.trips = 512 := by decide +kernel
theorem trips_m4 : k1_t4_loop.trips = 512 := by decide +kernel

/-- A merged row's buffer. -/
abbrev M9 := Memref sig Kind.scVector Space.vmem S8192 EltTy.f32
/-- A row: 512 slots of 16 lanes. -/
abbrev Row (F : FTy → Type) : Type := S8192.Idx → F .f32

/-- Entry `16 n + l`. -/
abbrev ixR (n : ℕ) (h : n < 512) (l : S16.Idx) : S8192.Idx :=
  fun | 0 => (⟨16 * n + (l 0).val, by have h : (l 0).val < 16 := (l 0).isLt; omega⟩ : Fin 8192) | ⟨_ + 1, h⟩ => absurd h (Nat.not_lt.2 (Nat.le_add_left _ _))

/-- The first `n` slots from `q`, the others from `p`. -/
def mix (n : ℕ) (p q : Row F) : Row F := fun y => if (y 0).val < 16 * n then q y else p y

theorem mix_zero (p q : Row F) : mix 0 p q = p := funext fun y => if_neg (by omega)
theorem mix_all (p q : Row F) : mix 512 p q = q := funext fun y => if_pos (show (y 0).val < 16 * 512 from (y 0).isLt)

/-- A slot's lanes, loaded. -/
theorem readAt_slot (a : M9) (f : a.view.ty.Contents (Elt F)) (off : Fin 1 → ℕ) (n : ℕ) (h : n < 512) (hoff : off = ![16 * n]) (hin) :
    a.view.readAt (Elt F) (Rect.unit (s := S8192) off S16.size hin).toLoadRect f = fun l => a.view.read (Elt F) f (ixR n h l) := by
  subst hoff
  funext y
  rw [View.readAt_apply]
  congr 1
  funext k
  fin_cases k
  exact Fin.ext (by simp [LoadRect.idx, Rect.unit])

/-- A slot's lanes, stored: one more slot from `q`. -/
theorem read_mix (a : M9) (f : a.view.ty.Contents (Elt F)) (off : Fin 1 → ℕ) (n : ℕ) (h : n < 512) (hoff : off = ![16 * n]) (hin) (v : V16 F)
    (p q : Row F) (hf : a.view.read (Elt F) f = mix n p q) (hv : ∀ l, v l = q (ixR n h l)) :
    a.view.read (Elt F) (a.view.writes (Elt F) f [⟨Rect.unit (s := S8192) off S16.size hin, v⟩]) = mix (n + 1) p q := by
  subst hoff
  funext y
  by_cases hy : 16 * n ≤ (y 0).val ∧ (y 0).val < 16 * n + 16
  · have e : a.view.read (Elt F) (a.view.writes (Elt F) f [⟨Rect.unit (s := S8192) ![16 * n] S16.size hin, v⟩]) y = v (ix16 ⟨(y 0).val - 16 * n, by omega⟩) :=
      View.read_writes_cons_hit_of_coords _ _ _ _ _ _ _ (by
        intro a; fin_cases a; simp [Rect.unit]; omega)
    rw [e, hv]
    have : ixR n h (ix16 ⟨(y 0).val - 16 * n, by omega⟩) = y := by
      funext k; fin_cases k; exact Fin.ext (show 16 * n + ((y 0).val - 16 * n) = (y 0).val by omega)
    rw [this]
    exact (if_pos (by omega)).symm
  · have e : a.view.read (Elt F) (a.view.writes (Elt F) f [⟨Rect.unit (s := S8192) ![16 * n] S16.size hin, v⟩]) y = a.view.read (Elt F) f y := by
      rw [View.read_writes_cons_miss_of_axis (a := 0) (o := 16 * n) (n := 16)]
      · rfl
      · rfl
      · rfl
      · rfl
      · omega
    rw [e, hf]
    unfold mix
    split
    · exact (if_pos (by omega)).symm
    · exact (if_neg (by omega)).symm

theorem mix_slot (n : ℕ) (h : n < 512) (p q : Row F) (l : S16.Idx) : mix n p q (ixR n h l) = p (ixR n h l) :=
  if_neg (show ¬ 16 * n + (l 0).val < 16 * n by omega)

/-- The means: the sums times one over the counts, a count of zero taken as one. -/
def meanRow (s c : Row F) : Row F := mulf s (divf (broadcast S8192 one1) (maximumf c (broadcast S8192 one1)))

variable (A2 : Memref sig .scVector .hbm S32x8192 .f32) (hA2 : A2.IsWhole) (A3 : Memref sig .scVector .hbm S32x8192 .f32) (hA3 : A3.IsWhole)
  (A4 : Memref sig .scVector .hbm S32x8192 .f32) (hA4 : A4.IsWhole) (A5 : Memref sig .scVector .hbm S8x8192 .f32) (hA5 : A5.IsWhole)
  (A6 : Memref sig .scVector .hbm S8x8192 .f32) (hA6 : A6.IsWhole)
  (a7 : M9) (h7 : a7.IsWhole) (a8 : M9) (h8 : a8.IsWhole) (a9 : M9) (h9 : a9.IsWhole) (a10 : M9) (h10 : a10.IsWhole)
  (a11 : M9) (h11 : a11.IsWhole) (a12 : M9) (h12 : a12.IsWhole) (r0 r1 r2 r3 r4 r5 r6 r7 r8 r9 r10 r11 r12 r13 : DmaSems sig S_)
  (hh : k1_cond1 L = 1#1)

/-- The merge after `n` slots. -/
abbrev mergeInv (p7 p8 p9 p10 p11 p12 : Row F) (n : ℕ) : sProp 𝕄 :=
  iprop(holds d L a7 (mix n p7 (addf p7 p10)) ∗ holds d L a8 (mix n p8 (maximumf p8 p11)) ∗ holds d L a9 (mix n p9 (addf p9 p12))
    ∗ holds d L a10 p10 ∗ holds d L a11 p11 ∗ holds d L a12 p12)

/-- One slot merged. -/
theorem merge_slot (c1 : BitVec 32) (n : Fin k1_t1_loop.trips) (acc : BitVec 32) (p7 p8 p9 p10 p11 p12 : Row F) :
    mergeInv d L a7 a8 a9 a10 a11 a12 p7 p8 p9 p10 p11 p12 n.val
      ⊢ wp (M := 𝕄) frame (wpE (defs₀ (F := F)) 𝒱₀ (V d (cV L) (jV L)) none) Set.univ
          (k1_t1_body L A2 hA2 A3 hA3 A4 hA4 A5 hA5 A6 hA6 a7 h7 a8 h8 a9 h9 a10 h10 a11 h11 a12 h12 r0 r1 r2 r3 r4 r5 r6 r7 r8 r9 r10 r11 r12 r13 c1 hh n acc)
          fun _ => mergeInv d L a7 a8 a9 a10 a11 a12 p7 p8 p9 p10 p11 p12 (n.val + 1) := by
  have hn : n.val < 512 := lt_of_lt_of_eq n.isLt trips_m1
  iintro ⟨⟨%f7, H7, %e7⟩, ⟨%f8, H8, %e8⟩, ⟨%f9, H9, %e9⟩, ⟨%f10, H10, %e10⟩, ⟨%f11, H11, %e11⟩, ⟨%f12, H12, %e12⟩⟩
  unfold k1_t1_body
  sl_exec
  sl_step
  isplitl [H7]
  · iexists _; isplitl [H7]; · iexact H7
    ipureintro
    refine read_mix _ _ _ _ hn (k1_off3_eq n) _ _ _ _ e7 ?_
    intro l
    rw [readAt_slot _ _ _ _ hn (k1_off3_eq n), readAt_slot _ _ _ _ hn (k1_off3_eq n), e7, e10]
    unfold k1_pay5
    simp only [shapeCast_self, mix_slot]
    rfl
  isplitl [H8]
  · iexists _; isplitl [H8]; · iexact H8
    ipureintro
    refine read_mix _ _ _ _ hn (k1_off3_eq n) _ _ _ _ e8 ?_
    intro l
    rw [readAt_slot _ _ _ _ hn (k1_off3_eq n), readAt_slot _ _ _ _ hn (k1_off3_eq n), e8, e11]
    unfold k1_pay6
    simp only [shapeCast_self, mix_slot]
    rfl
  isplitl [H9]
  · iexists _; isplitl [H9]; · iexact H9
    ipureintro
    refine read_mix _ _ _ _ hn (k1_off3_eq n) _ _ _ _ e9 ?_
    intro l
    rw [readAt_slot _ _ _ _ hn (k1_off3_eq n), readAt_slot _ _ _ _ hn (k1_off3_eq n), e9, e12]
    unfold k1_pay7
    simp only [shapeCast_self, mix_slot]
    rfl
  isplitl [H10]; · iexists f10; isplitl [H10]; · iexact H10
                   ipureintro; exact e10
  isplitl [H11]; · iexists f11; isplitl [H11]; · iexact H11
                   ipureintro; exact e11
  iexists f12; isplitl [H12]; · iexact H12
  ipureintro; exact e12

/-- The rows merged. -/
theorem merge_t1 (c1 : BitVec 32) (p7 p8 p9 p10 p11 p12 : Row F) :
    iprop(holds d L a7 p7 ∗ holds d L a8 p8 ∗ holds d L a9 p9 ∗ holds d L a10 p10 ∗ holds d L a11 p11 ∗ holds d L a12 p12)
      ⊢ wp (M := 𝕄) frame (wpE (defs₀ (F := F)) 𝒱₀ (V d (cV L) (jV L)) none) Set.univ
          (k1_t1_loop.for (k1_t1_ok L hh) 0#32 (k1_t1_body L A2 hA2 A3 hA3 A4 hA4 A5 hA5 A6 hA6 a7 h7 a8 h8 a9 h9 a10 h10 a11 h11 a12 h12 r0 r1 r2 r3 r4 r5 r6 r7 r8 r9 r10 r11 r12 r13 c1 hh))
          fun _ => iprop(holds d L a7 (addf p7 p10) ∗ holds d L a8 (maximumf p8 p11) ∗ holds d L a9 (addf p9 p12)
            ∗ holds d L a10 p10 ∗ holds d L a11 p11 ∗ holds d L a12 p12) := by
  iintro H
  sl_for (fun n acc => mergeInv d L a7 a8 a9 a10 a11 a12 p7 p8 p9 p10 p11 p12 n) $$ [H]
  case region =>
    intro n acc
    iintro H
    iapply (merge_slot d L A2 hA2 A3 hA3 A4 hA4 A5 hA5 A6 hA6 a7 h7 a8 h8 a9 h9 a10 h10 a11 h11 a12 h12 r0 r1 r2 r3 r4 r5 r6 r7 r8 r9 r10 r11 r12 r13 hh c1 n acc p7 p8 p9 p10 p11 p12) $$ H
  isplitl [H]
  · unfold mergeInv; rw [mix_zero, mix_zero, mix_zero]; iexact H
  iintro %acc HI
  rw [show Scf.trips k1_t1_loop.lb k1_t1_loop.ub k1_t1_loop.st = 512 from trips_m1]
  unfold mergeInv
  rw [mix_all, mix_all, mix_all]
  iexact HI

theorem t2_eq (c1 : BitVec 32) :
    k1_t2_loop.for (k1_t2_ok L hh) 0#32 (k1_t2_body (F := F) L A2 hA2 A3 hA3 A4 hA4 A5 hA5 A6 hA6 a7 h7 a8 h8 a9 h9 a10 h10 a11 h11 a12 h12 r0 r1 r2 r3 r4 r5 r6 r7 r8 r9 r10 r11 r12 r13 c1 hh)
      = k1_t1_loop.for (k1_t1_ok L hh) 0#32 (k1_t1_body L A2 hA2 A3 hA3 A4 hA4 A5 hA5 A6 hA6 a7 h7 a8 h8 a9 h9 a10 h10 a11 h11 a12 h12 r0 r1 r2 r3 r4 r5 r6 r7 r8 r9 r10 r11 r12 r13 c1 hh) := rfl
theorem t3_eq (c1 : BitVec 32) :
    k1_t3_loop.for (k1_t3_ok L hh) 0#32 (k1_t3_body (F := F) L A2 hA2 A3 hA3 A4 hA4 A5 hA5 A6 hA6 a7 h7 a8 h8 a9 h9 a10 h10 a11 h11 a12 h12 r0 r1 r2 r3 r4 r5 r6 r7 r8 r9 r10 r11 r12 r13 hh)
      = k1_t1_loop.for (k1_t1_ok L hh) 0#32 (k1_t1_body L A2 hA2 A3 hA3 A4 hA4 A5 hA5 A6 hA6 a7 h7 a8 h8 a9 h9 a10 h10 a11 h11 a12 h12 r0 r1 r2 r3 r4 r5 r6 r7 r8 r9 r10 r11 r12 r13 c1 hh) := rfl

/-- One slot's means. -/
theorem mean_slot (n : Fin k1_t4_loop.trips) (acc : BitVec 32) (p7 p9 : Row F) :
    iprop(holds d L a7 (mix n.val p7 (meanRow p7 p9)) ∗ holds d L a9 p9)
      ⊢ wp (M := 𝕄) frame (wpE (defs₀ (F := F)) 𝒱₀ (V d (cV L) (jV L)) none) Set.univ
          (k1_t4_body L A2 hA2 A3 hA3 A4 hA4 A5 hA5 A6 hA6 a7 h7 a8 h8 a9 h9 a10 h10 a11 h11 a12 h12 r0 r1 r2 r3 r4 r5 r6 r7 r8 r9 r10 r11 r12 r13 hh n acc)
          fun _ => iprop(holds d L a7 (mix (n.val + 1) p7 (meanRow p7 p9)) ∗ holds d L a9 p9) := by
  have hn : n.val < 512 := lt_of_lt_of_eq n.isLt trips_m4
  iintro ⟨⟨%f7, H7, %e7⟩, ⟨%f9, H9, %e9⟩⟩
  unfold k1_t4_body
  sl_exec
  sl_step
  isplitl [H7]
  · iexists _; isplitl [H7]; · iexact H7
    ipureintro
    refine read_mix _ _ _ _ hn (k1_off6_eq n) _ _ _ _ e7 ?_
    intro l
    rw [readAt_slot _ _ _ _ hn (k1_off6_eq n), readAt_slot _ _ _ _ hn (k1_off6_eq n), e7, e9]
    unfold k1_pay4
    simp only [shapeCast_self, mix_slot]
    rfl
  iexists f9; isplitl [H9]; · iexact H9
  ipureintro; exact e9

/-- The means. -/
theorem mean_t4 (p7 p9 : Row F) :
    iprop(holds d L a7 p7 ∗ holds d L a9 p9)
      ⊢ wp (M := 𝕄) frame (wpE (defs₀ (F := F)) 𝒱₀ (V d (cV L) (jV L)) none) Set.univ
          (k1_t4_loop.for (k1_t4_ok L hh) 0#32 (k1_t4_body L A2 hA2 A3 hA3 A4 hA4 A5 hA5 A6 hA6 a7 h7 a8 h8 a9 h9 a10 h10 a11 h11 a12 h12 r0 r1 r2 r3 r4 r5 r6 r7 r8 r9 r10 r11 r12 r13 hh))
          fun _ => iprop(holds d L a7 (meanRow p7 p9) ∗ holds d L a9 p9) := by
  iintro H
  sl_for (fun n acc => iprop(holds d L a7 (mix n p7 (meanRow p7 p9)) ∗ holds d L a9 p9)) $$ [H]
  case region =>
    intro n acc
    iintro H
    iapply (mean_slot d L A2 hA2 A3 hA3 A4 hA4 A5 hA5 A6 hA6 a7 h7 a8 h8 a9 h9 a10 h10 a11 h11 a12 h12 r0 r1 r2 r3 r4 r5 r6 r7 r8 r9 r10 r11 r12 r13 hh n acc p7 p9) $$ H
  isplitl [H]
  · rw [mix_zero]; iexact H
  iintro %acc HI
  rw [show Scf.trips k1_t4_loop.lb k1_t4_loop.ub k1_t4_loop.st = 512 from trips_m4, mix_all]
  iexact HI

end Cert.Proof
-- ==== Proof.Task1.lean ====
/-
  The task of the second call: four row groups' partials of one column group merged, and the means.
-/
module

public import proofs.«01_k».proof.Proof.Merge

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

/-- The tiles that merge. -/
theorem active_iff : ∀ i : grid1.Coords, k1_cond1 i = 1#1 ↔ (i 0).val = 0 ∧ (i 1).val < 8 := by decide +kernel

/-- Row `r` of the partials. -/
abbrev ix32 (r : ℕ) (y : S8192.Idx) : S32x8192.Idx :=
  fun | 0 => (Fin.ofNat 32 r : Fin 32) | 1 => (⟨(y 0).val, (y 0).isLt⟩ : Fin 8192) | ⟨_ + 2, h⟩ => absurd h (Nat.not_lt.2 (Nat.le_add_left _ _))
def rowOf (p : S32x8192.Idx → F .f32) (r : ℕ) : Row F := fun y => p (ix32 r y)

/-- A copy of row `r` of the partials starts. -/
theorem start_row {α : Type} {k : PUnit → Prog (TpuEff nD τ sig (Elt F) Λ₀ (V d (cV L) (jV L)).2) α} {Q : α → sProp 𝕄}
    (A : Memref sig .scVector .hbm S32x8192 .f32) (fA : Buf (Elt F) (A.view.loc (V d (cV L) (jV L)))) (q : PosShare TreeShare) (a : M9) (e : DmaSems sig S_)
    (off : Fin 2 → ℕ) (hin) (r : ℕ) (hr : r < 32) (hoff : off = ![r, 0]) {hs} {hsq} {hsrc} {hdst} {hsem} :
    iprop((A.view.loc (V d (cV L) (jV L)) ↦{q} fA) ∗ (∃ f, own d L a f) ∗ zero d L e)
      ⊢ iprop((Transfers.Flight (EC (F := F)) (V d (cV L) (jV L)) (.dma e.sem) (none : HIx 2) a.view.dmaCredit
              iprop(holds d L a (rowOf (A.view.read (Elt F) fA) r) ∗ (A.view.loc (V d (cV L) (jV L)) ↦{q} fA))
          -∗ wp (M := 𝕄) frame (wpE (defs₀ (F := F)) 𝒱₀ (V d (cV L) (jV L)) none) Set.univ (k ⟨⟩) Q)
        -∗ wp (M := 𝕄) frame (wpE (defs₀ (F := F)) 𝒱₀ (V d (cV L) (jV L)) none) Set.univ
          (.op (.enqueueDmaAs ((A.slice (Rect.unit (s := S32x8192) off S1x8192.size hin) hs).squeeze S8192 hsq) (.here a) .same (.dma e.sem) hsrc hdst hsem) k) Q) := by
  iintro ⟨Ht, ⟨%f, HX⟩, Hv⟩ Hk
  iapply (Transfers.wp_dmaFromWhole (EC (F := F)) 𝒱₀ (V d (cV L) (jV L)) none (none : HIx 2) a.view.dmaCredit (rfl : a.view.amount (.dma e.sem) = _)
    (View.amount_pos a.view (.dma e.sem) (show 0 < S8192.numel by decide)) (Finset.Subset.refl _)) $$ [Ht HX Hv]
  · isplitl [Ht]; · iexact Ht
    isplitl [HX]; · iexact HX
    iexact Hv
  iintro Hfl
  iapply Hk
  iapply (Transfers.Flight_mono (EC (F := F)) (V d (cV L) (jV L)) (by
    iintro ⟨HX, Ht⟩
    isplitl [HX]
    · iexists _; isplitl [HX]; · iexact HX
      ipureintro
      rw [View.read_write_univ]
      subst hoff
      funext y
      show A.view.read (Elt F) fA _ = A.view.read (Elt F) fA _
      congr 1
      funext k
      fin_cases k
      · refine Fin.ext (by
          show r + 1 * ((Shape.reshapeEquiv (_ : S8192.numel = S1x8192.numel) y) 0).val = r % 32
          rw [Shape.reshapeEquiv_cons_one (n := 1) (d := ![8192])]
          show r + 1 * 0 = r % 32
          omega)
      · refine Fin.ext (by
          show 0 + 1 * ((Shape.reshapeEquiv (_ : S8192.numel = S1x8192.numel) y) 1).val = (y 0).val
          rw [Shape.reshapeEquiv_cons_one (n := 1) (d := ![8192])]
          show 0 + 1 * (y 0).val = (y 0).val
          omega)
    iexact Ht)) $$ Hfl

/-- The task's row of a result of the second call. -/
abbrev resM (hh : k1_cond1 L = 1#1) (A : Memref sig .scVector .hbm S8x8192 .f32) : Memref sig .scVector .hbm S8192 .f32 :=
  (A.slice (Rect.unit (s := S8x8192) (k1_off7 L) S1x8192.size (k1_off7_inb L hh)) (fun _ => rfl)).squeeze S8192 squeezes_S1x8192_S8192
abbrev resPts (hh : k1_cond1 L = 1#1) (A : Memref sig .scVector .hbm S8x8192 .f32) (f : Buf (Elt F) ((resM L hh A).view.loc (V d (cV L) (jV L)))) : sProp 𝕄 :=
  (resM L hh A).view.loc (V d (cV L) (jV L)) ↦[(resM L hh A).view.set]{fullShare} f
abbrev resHolds (hh : k1_cond1 L = 1#1) (A : Memref sig .scVector .hbm S8x8192 .f32) (p : S8192.Idx → F .f32) : sProp 𝕄 :=
  iprop(∃ f, resPts d L hh A f ∗ ⌜(resM L hh A).view.read (Elt F) f = p⌝)

/-- A copy of a merged row to the task's row of a result starts. -/
theorem start_res {α : Type} {k : PUnit → Prog (TpuEff nD τ sig (Elt F) Λ₀ (V d (cV L) (jV L)).2) α} {Q : α → sProp 𝕄}
    (hh : k1_cond1 L = 1#1) (a : M9) (A : Memref sig .scVector .hbm S8x8192 .f32) (e : DmaSems sig S_) (p : Row F)
    {hsrc} {hdst} {hsem} (f : Buf (Elt F) ((resM L hh A).view.loc (V d (cV L) (jV L)))) :
    iprop(holds d L a p ∗ resPts d L hh A f ∗ zero d L e)
      ⊢ iprop((Transfers.Flight (EC (F := F)) (V d (cV L) (jV L)) (.dma e.sem) (none : HIx 2) (resM L hh A).view.dmaCredit iprop(resHolds d L hh A p ∗ holds d L a p)
          -∗ wp (M := 𝕄) frame (wpE (defs₀ (F := F)) 𝒱₀ (V d (cV L) (jV L)) none) Set.univ (k ⟨⟩) Q)
        -∗ wp (M := 𝕄) frame (wpE (defs₀ (F := F)) 𝒱₀ (V d (cV L) (jV L)) none) Set.univ
          (.op (.enqueueDmaAs a (.here (resM L hh A)) .same (.dma e.sem) hsrc hdst hsem) k) Q) := by
  iintro ⟨⟨%g, Ha, %hg⟩, HO, Hv⟩ Hk
  have hmono : iprop(((resM L hh A).view.loc (V d (cV L) (jV L)) ↦[(resM L hh A).view.set]{fullShare} ((resM L hh A).view.write (Elt F) f (a.view.read (Elt F) g) Finset.univ))
      ∗ (a.view.loc (V d (cV L) (jV L)) ↦[a.view.set]{fullShare} g))
      ⊢ (iprop(resHolds d L hh A p ∗ holds d L a p) : sProp 𝕄) := by
    iintro ⟨HO, Hs1⟩
    isplitl [HO]
    · iexists _; isplitl [HO]; · iexact HO
      ipureintro
      rw [View.read_write_univ]
      exact hg
    iexists g
    isplitl [Hs1]; · iexact Hs1
    ipureintro; exact hg
  iapply (Transfers.wp_dmaLocal (EC (F := F)) 𝒱₀ (V d (cV L) (jV L)) none (none : HIx 2) (resM L hh A).view.dmaCredit (rfl : (resM L hh A).view.amount (.dma e.sem) = _)
    (View.amount_pos (resM L hh A).view (.dma e.sem) (show 0 < S8192.numel by decide)) (Finset.Subset.refl _)) $$ [Ha HO Hv]
  · isplitl [Ha]; · iexact Ha
    isplitl [HO]; · iexact HO
    iexact Hv
  iintro Hfl
  iapply Hk
  iapply (Transfers.Flight_mono (EC (F := F)) (V d (cV L) (jV L)) hmono) $$ Hfl

/-- The rows of the partials merged: row group after row group, the sums, maxima and counts of one column group. -/
def mergedS (p : S32x8192.Idx → F .f32) (g : ℕ) : Row F :=
  addf (addf (addf (rowOf p g) (rowOf p (8 * (0 : Fin 3).val + g + 8))) (rowOf p (8 * (1 : Fin 3).val + g + 8))) (rowOf p (8 * (2 : Fin 3).val + g + 8))
def mergedM (p : S32x8192.Idx → F .f32) (g : ℕ) : Row F :=
  maximumf (maximumf (maximumf (rowOf p g) (rowOf p (8 * (0 : Fin 3).val + g + 8))) (rowOf p (8 * (1 : Fin 3).val + g + 8))) (rowOf p (8 * (2 : Fin 3).val + g + 8))

variable (A2 : Memref sig .scVector .hbm S32x8192 .f32) (hA2 : A2.IsWhole) (A3 : Memref sig .scVector .hbm S32x8192 .f32) (hA3 : A3.IsWhole)
  (A4 : Memref sig .scVector .hbm S32x8192 .f32) (hA4 : A4.IsWhole) (A5 : Memref sig .scVector .hbm S8x8192 .f32) (hA5 : A5.IsWhole)
  (A6 : Memref sig .scVector .hbm S8x8192 .f32) (hA6 : A6.IsWhole)
  (a7 : M9) (h7 : a7.IsWhole) (a8 : M9) (h8 : a8.IsWhole) (a9 : M9) (h9 : a9.IsWhole) (a10 : M9) (h10 : a10.IsWhole)
  (a11 : M9) (h11 : a11.IsWhole) (a12 : M9) (h12 : a12.IsWhole) (r0 r1 r2 r3 r4 r5 r6 r7 r8 r9 r10 r11 r12 r13 : DmaSems sig S_)
  (hh : k1_cond1 L = 1#1)
variable (f2 : Buf (Elt F) (A2.view.loc (V d (cV L) (jV L)))) (f3 : Buf (Elt F) (A3.view.loc (V d (cV L) (jV L)))) (f4 : Buf (Elt F) (A4.view.loc (V d (cV L) (jV L))))
  (q : PosShare TreeShare) (O : CellTallies nD τ sig (HIx 2)) (W : Waits sig (HIx 2))

/-- What the task holds throughout: read shares of the partials, its own buffers and semaphores. -/
abbrev toks1 : sProp 𝕄 :=
  iprop((A2.view.loc (V d (cV L) (jV L)) ↦{q} f2) ∗ (A3.view.loc (V d (cV L) (jV L)) ↦{q} f3) ∗ (A4.view.loc (V d (cV L) (jV L)) ↦{q} f4))
abbrev bufs1 : sProp 𝕄 :=
  iprop((∃ f, own d L a7 f) ∗ (∃ f, own d L a8 f) ∗ (∃ f, own d L a9 f) ∗ (∃ f, own d L a10 f) ∗ (∃ f, own d L a11 f) ∗ (∃ f, own d L a12 f))
abbrev sems1 : sProp 𝕄 :=
  iprop(zero d L r0 ∗ zero d L r1 ∗ zero d L r2 ∗ zero d L r3 ∗ zero d L r4 ∗ zero d L r5 ∗ zero d L r6 ∗ zero d L r7 ∗ zero d L r8 ∗ zero d L r9 ∗ zero d L r10 ∗ zero d L r11 ∗ zero d L r12 ∗ zero d L r13)

set_option maxHeartbeats 1600000 in
/-- The run of a task that merges. -/
theorem task1 (g5 : Buf (Elt F) ((resM L hh A5).view.loc (V d (cV L) (jV L)))) (g6 : Buf (Elt F) ((resM L hh A6).view.loc (V d (cV L) (jV L)))) :
    iprop(Transfers.MayWaits (V d (cV L) (jV L)) (none : HIx 2) O
        ∗ toks1 d L A2 A3 A4 f2 f3 f4 q ∗ bufs1 d L a7 a8 a9 a10 a11 a12 ∗ sems1 d L r0 r1 r2 r3 r4 r5 r6 r7 r8 r9 r10 r11 r12 r13
        ∗ (resPts d L hh A5 g5 ∗ resPts d L hh A6 g6) ∗ owes (V d (cV L) (jV L)) O W)
      ⊢ wp (M := 𝕄) frame (wpE (defs₀ (F := F)) 𝒱₀ (V d (cV L) (jV L)) none) Set.univ
          (cc1__combine_body L A2 hA2 A3 hA3 A4 hA4 A5 hA5 A6 hA6 a7 h7 a8 h8 a9 h9 a10 h10 a11 h11 a12 h12 r0 r1 r2 r3 r4 r5 r6 r7 r8 r9 r10 r11 r12 r13)
          fun _ => iprop(toks1 d L A2 A3 A4 f2 f3 f4 q ∗ bufs1 d L a7 a8 a9 a10 a11 a12 ∗ sems1 d L r0 r1 r2 r3 r4 r5 r6 r7 r8 r9 r10 r11 r12 r13
            ∗ (resHolds d L hh A5 (meanRow (mergedS (A2.view.read (Elt F) f2) (L 1).val) (mergedS (A4.view.read (Elt F) f4) (L 1).val))
              ∗ resHolds d L hh A6 (mergedM (A3.view.read (Elt F) f3) (L 1).val))
            ∗ owing d L O W 1) := by
  have hL : (L 1).val < 8 := ((active_iff L).1 hh).2
  rw [cc1__combine_body_eq_skeleton]
  unfold cc1__combine_body_skel
  rw [dif_pos hh]
  simp only [k1_part1_eq_skeleton, k1_part2_eq_skeleton, k1_part3_eq_skeleton]
  unfold k1_part1_skel k1_part2_skel k1_part3_skel
  simp only [Prog.lift, Prog.bind_op, Prog.bind_ret, Prog.pure_eq_ret, Prog.bind_assoc]
  iintro ⟨#Hmw, ⟨Ht2, Ht3, Ht4⟩, ⟨H7, H8, H9, H10, H11, H12⟩, ⟨Hr0, Hr1, Hr2, Hr3, Hr4, Hr5, Hr6, Hr7, Hr8, Hr9, Hr10, Hr11, Hr12, Hr13⟩, ⟨HO5, HO6⟩, HO⟩
  iapply (start_row d L A2 f2 q a7 r0 _ _ (L 1).val (by omega) (k1_off1_eq L)) $$ [Ht2 H7 Hr0]
  · isplitl [Ht2]; · iexact Ht2
    isplitl [H7]; · iexact H7
    iexact Hr0
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r0.sem)) $$ Hmw
  iintro ⟨⟨H7, Ht2⟩, Hr0, HO⟩
  iapply (start_row d L A3 f3 q a8 r1 _ _ (L 1).val (by omega) (k1_off1_eq L)) $$ [Ht3 H8 Hr1]
  · isplitl [Ht3]; · iexact Ht3
    isplitl [H8]; · iexact H8
    iexact Hr1
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r1.sem)) $$ Hmw
  iintro ⟨⟨H8, Ht3⟩, Hr1, HO⟩
  iapply (start_row d L A4 f4 q a9 r2 _ _ (L 1).val (by omega) (k1_off1_eq L)) $$ [Ht4 H9 Hr2]
  · isplitl [Ht4]; · iexact Ht4
    isplitl [H9]; · iexact H9
    iexact Hr2
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r2.sem)) $$ Hmw
  iintro ⟨⟨H9, Ht4⟩, Hr2, HO⟩
  iapply (start_row d L A2 f2 q a10 r3 _ _ (8 * (0 : Fin 3).val + (L 1).val + 8) (by show 8 * 0 + (L 1).val + 8 < 32; omega) (k1_off2_eq L 0)) $$ [Ht2 H10 Hr3]
  · isplitl [Ht2]; · iexact Ht2
    isplitl [H10]; · iexact H10
    iexact Hr3
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r3.sem)) $$ Hmw
  iintro ⟨⟨H10, Ht2⟩, Hr3, HO⟩
  iapply (start_row d L A3 f3 q a11 r4 _ _ (8 * (0 : Fin 3).val + (L 1).val + 8) (by show 8 * 0 + (L 1).val + 8 < 32; omega) (k1_off2_eq L 0)) $$ [Ht3 H11 Hr4]
  · isplitl [Ht3]; · iexact Ht3
    isplitl [H11]; · iexact H11
    iexact Hr4
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r4.sem)) $$ Hmw
  iintro ⟨⟨H11, Ht3⟩, Hr4, HO⟩
  iapply (start_row d L A4 f4 q a12 r5 _ _ (8 * (0 : Fin 3).val + (L 1).val + 8) (by show 8 * 0 + (L 1).val + 8 < 32; omega) (k1_off2_eq L 0)) $$ [Ht4 H12 Hr5]
  · isplitl [Ht4]; · iexact Ht4
    isplitl [H12]; · iexact H12
    iexact Hr5
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r5.sem)) $$ Hmw
  iintro ⟨⟨H12, Ht4⟩, Hr5, HO⟩
  rw [wp_bind]
  iapply (wp_wand_r frame (wpE (defs₀ (F := F)) 𝒱₀ (V d (cV L) (jV L)) none) Set.univ)
  isplitl [H7 H8 H9 H10 H11 H12]
  · iapply (merge_t1 d L A2 hA2 A3 hA3 A4 hA4 A5 hA5 A6 hA6 a7 h7 a8 h8 a9 h9 a10 h10 a11 h11 a12 h12 r0 r1 r2 r3 r4 r5 r6 r7 r8 r9 r10 r11 r12 r13 hh _ _ _ _ _ _ _)
    iframe H7 H8 H9 H10 H11 H12
  iintro %_ ⟨H7, H8, H9, H10, H11, H12⟩
  iapply (start_row d L A2 f2 q a10 r6 _ _ (8 * (1 : Fin 3).val + (L 1).val + 8) (by show 8 * 1 + (L 1).val + 8 < 32; omega) (k1_off2_eq L 1)) $$ [Ht2 H10 Hr6]
  · isplitl [Ht2]; · iexact Ht2
    isplitl [H10]; · icases H10 with ⟨%w, Hw, -⟩; iexists w; iexact Hw
    iexact Hr6
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r6.sem)) $$ Hmw
  iintro ⟨⟨H10, Ht2⟩, Hr6, HO⟩
  iapply (start_row d L A3 f3 q a11 r7 _ _ (8 * (1 : Fin 3).val + (L 1).val + 8) (by show 8 * 1 + (L 1).val + 8 < 32; omega) (k1_off2_eq L 1)) $$ [Ht3 H11 Hr7]
  · isplitl [Ht3]; · iexact Ht3
    isplitl [H11]; · icases H11 with ⟨%w, Hw, -⟩; iexists w; iexact Hw
    iexact Hr7
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r7.sem)) $$ Hmw
  iintro ⟨⟨H11, Ht3⟩, Hr7, HO⟩
  iapply (start_row d L A4 f4 q a12 r8 _ _ (8 * (1 : Fin 3).val + (L 1).val + 8) (by show 8 * 1 + (L 1).val + 8 < 32; omega) (k1_off2_eq L 1)) $$ [Ht4 H12 Hr8]
  · isplitl [Ht4]; · iexact Ht4
    isplitl [H12]; · icases H12 with ⟨%w, Hw, -⟩; iexists w; iexact Hw
    iexact Hr8
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r8.sem)) $$ Hmw
  iintro ⟨⟨H12, Ht4⟩, Hr8, HO⟩
  rw [t2_eq L A2 hA2 A3 hA3 A4 hA4 A5 hA5 A6 hA6 a7 h7 a8 h8 a9 h9 a10 h10 a11 h11 a12 h12 r0 r1 r2 r3 r4 r5 r6 r7 r8 r9 r10 r11 r12 r13 hh]
  rw [wp_bind]
  iapply (wp_wand_r frame (wpE (defs₀ (F := F)) 𝒱₀ (V d (cV L) (jV L)) none) Set.univ)
  isplitl [H7 H8 H9 H10 H11 H12]
  · iapply (merge_t1 d L A2 hA2 A3 hA3 A4 hA4 A5 hA5 A6 hA6 a7 h7 a8 h8 a9 h9 a10 h10 a11 h11 a12 h12 r0 r1 r2 r3 r4 r5 r6 r7 r8 r9 r10 r11 r12 r13 hh _ _ _ _ _ _ _)
    iframe H7 H8 H9 H10 H11 H12
  iintro %_ ⟨H7, H8, H9, H10, H11, H12⟩
  iapply (start_row d L A2 f2 q a10 r9 _ _ (8 * (2 : Fin 3).val + (L 1).val + 8) (by show 8 * 2 + (L 1).val + 8 < 32; omega) (k1_off2_eq L 2)) $$ [Ht2 H10 Hr9]
  · isplitl [Ht2]; · iexact Ht2
    isplitl [H10]; · icases H10 with ⟨%w, Hw, -⟩; iexists w; iexact Hw
    iexact Hr9
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r9.sem)) $$ Hmw
  iintro ⟨⟨H10, Ht2⟩, Hr9, HO⟩
  iapply (start_row d L A3 f3 q a11 r10 _ _ (8 * (2 : Fin 3).val + (L 1).val + 8) (by show 8 * 2 + (L 1).val + 8 < 32; omega) (k1_off2_eq L 2)) $$ [Ht3 H11 Hr10]
  · isplitl [Ht3]; · iexact Ht3
    isplitl [H11]; · icases H11 with ⟨%w, Hw, -⟩; iexists w; iexact Hw
    iexact Hr10
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r10.sem)) $$ Hmw
  iintro ⟨⟨H11, Ht3⟩, Hr10, HO⟩
  iapply (start_row d L A4 f4 q a12 r11 _ _ (8 * (2 : Fin 3).val + (L 1).val + 8) (by show 8 * 2 + (L 1).val + 8 < 32; omega) (k1_off2_eq L 2)) $$ [Ht4 H12 Hr11]
  · isplitl [Ht4]; · iexact Ht4
    isplitl [H12]; · icases H12 with ⟨%w, Hw, -⟩; iexists w; iexact Hw
    iexact Hr11
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r11.sem)) $$ Hmw
  iintro ⟨⟨H12, Ht4⟩, Hr11, HO⟩
  rw [t3_eq L A2 hA2 A3 hA3 A4 hA4 A5 hA5 A6 hA6 a7 h7 a8 h8 a9 h9 a10 h10 a11 h11 a12 h12 r0 r1 r2 r3 r4 r5 r6 r7 r8 r9 r10 r11 r12 r13 hh (BitVec.ofNat 32 (L 1).val)]
  rw [wp_bind]
  iapply (wp_wand_r frame (wpE (defs₀ (F := F)) 𝒱₀ (V d (cV L) (jV L)) none) Set.univ)
  isplitl [H7 H8 H9 H10 H11 H12]
  · iapply (merge_t1 d L A2 hA2 A3 hA3 A4 hA4 A5 hA5 A6 hA6 a7 h7 a8 h8 a9 h9 a10 h10 a11 h11 a12 h12 r0 r1 r2 r3 r4 r5 r6 r7 r8 r9 r10 r11 r12 r13 hh _ _ _ _ _ _ _)
    iframe H7 H8 H9 H10 H11 H12
  iintro %_ ⟨H7, H8, H9, H10, H11, H12⟩
  rw [wp_bind]
  iapply (wp_wand_r frame (wpE (defs₀ (F := F)) 𝒱₀ (V d (cV L) (jV L)) none) Set.univ)
  isplitl [H7 H9]
  · iapply (mean_t4 d L A2 hA2 A3 hA3 A4 hA4 A5 hA5 A6 hA6 a7 h7 a8 h8 a9 h9 a10 h10 a11 h11 a12 h12 r0 r1 r2 r3 r4 r5 r6 r7 r8 r9 r10 r11 r12 r13 hh _ _)
    iframe H7 H9
  iintro %_ ⟨H7, H9⟩
  iapply (start_res d L hh a7 A5 r12 _ g5) $$ [H7 HO5 Hr12]
  · isplitl [H7]; · iexact H7
    isplitl [HO5]; · iexact HO5
    iexact Hr12
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r12.sem)) $$ Hmw
  iintro ⟨⟨HO5, H7⟩, Hr12, HO⟩
  iapply (start_res d L hh a8 A6 r13 _ g6) $$ [H8 HO6 Hr13]
  · isplitl [H8]; · iexact H8
    isplitl [HO6]; · iexact HO6
    iexact Hr13
  iintro Hfl
  iapply (Transfers.wp_waitLocalO (EC (F := F)) 𝒱₀ (V d (cV L) (jV L)) none (none : HIx 2) rfl) $$ [Hfl HO]
  · isplitl [Hfl]; · iexact Hfl
    isplitl [HO]; · iexact HO
    iapply (Transfers.MayWaits.elim (SemLoc.dma r13.sem)) $$ Hmw
  iintro ⟨⟨HO6, H8⟩, Hr13, HO⟩
  sl_step
  isplitl [Ht2 Ht3 Ht4]
  · isplitl [Ht2]; · iexact Ht2
    isplitl [Ht3]; · iexact Ht3
    iexact Ht4
  icases H7 with ⟨%w7, H7, -⟩
  icases H8 with ⟨%w8, H8, -⟩
  icases H9 with ⟨%w9, H9, -⟩
  icases H10 with ⟨%w10, H10, -⟩
  icases H11 with ⟨%w11, H11, -⟩
  icases H12 with ⟨%w12, H12, -⟩
  isplitl [H7 H8 H9 H10 H11 H12]
  · isplitl [H7]; · iexists _; iexact H7
    isplitl [H8]; · iexists _; iexact H8
    isplitl [H9]; · iexists _; iexact H9
    isplitl [H10]; · iexists _; iexact H10
    isplitl [H11]; · iexists _; iexact H11
    iexists _; iexact H12
  isplitl [Hr0 Hr1 Hr2 Hr3 Hr4 Hr5 Hr6 Hr7 Hr8 Hr9 Hr10 Hr11 Hr12 Hr13]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    iexact Hr13
  isplitl [HO5 HO6]
  · isplitl [HO5]; · iexact HO5
    iexact HO6
  iexists _
  isplitr
  rotate_left
  · iexact HO
  ipureintro
  intro p hp
  simp only [Finset.mem_insert] at hp
  rcases hp with rfl | rfl | rfl | rfl | rfl | rfl | rfl | rfl | rfl | rfl | rfl | rfl | rfl | rfl | hp
  · exact .inr (.inl rfl)
  · exact .inr (.inl rfl)
  · exact .inr (.inl rfl)
  · exact .inr (.inl rfl)
  · exact .inr (.inl rfl)
  · exact .inr (.inl rfl)
  · exact .inr (.inl rfl)
  · exact .inr (.inl rfl)
  · exact .inr (.inl rfl)
  · exact .inr (.inl rfl)
  · exact .inr (.inl rfl)
  · exact .inr (.inl rfl)
  · exact .inr (.inl rfl)
  · exact .inr (.inl rfl)
  exact .inl hp

/-- The run of a task that doesn't merge. -/
theorem task1_idle (hh : ¬ k1_cond1 L = 1#1) (P : sProp 𝕄) :
    P ⊢ wp (M := 𝕄) frame (wpE (defs₀ (F := F)) 𝒱₀ (V d (cV L) (jV L)) none) Set.univ (cc1__combine_body (F := F) L A2 hA2 A3 hA3 A4 hA4 A5 hA5 A6 hA6 a7 h7 a8 h8 a9 h9 a10 h10 a11 h11 a12 h12 r0 r1 r2 r3 r4 r5 r6 r7 r8 r9 r10 r11 r12 r13) fun _ => P := by
  rw [cc1__combine_body_eq_skeleton]
  unfold cc1__combine_body_skel
  rw [dif_neg hh]
  iintro H
  sl_step
  iexact H

end Cert.Proof
-- ==== Proof.Own.lean ====
/-
  A tile's own buffers and semaphores: those a task names, one by one, and the rest.
-/
module

public import proofs.«01_k».proof.Proof.Task0
public import proofs.«01_k».proof.Proof.Task1

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (L : grid0.Coords)

abbrev VT : Thread nD τ := V d (cV L) (jV L)

/-- The buffers named by `r` and the rest of the tile's own. -/
abbrev restBufs {n : ℕ} (r : Fin n → Ref sig .scVector) : sProp 𝕄 :=
  bigSep (ownRefs (τ := τ) (sig := sig) (.scVector (cV L) (jV L)) \ Finset.univ.image fun k => (Proc.scVector (cV L) (jV L)).devRef (r k))
    fun b => iprop(∃ f, ((d, b) : Loc nD τ sig) ↦{fullShare} f)

theorem ownBufs_split {n : ℕ} (r : Fin n → Ref sig .scVector) (hr : Function.Injective r)
    (ho : ∀ k, ((Proc.scVector (cV L) (jV L)).devRef (r k)).owner = .proc (.scVector (cV L) (jV L))) :
    (ownBufs (VT d L) : sProp 𝕄)
      = iprop((bigSep Finset.univ fun k => iprop(∃ f, (VT d L).loc (r k) ↦{fullShare} f)) ∗ restBufs d L r) := by
  unfold SparseCore.Cfg.ownBufs
  rw [SparseCore.bigSep_sdiff_split' (t := Finset.univ.image fun k => (Proc.scVector (cV L) (jV L)).devRef (r k))
      (Finset.image_subset_iff.mpr fun k _ => SparseCore.Cfg.mem_ownRefs_of_owner (ho k)),
    SparseCore.bigSep_image_of_injOn (fun a _ b _ h => hr (Proc.devRef_injective _ h))]

/-- The semaphores numbered by `s` and the rest of the tile's own. -/
abbrev cell {n : ℕ} (s : Fin n → DmaSem sig) (k : Fin n) : GSem nD τ sig := (VT d L, .dma (s k))
abbrev restSems {n : ℕ} (s : Fin n → DmaSem sig) : sProp 𝕄 :=
  bigSep (ownCells (VT d L) \ Finset.univ.image (cell d L s)) fun g => semVal g 0

theorem ownSems_split {n : ℕ} (s : Fin n → DmaSem sig) (hs : Function.Injective s) :
    (ownSems0 (VT d L) : sProp 𝕄) = iprop((bigSep Finset.univ fun k => semVal (cell d L s k) 0) ∗ restSems d L s) := by
  unfold SparseCore.Cfg.ownSems0
  rw [SparseCore.bigSep_sdiff_split' (t := Finset.univ.image (cell d L s))
      (Finset.image_subset_iff.mpr fun k _ => mem_ownCells.mpr ⟨rfl, (show ∀ s : DmaSem sig, (SemLoc.dma s : SemLoc sig).isScoped .scVector = true by decide) _⟩),
    SparseCore.bigSep_image_of_injOn (fun a _ b _ h => hs (by
      have := congrArg (fun g : GSem nD τ sig => g.2) h
      simpa only [SemLoc.dma.injEq] using this))]

/-! ## The first call -/

abbrev refs0 : Fin 9 → Ref sig .scVector :=
  ![cc0_scratch0, cc0_scratch1, cc0_scratch2, cc0_scratch3, cc0_scratch4, cc0_scratch5, cc0_scratch6, cc0_scratch7, cc0_scratch8]
abbrev nums0 : Fin 7 → DmaSem sig := fun k => ⟨k.val, Nat.lt_of_lt_of_le k.isLt (by decide)⟩

theorem ownBufs_0 : (ownBufs (VT d L) : sProp 𝕄)
    = iprop(bufs0 (F := F) d L (Memref.whole cc0_scratch0) (Memref.whole cc0_scratch1) (Memref.whole cc0_scratch2) (Memref.whole cc0_scratch3)
        (Memref.whole cc0_scratch4) (Memref.whole cc0_scratch5) (Memref.whole cc0_scratch6) (Memref.whole cc0_scratch7) (Memref.whole cc0_scratch8)
        ∗ restBufs (F := F) d L refs0) := by
  rw [ownBufs_split d L refs0 (by decide) (fun k => by fin_cases k <;> rfl)]
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  simp only [bufs0, own, View.set_whole]
  rfl

theorem ownSems_0 : (ownSems0 (VT d L) : sProp 𝕄)
    = iprop(sems0 (F := F) d L cc0_scratch9 cc0_scratch10 cc0_scratch11 cc0_scratch12 cc0_scoped0 cc0_scoped1 cc0_scoped2 ∗ restSems (F := F) d L nums0) := by
  rw [ownSems_split d L nums0 (fun a b h => Fin.ext (by simpa only [nums0, Fin.mk.injEq] using h))]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-! ## The second call -/

abbrev refs1 : Fin 6 → Ref sig .scVector := ![cc1_scratch0, cc1_scratch1, cc1_scratch2, cc1_scratch3, cc1_scratch4, cc1_scratch5]
abbrev nums1 : Fin 14 → DmaSem sig := fun k => ⟨k.val + 7, Nat.lt_of_lt_of_le (Nat.add_lt_add_right k.isLt 7) (by decide)⟩

theorem ownBufs_1 : (ownBufs (VT d L) : sProp 𝕄)
    = iprop(bufs1 (F := F) d L (Memref.whole cc1_scratch0) (Memref.whole cc1_scratch1) (Memref.whole cc1_scratch2) (Memref.whole cc1_scratch3)
        (Memref.whole cc1_scratch4) (Memref.whole cc1_scratch5) ∗ restBufs (F := F) d L refs1) := by
  rw [ownBufs_split d L refs1 (by decide) (fun k => by fin_cases k <;> rfl)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  simp only [bufs1, own, View.set_whole]
  rfl

theorem ownSems_1 : (ownSems0 (VT d L) : sProp 𝕄)
    = iprop(sems1 (F := F) d L cc1_scoped0 cc1_scoped1 cc1_scoped2 cc1_scoped3 cc1_scoped4 cc1_scoped5 cc1_scoped6 cc1_scoped7 cc1_scoped8 cc1_scoped9
        cc1_scoped10 cc1_scoped11 cc1_scoped12 cc1_scoped13 ∗ restSems (F := F) d L nums1) := by
  rw [ownSems_split d L nums1 (fun a b h => Fin.ext (by simpa only [nums1, Fin.mk.injEq, Nat.add_right_cancel_iff] using h))]
  rw [show (Finset.univ : Finset (Fin 14)) = {0, 1, 2, 3, 4, 5, 6, 7, 8, 9, 10, 11, 12, 13} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

end Cert.Proof
-- ==== Proof.Pieces.lean ====
/-
  What each tile is handed at each call and hands back: read shares of whole arrays, its row of each result; how whole
  arrays are these rows.
-/
module

public import proofs.«01_k».proof.Proof.Own

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-! ## The arrays -/

abbrev xLoc (d : Dev nD) : Loc nD τ sig := (SparseCore.T d).loc main_arg0
abbrev bLoc (d : Dev nD) : Loc nD τ sig := (SparseCore.T d).loc main_arg1
abbrev s0Loc (d : Dev nD) : Loc nD τ sig := (SparseCore.T d).loc main_v0_0
abbrev s1Loc (d : Dev nD) : Loc nD τ sig := (SparseCore.T d).loc main_v0_1
abbrev s2Loc (d : Dev nD) : Loc nD τ sig := (SparseCore.T d).loc main_v0_2
abbrev o0Loc (d : Dev nD) : Loc nD τ sig := (SparseCore.T d).loc main_v1_0
abbrev o1Loc (d : Dev nD) : Loc nD τ sig := (SparseCore.T d).loc main_v1_1

/-- The arrays as a tile names them. -/
abbrev xM : Memref sig .scVector .hbm S100000x128 .f32 := Memref.whole main_arg0_scv
abbrev bM : Memref sig .scVector .hbm S100000 .i32 := Memref.whole main_arg1_scv
abbrev s0M : Memref sig .scVector .hbm S32x8192 .f32 := Memref.whole main_v0_0_scv
abbrev s1M : Memref sig .scVector .hbm S32x8192 .f32 := Memref.whole main_v0_1_scv
abbrev s2M : Memref sig .scVector .hbm S32x8192 .f32 := Memref.whole main_v0_2_scv
abbrev o0M : Memref sig .scVector .hbm S8x8192 .f32 := Memref.whole main_v1_0_scv
abbrev o1M : Memref sig .scVector .hbm S8x8192 .f32 := Memref.whole main_v1_1_scv

/-! ## The rows -/

/-- Row `w` of a first call's result, and of a second call's (there are eight of these). -/
def sSet (w : Fin 32) : Finset S32x8192.Idx := Finset.univ.filter fun y => (y 0).val = w.val
def oSet (w : Fin 32) : Finset S8x8192.Idx := Finset.univ.filter fun y => (y 0).val = w.val

theorem mem_sSet {w : Fin 32} {y : S32x8192.Idx} : y ∈ sSet w ↔ (y 0).val = w.val := by simp [sSet]
theorem mem_oSet {w : Fin 32} {y : S8x8192.Idx} : y ∈ oSet w ↔ (y 0).val = w.val := by simp [oSet]

theorem sSet_disjoint : ∀ w ∈ (Finset.univ : Finset (Fin 32)), ∀ w' ∈ (Finset.univ : Finset (Fin 32)), w ≠ w' → Disjoint (sSet w) (sSet w') :=
  fun _ _ _ _ h => Finset.disjoint_left.mpr fun _ hy hy' => h (Fin.ext ((mem_sSet.1 hy).symm.trans (mem_sSet.1 hy')))
theorem oSet_disjoint : ∀ w ∈ (Finset.univ : Finset (Fin 32)), ∀ w' ∈ (Finset.univ : Finset (Fin 32)), w ≠ w' → Disjoint (oSet w) (oSet w') :=
  fun _ _ _ _ h => Finset.disjoint_left.mpr fun _ hy hy' => h (Fin.ext ((mem_oSet.1 hy).symm.trans (mem_oSet.1 hy')))
theorem sSet_cover : (Finset.univ : Finset (Fin 32)).biUnion sSet = Finset.univ :=
  Finset.eq_univ_of_forall fun y => Finset.mem_biUnion.mpr ⟨⟨(y 0).val, (y 0).isLt⟩, Finset.mem_univ _, mem_sSet.2 rfl⟩
theorem oSet_cover : (Finset.univ : Finset (Fin 32)).biUnion oSet = Finset.univ :=
  Finset.eq_univ_of_forall fun y => Finset.mem_biUnion.mpr ⟨⟨(y 0).val, Nat.lt_trans (y 0).isLt (by decide)⟩, Finset.mem_univ _, mem_oSet.2 rfl⟩

theorem s0_rows (d : Dev nD) (f : Buf (Elt F) (s0Loc d)) : (s0Loc d ↦{fullShare} f : sProp 𝕄) = bigSep Finset.univ fun w : Fin 32 => s0Loc d ↦[sSet w]{fullShare} f := by
  rw [← pointsTo_biUnion Finset.univ (ℓ := s0Loc d) sSet sSet_disjoint, sSet_cover]; try rfl
theorem s1_rows (d : Dev nD) (f : Buf (Elt F) (s1Loc d)) : (s1Loc d ↦{fullShare} f : sProp 𝕄) = bigSep Finset.univ fun w : Fin 32 => s1Loc d ↦[sSet w]{fullShare} f := by
  rw [← pointsTo_biUnion Finset.univ (ℓ := s1Loc d) sSet sSet_disjoint, sSet_cover]; try rfl
theorem s2_rows (d : Dev nD) (f : Buf (Elt F) (s2Loc d)) : (s2Loc d ↦{fullShare} f : sProp 𝕄) = bigSep Finset.univ fun w : Fin 32 => s2Loc d ↦[sSet w]{fullShare} f := by
  rw [← pointsTo_biUnion Finset.univ (ℓ := s2Loc d) sSet sSet_disjoint, sSet_cover]; try rfl
theorem o0_rows (d : Dev nD) (f : Buf (Elt F) (o0Loc d)) : (o0Loc d ↦{fullShare} f : sProp 𝕄) = bigSep Finset.univ fun w : Fin 32 => o0Loc d ↦[oSet w]{fullShare} f := by
  rw [← pointsTo_biUnion Finset.univ (ℓ := o0Loc d) oSet oSet_disjoint, oSet_cover]; try rfl
theorem o1_rows (d : Dev nD) (f : Buf (Elt F) (o1Loc d)) : (o1Loc d ↦{fullShare} f : sProp 𝕄) = bigSep Finset.univ fun w : Fin 32 => o1Loc d ↦[oSet w]{fullShare} f := by
  rw [← pointsTo_biUnion Finset.univ (ℓ := o1Loc d) oSet oSet_disjoint, oSet_cover]; try rfl

/-! ## The tiles by number, and their read shares -/

/-- The tile of number `w`. -/
abbrev tileOf (w : Fin 32) : grid0.Coords := coords0 ⟨w.val / 16, by omega⟩ ⟨w.val % 16, by omega⟩
/-- The number of a tile. -/
abbrev num (L : grid0.Coords) : Fin 32 := ⟨wid L, by have h0 : (L 0).val < 2 := (L 0).isLt; have h1 : (L 1).val < 16 := (L 1).isLt; show 16 * (L 0).val + (L 1).val < 32; omega⟩
theorem tileOf_num (L : grid0.Coords) : tileOf (num L) = L := by
  have h1 : (L 1).val < 16 := (L 1).isLt
  rw [coords0_eta L]
  funext a
  fin_cases a
  · exact Fin.ext (show (16 * (L 0).val + (L 1).val) / 16 = (L 0).val by omega)
  · exact Fin.ext (show (16 * (L 0).val + (L 1).val) % 16 = (L 1).val by omega)

/-- Tile `w`'s share of an array all tiles read. -/
abbrev qw (w : Fin 32) : PosShare TreeShare := Transfers.dealOf fullShare Finset.univ w
/-- The two shares a tile of the first call reads with at once. -/
abbrev qt (w : Fin 32) (k : Fin 2) : PosShare TreeShare := Transfers.dealOf (qw w) Finset.univ k

/-- A whole array is the tiles' shares of it. -/
theorem whole_shares {ℓ : Loc nD τ sig} (f : Buf (Elt F) ℓ) : (ℓ ↦{fullShare} f : sProp 𝕄) = bigSep Finset.univ fun w : Fin 32 => ℓ ↦{qw w} f :=
  Transfers.pointsTo_deal Finset.univ ⟨0, Finset.mem_univ _⟩ fullShare
theorem share_two {ℓ : Loc nD τ sig} (f : Buf (Elt F) ℓ) (w : Fin 32) : (ℓ ↦{qw w} f : sProp 𝕄) = iprop((ℓ ↦{qt w 0} f) ∗ ℓ ↦{qt w 1} f) :=
  (Transfers.pointsTo_deal Finset.univ ⟨0, Finset.mem_univ _⟩ (qw w)).trans (bigSep_fin_two _)

/-! ## What the calls compute -/

variable (m : (ℓ : Loc nD τ sig) → Buf (Elt F) ℓ)

/-- What tile `L` has at the end of the first call. -/
def tileFin (d : Dev nD) (L : grid0.Coords) : St F := finSt d L xM bM (m (xLoc d)) (m (bLoc d))

/-- Entry `e` of a row. -/
abbrev ixE (e : Fin 8192) : S8192.Idx := fun | 0 => e | ⟨_ + 1, h⟩ => absurd h (Nat.not_lt.2 (Nat.le_add_left _ _))

/-- The first call's results: the sums, maxima and counts of each tile. -/
def V0 (d : Dev nD) : S32x8192.Idx → F .f32 := fun y => slots (tileFin m d (tileOf (y 0))).As (ixE (y 1))
def V1 (d : Dev nD) : S32x8192.Idx → F .f32 := fun y => slots (tileFin m d (tileOf (y 0))).Am (ixE (y 1))
def V2 (d : Dev nD) : S32x8192.Idx → F .f32 := fun y => slots (tileFin m d (tileOf (y 0))).Ac (ixE (y 1))
/-- The second call's: the means and maxima of each column group. -/
def R0 (d : Dev nD) : S8x8192.Idx → F .f32 := fun y => meanRow (mergedS (V0 m d) (y 0).val) (mergedS (V2 m d) (y 0).val) (ixE (y 1))
def R1 (d : Dev nD) : S8x8192.Idx → F .f32 := fun y => mergedM (V1 m d) (y 0).val (ixE (y 1))

/-- Tile `w`'s pieces at the first call, and what it brings back. -/
abbrev G0 (d : Dev nD) (w : Fin 32) : sProp 𝕄 :=
  iprop((xLoc d ↦{qw w} m (xLoc d)) ∗ (bLoc d ↦{qw w} m (bLoc d))
    ∗ (s0Loc d ↦[sSet w]{fullShare} m (s0Loc d)) ∗ (s1Loc d ↦[sSet w]{fullShare} m (s1Loc d)) ∗ s2Loc d ↦[sSet w]{fullShare} m (s2Loc d))
abbrev T0 (d : Dev nD) (w : Fin 32) : sProp 𝕄 :=
  iprop((xLoc d ↦{qw w} m (xLoc d)) ∗ (bLoc d ↦{qw w} m (bLoc d))
    ∗ (s0Loc d ↦[sSet w]{fullShare} V0 m d) ∗ (s1Loc d ↦[sSet w]{fullShare} V1 m d) ∗ s2Loc d ↦[sSet w]{fullShare} V2 m d)
/-- At the second call. -/
abbrev G1 (d : Dev nD) (w : Fin 32) : sProp 𝕄 :=
  iprop((s0Loc d ↦{qw w} V0 m d) ∗ (s1Loc d ↦{qw w} V1 m d) ∗ (s2Loc d ↦{qw w} V2 m d)
    ∗ (o0Loc d ↦[oSet w]{fullShare} m (o0Loc d)) ∗ o1Loc d ↦[oSet w]{fullShare} m (o1Loc d))
abbrev T1 (d : Dev nD) (w : Fin 32) : sProp 𝕄 :=
  iprop((s0Loc d ↦{qw w} V0 m d) ∗ (s1Loc d ↦{qw w} V1 m d) ∗ (s2Loc d ↦{qw w} V2 m d)
    ∗ (o0Loc d ↦[oSet w]{fullShare} R0 m d) ∗ o1Loc d ↦[oSet w]{fullShare} R1 m d)

/-- All tiles' pieces are the arrays whole. -/
theorem G0_all (d : Dev nD) : (bigSep Finset.univ fun w => G0 m d w)
    = (iprop((xLoc d ↦{fullShare} m (xLoc d)) ∗ (bLoc d ↦{fullShare} m (bLoc d)) ∗ (s0Loc d ↦{fullShare} m (s0Loc d))
        ∗ (s1Loc d ↦{fullShare} m (s1Loc d)) ∗ s2Loc d ↦{fullShare} m (s2Loc d)) : sProp 𝕄) := by
  rw [bigSep_sep', bigSep_sep', bigSep_sep', bigSep_sep', ← whole_shares, ← whole_shares, ← s0_rows, ← s1_rows, ← s2_rows]
theorem T0_all (d : Dev nD) : (bigSep Finset.univ fun w => T0 m d w)
    = (iprop((xLoc d ↦{fullShare} m (xLoc d)) ∗ (bLoc d ↦{fullShare} m (bLoc d)) ∗ (s0Loc d ↦{fullShare} V0 m d)
        ∗ (s1Loc d ↦{fullShare} V1 m d) ∗ s2Loc d ↦{fullShare} V2 m d) : sProp 𝕄) := by
  rw [bigSep_sep', bigSep_sep', bigSep_sep', bigSep_sep', ← whole_shares, ← whole_shares, ← s0_rows, ← s1_rows, ← s2_rows]
theorem G1_all (d : Dev nD) : (bigSep Finset.univ fun w => G1 m d w)
    = (iprop((s0Loc d ↦{fullShare} V0 m d) ∗ (s1Loc d ↦{fullShare} V1 m d) ∗ (s2Loc d ↦{fullShare} V2 m d)
        ∗ (o0Loc d ↦{fullShare} m (o0Loc d)) ∗ o1Loc d ↦{fullShare} m (o1Loc d)) : sProp 𝕄) := by
  rw [bigSep_sep', bigSep_sep', bigSep_sep', bigSep_sep', ← whole_shares, ← whole_shares, ← whole_shares, ← o0_rows, ← o1_rows]
theorem T1_all (d : Dev nD) : (bigSep Finset.univ fun w => T1 m d w)
    = (iprop((s0Loc d ↦{fullShare} V0 m d) ∗ (s1Loc d ↦{fullShare} V1 m d) ∗ (s2Loc d ↦{fullShare} V2 m d)
        ∗ (o0Loc d ↦{fullShare} R0 m d) ∗ o1Loc d ↦{fullShare} R1 m d) : sProp 𝕄) := by
  rw [bigSep_sep', bigSep_sep', bigSep_sep', bigSep_sep', ← whole_shares, ← whole_shares, ← whole_shares, ← o0_rows, ← o1_rows]

/-! ## The calls' operands and results -/

/-- The number of task `i` of SparseCore `c`. -/
abbrev wF (q : Fin 2) (c : Fin ((K (F := F)).nCore q)) (i : Fin ((K (F := F)).nSub q)) : Fin 32 :=
  match q, c, i with
  | 0, c, i => finProdFinEquiv ((c : Fin 2), (i : Fin 16))
  | 1, c, i => finProdFinEquiv ((c : Fin 2), (i : Fin 16))

abbrev goP (q : Fin 2) (d : Dev nD) (w : Fin 32) : sProp 𝕄 := match q with | 0 => G0 m d w | 1 => G1 m d w
abbrev tdP (q : Fin 2) (d : Dev nD) (w : Fin 32) : sProp 𝕄 := match q with | 0 => T0 m d w | 1 => T1 m d w

instance goP_storable (q : Fin 2) (d : Dev nD) (w : Fin 32) : BI.Storable (upEmb : UEmb _ 𝕄) (goP m q d w) :=
  match q with
  | 0 => (inferInstance : BI.Storable (upEmb : UEmb _ 𝕄) (G0 m d w))
  | 1 => (inferInstance : BI.Storable (upEmb : UEmb _ 𝕄) (G1 m d w))
instance tdP_storable (q : Fin 2) (d : Dev nD) (w : Fin 32) : BI.Storable (upEmb : UEmb _ 𝕄) (tdP m q d w) :=
  match q with
  | 0 => (inferInstance : BI.Storable (upEmb : UEmb _ 𝕄) (T0 m d w))
  | 1 => (inferInstance : BI.Storable (upEmb : UEmb _ 𝕄) (T1 m d w))

/-- Each call takes its tasks' pieces and brings back theirs. -/
def P : (K (F := F)).Pay (nD := nD) (Val := Elt F) (Name := ℕ) (U := UU) where
  st q d c := bigSep Finset.univ fun i => goP m q d (wF (F := F) q c i)
  dn q d c := bigSep Finset.univ fun i => tdP m q d (wF (F := F) q c i)
  go q d c i := goP m q d (wF (F := F) q c i)
  td q d c i := tdP m q d (wF (F := F) q c i)
  x := fun _ _ => iprop(emp)

instance P_storable : (P (F := F) m).IsStorable where
  st q d c := (inferInstance : BI.Storable (upEmb : UEmb _ 𝕄) (bigSep Finset.univ fun i => goP m q d (wF (F := F) q c i)))
  dn q d c := (inferInstance : BI.Storable (upEmb : UEmb _ 𝕄) (bigSep Finset.univ fun i => tdP m q d (wF (F := F) q c i)))
  go q d c i := goP_storable m q d _
  td q d c i := tdP_storable m q d _

theorem vecSplit (q : Fin 2) : (K (F := F)).VecSplit' (P m) q := by
  intro d c
  change (bigSep Finset.univ fun i => goP m q d (wF (F := F) q c i)) ⊢ |={Set.univ}=> iprop((bigSep Finset.univ fun i => goP m q d (wF (F := F) q c i))
    ∗ ((bigSep Finset.univ fun i => tdP m q d (wF (F := F) q c i)) -∗ bigSep Finset.univ fun i => tdP m q d (wF (F := F) q c i)))
  iintro H; imodintro
  isplitl [H]; · iexact H
  iintro H; iexact H

/-- Over all tasks of all SparseCores is over all tiles. -/
theorem all_tiles (Φ : Fin 32 → sProp 𝕄) :
    (bigSep Finset.univ fun c : Fin 2 => bigSep Finset.univ fun i : Fin 16 => Φ (finProdFinEquiv (c, i))) = bigSep Finset.univ Φ := by
  rw [bigSep_univ_equiv (finProdFinEquiv (m := 2) (n := 16)) Φ, BI.bigSep_univ_prod]

theorem st_all (q : Fin 2) (d : Dev nD) : (bigSep Finset.univ fun c => (P m).st q d c) = bigSep Finset.univ fun w => goP m q d w :=
  match q with
  | 0 => all_tiles (goP m 0 d)
  | 1 => all_tiles (goP m 1 d)
theorem dn_all (q : Fin 2) (d : Dev nD) : (bigSep Finset.univ fun c => (P m).dn q d c) = bigSep Finset.univ fun w => tdP m q d w :=
  match q with
  | 0 => all_tiles (tdP m 0 d)
  | 1 => all_tiles (tdP m 1 d)

end Cert.Proof
-- ==== Proof.Tiles.lean ====
/-
  The tasks' obligations at the launch, for both calls.
-/
module

public import proofs.«01_k».proof.Proof.Pieces

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid0.Coords)

/-! ## The rows as the tasks slice them -/

abbrev rowK : Rect S32x8192 := Rect.unit (s := S32x8192) (k0_off45 L) S1x8192.size (k0_off45_inb L)
abbrev resK (hh : k1_cond1 L = 1#1) : Rect S8x8192 := Rect.unit (s := S8x8192) (k1_off7 L) S1x8192.size (k1_off7_inb L hh)

theorem rowK_set : (rowK L).set = sSet (num L) := by
  ext y
  rw [Rect.mem_set_unit, k0_off45_eq, mem_sSet]
  have h1 : (y 1).val < 8192 := (y 1).isLt
  constructor
  · intro h
    have := h 0
    change 16 * (L 0).val + (L 1).val ≤ (y 0).val ∧ (y 0).val < 16 * (L 0).val + (L 1).val + 1 at this
    show (y 0).val = 16 * (L 0).val + (L 1).val
    omega
  · intro h a
    change (y 0).val = 16 * (L 0).val + (L 1).val at h
    fin_cases a
    · show 16 * (L 0).val + (L 1).val ≤ (y 0).val ∧ (y 0).val < 16 * (L 0).val + (L 1).val + 1; omega
    · show 0 ≤ (y 1).val ∧ (y 1).val < 0 + 8192; omega

theorem resK_set (hh : k1_cond1 L = 1#1) : (resK L hh).set = oSet (num L) := by
  have h0 : (L 0).val = 0 := ((active_iff L).1 hh).1
  ext y
  rw [Rect.mem_set_unit, k1_off7_eq, mem_oSet]
  have h1 : (y 1).val < 8192 := (y 1).isLt
  constructor
  · intro h
    have := h 0
    change (L 1).val ≤ (y 0).val ∧ (y 0).val < (L 1).val + 1 at this
    show (y 0).val = 16 * (L 0).val + (L 1).val
    omega
  · intro h a
    change (y 0).val = 16 * (L 0).val + (L 1).val at h
    fin_cases a
    · show (L 1).val ≤ (y 0).val ∧ (y 0).val < (L 1).val + 1; omega
    · show 0 ≤ (y 1).val ∧ (y 1).val < 0 + 8192; omega

/-- A tile that doesn't merge has no row of the second call's results. -/
theorem oSet_idle (hh : ¬ k1_cond1 L = 1#1) : oSet (num L) = ∅ := by
  refine Finset.eq_empty_of_forall_notMem fun y hy => hh ((active_iff L).2 ?_)
  have h1 : (y 0).val < 8 := (y 0).isLt
  have := mem_oSet.1 hy
  change (y 0).val = 16 * (L 0).val + (L 1).val at this
  omega

theorem set_s0 : (outM L s0M).view.set = sSet (num L) := by
  show (((View.whole main_v0_0_scv).slice (rowK L)).reshape S8192 squeezes_S1x8192_S8192.numel_eq).set = _
  rw [View.set_reshape, View.set_slice]; exact Finset.map_refl.trans (rowK_set L)
theorem set_s1 : (outM L s1M).view.set = sSet (num L) := by
  show (((View.whole main_v0_1_scv).slice (rowK L)).reshape S8192 squeezes_S1x8192_S8192.numel_eq).set = _
  rw [View.set_reshape, View.set_slice]; exact Finset.map_refl.trans (rowK_set L)
theorem set_s2 : (outM L s2M).view.set = sSet (num L) := by
  show (((View.whole main_v0_2_scv).slice (rowK L)).reshape S8192 squeezes_S1x8192_S8192.numel_eq).set = _
  rw [View.set_reshape, View.set_slice]; exact Finset.map_refl.trans (rowK_set L)
theorem set_o0 (hh : k1_cond1 L = 1#1) : (resM L hh o0M).view.set = oSet (num L) := by
  show (((View.whole main_v1_0_scv).slice (resK L hh)).reshape S8192 squeezes_S1x8192_S8192.numel_eq).set = _
  rw [View.set_reshape, View.set_slice]; exact Finset.map_refl.trans (resK_set L hh)
theorem set_o1 (hh : k1_cond1 L = 1#1) : (resM L hh o1M).view.set = oSet (num L) := by
  show (((View.whole main_v1_1_scv).slice (resK L hh)).reshape S8192 squeezes_S1x8192_S8192.numel_eq).set = _
  rw [View.set_reshape, View.set_slice]; exact Finset.map_refl.trans (resK_set L hh)

/-- Contents that read alike through a view are alike on it. -/
theorem held_congr {thr : Thread nD τ} {sh : Shape} {e : EltTy} {sp : Space} (v : Memref sig thr.2.kind sp sh e) (p : sh.Idx → Elt F e)
    (f' : Buf (Elt F) (v.view.loc thr)) (h : v.view.read (Elt F) f' = p) :
    iprop(∃ f, (v.view.loc thr ↦[v.view.set]{fullShare} f) ∗ ⌜v.view.read (Elt F) f = p⌝) ⊢ (v.view.loc thr ↦[v.view.set]{fullShare} f' : sProp 𝕄) := by
  iintro ⟨%f, H, %hf⟩
  have e : (v.view.loc thr ↦[v.view.set]{fullShare} f : sProp 𝕄) = v.view.loc thr ↦[v.view.set]{fullShare} f' :=
    pointsTo_congr (fun y hy => by
      obtain ⟨z, rfl⟩ := View.exists_emb_of_mem_set _ hy
      have := congrFun (hf.trans h.symm) z
      unfold View.read at this
      exact (cast_inj _).1 this)
  iapply (Entails.of_eq e) $$ H

/-- Equal sets of a buffer's elements are held alike. -/
theorem on_set {ℓ : Loc nD τ sig} {s t : Finset (Idx ℓ)} (e : s = t) (f : Buf (Elt F) ℓ) : (ℓ ↦[s]{fullShare} f : sProp 𝕄) ⊢ ℓ ↦[t]{fullShare} f :=
  Entails.of_eq (congrArg (fun s => (ℓ ↦[s]{fullShare} f : sProp 𝕄)) e)

/-- An index of the task's row of a result, as an index of the result. -/
theorem emb_row (y : S8192.Idx) : (rowK L).emb (Shape.reshapeEquiv (squeezes_S1x8192_S8192.numel_eq) y) = ix32 (num L).val y := by
  funext k
  fin_cases k
  · refine Fin.ext ?_
    show (k0_off45 L) 0 + 1 * ((Shape.reshapeEquiv (squeezes_S1x8192_S8192.numel_eq) y) 0).val = (num L).val % 32
    rw [k0_off45_eq, Shape.reshapeEquiv_cons_one (n := 1) (d := ![8192])]
    have := (num L).isLt
    show (16 * (L 0).val + (L 1).val) + 1 * 0 = (16 * (L 0).val + (L 1).val) % 32
    change 16 * (L 0).val + (L 1).val < 32 at this
    omega
  · refine Fin.ext ?_
    show (k0_off45 L) 1 + 1 * ((Shape.reshapeEquiv (squeezes_S1x8192_S8192.numel_eq) y) 1).val = (y 0).val
    rw [k0_off45_eq, Shape.reshapeEquiv_cons_one (n := 1) (d := ![8192])]
    show 0 + 1 * (y 0).val = (y 0).val
    omega

theorem emb_res (hh : k1_cond1 L = 1#1) (y : S8192.Idx) :
    ((resK L hh).emb (Shape.reshapeEquiv (squeezes_S1x8192_S8192.numel_eq) y) 0).val = (L 1).val
      ∧ (resK L hh).emb (Shape.reshapeEquiv (squeezes_S1x8192_S8192.numel_eq) y) 1 = y 0 := by
  constructor
  · show (k1_off7 L) 0 + 1 * ((Shape.reshapeEquiv (squeezes_S1x8192_S8192.numel_eq) y) 0).val = _
    rw [k1_off7_eq, Shape.reshapeEquiv_cons_one (n := 1) (d := ![8192])]
    show (L 1).val + 1 * 0 = (L 1).val
    omega
  · refine Fin.ext ?_
    show (k1_off7 L) 1 + 1 * ((Shape.reshapeEquiv (squeezes_S1x8192_S8192.numel_eq) y) 1).val = (y 0).val
    rw [k1_off7_eq, Shape.reshapeEquiv_cons_one (n := 1) (d := ![8192])]
    show 0 + 1 * (y 0).val = (y 0).val
    omega

theorem ixE_eta (y : S8192.Idx) : ixE (y 0) = y := funext fun a => by fin_cases a; rfl
theorem tileOf_ix32 (y : S8192.Idx) : tileOf (ix32 (num L).val y 0) = L := by
  rw [show (ix32 (num L).val y 0 : Fin 32) = num L from Fin.ext (Nat.mod_eq_of_lt (num L).isLt)]
  exact tileOf_num L

/-- The results' values read along a task's row. -/
theorem read_V0 : (outM L s0M).view.read (Elt F) (V0 m d) = slots (finSt d L xM bM (m (xLoc d)) (m (bLoc d))).As := funext fun y => by
  show V0 m d ((rowK L).emb (Shape.reshapeEquiv (squeezes_S1x8192_S8192.numel_eq) y)) = _
  rw [emb_row]
  unfold V0
  rw [tileOf_ix32]
  exact congrArg _ (ixE_eta y)
theorem read_V1 : (outM L s1M).view.read (Elt F) (V1 m d) = slots (finSt d L xM bM (m (xLoc d)) (m (bLoc d))).Am := funext fun y => by
  show V1 m d ((rowK L).emb (Shape.reshapeEquiv (squeezes_S1x8192_S8192.numel_eq) y)) = _
  rw [emb_row]
  unfold V1
  rw [tileOf_ix32]
  exact congrArg _ (ixE_eta y)
theorem read_V2 : (outM L s2M).view.read (Elt F) (V2 m d) = slots (finSt d L xM bM (m (xLoc d)) (m (bLoc d))).Ac := funext fun y => by
  show V2 m d ((rowK L).emb (Shape.reshapeEquiv (squeezes_S1x8192_S8192.numel_eq) y)) = _
  rw [emb_row]
  unfold V2
  rw [tileOf_ix32]
  exact congrArg _ (ixE_eta y)
theorem read_R0 (hh : k1_cond1 L = 1#1) :
    (resM L hh o0M).view.read (Elt F) (R0 m d)
      = meanRow (mergedS (s0M.view.read (Elt F) (V0 m d)) (L 1).val) (mergedS (s2M.view.read (Elt F) (V2 m d)) (L 1).val) := funext fun y => by
  show R0 m d ((resK L hh).emb (Shape.reshapeEquiv (squeezes_S1x8192_S8192.numel_eq) y)) = _
  unfold R0
  rw [(emb_res L hh y).1, (emb_res L hh y).2]
  exact congrArg _ (ixE_eta y)
theorem read_R1 (hh : k1_cond1 L = 1#1) : (resM L hh o1M).view.read (Elt F) (R1 m d) = mergedM (s1M.view.read (Elt F) (V1 m d)) (L 1).val := funext fun y => by
  show R1 m d ((resK L hh).emb (Shape.reshapeEquiv (squeezes_S1x8192_S8192.numel_eq) y)) = _
  unfold R1
  rw [(emb_res L hh y).1, (emb_res L hh y).2]
  exact congrArg _ (ixE_eta y)

/-- What the proof asks of the launch memory: every segment number has its slot. -/
def PreOK : Prop := ∀ (d : Dev nD) (j : S100000.Idx), Ok (m (bLoc d) j)

theorem bt_ok (h : PreOK m) : ∀ n, Ok (bt d L bM (m (bLoc d)) n) := fun _ => h d _

variable (O : CellTallies nD τ sig (HIx 2)) (W : Waits sig (HIx 2))

/-- The first call's task, between the launch's forms of what it is given and gives back. -/
theorem tile0 (hpre : PreOK m) (hO : ∀ g, O g none = 0) :
    iprop(levAts (K (F := F)).L (K (F := F)).lev ∗ emp ∗ G0 m d (num L) ∗ scopedBufs (VT d L) ∗ scopedSems0 (VT d L) ∗ owes (VT d L) O W)
      ⊢ wp (M := 𝕄) frame (wpE (defs₀ (F := F)) 𝒱₀ (VT d L) none) Set.univ
          (cc0__seg_partials_body L xM (Memref.isWhole_whole _) bM (Memref.isWhole_whole _) s0M (Memref.isWhole_whole _) s1M (Memref.isWhole_whole _)
            s2M (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            (Memref.whole cc0_scratch5) (Memref.isWhole_whole _) (Memref.whole cc0_scratch6) (Memref.isWhole_whole _) (Memref.whole cc0_scratch7) (Memref.isWhole_whole _)
            (Memref.whole cc0_scratch8) (Memref.isWhole_whole _) cc0_scratch9 cc0_scratch10 cc0_scratch11 cc0_scratch12 cc0_scoped0 cc0_scoped1 cc0_scoped2)
          fun _ => iprop(T0 m d (num L) ∗ scopedBufs (VT d L) ∗ scopedSems0 (VT d L) ∗ owing d L O W 0) := by
  rw [(K (F := F)).scopedBufs_V facts d (cV L) (jV L), SparseCore.Cfg.scopedSems0_V (Val := Elt F) d (cV L) (jV L), ownSems_0, ownBufs_0]
  unfold G0 T0
  rw [share_two, share_two]
  iintro ⟨#Hlv, -, ⟨⟨HX0, HX1⟩, ⟨HB0, HB1⟩, H0, H1, H2⟩, ⟨Hbufs, Hrb⟩, ⟨Hsems, Hrs⟩, HO⟩
  ihave Hmw := (show levAts (K (F := F)).L (K (F := F)).lev ⊢ Transfers.MayWaits (VT d L) (none : HIx 2) O from (K (F := F)).mayWaits_none (thr := VT d L) hO) $$ Hlv
  iapply (wp_wand_r frame (wpE (defs₀ (F := F)) 𝒱₀ (VT d L) none) Set.univ)
  isplitl [Hmw HX0 HX1 HB0 HB1 H0 H1 H2 Hbufs Hsems HO]
  · iapply (task0 d L xM (Memref.isWhole_whole _) bM (Memref.isWhole_whole _) s0M (Memref.isWhole_whole _) s1M (Memref.isWhole_whole _)
            s2M (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            (Memref.whole cc0_scratch5) (Memref.isWhole_whole _) (Memref.whole cc0_scratch6) (Memref.isWhole_whole _) (Memref.whole cc0_scratch7) (Memref.isWhole_whole _)
            (Memref.whole cc0_scratch8) (Memref.isWhole_whole _) cc0_scratch9 cc0_scratch10 cc0_scratch11 cc0_scratch12 cc0_scoped0 cc0_scoped1 cc0_scoped2
            (m (xLoc d)) (m (bLoc d)) (qt (num L) 0) (qt (num L) 1) O W (bt_ok m d L hpre) (m (s0Loc d)) (m (s1Loc d)) (m (s2Loc d)))
    isplitl [Hmw]; · iexact Hmw
    isplitl [HX0 HX1 HB0 HB1]
    · isplitl [HX0]; · iexact HX0
      isplitl [HX1]; · iexact HX1
      isplitl [HB0]; · iexact HB0
      iexact HB1
    isplitl [Hbufs]; · iexact Hbufs
    isplitl [Hsems]; · iexact Hsems
    isplitl [H0 H1 H2]
    · isplitl [H0]; · iapply (on_set (ℓ := s0Loc d) (set_s0 L).symm (m (s0Loc d))) $$ H0
      isplitl [H1]; · iapply (on_set (ℓ := s1Loc d) (set_s1 L).symm (m (s1Loc d))) $$ H1
      iapply (on_set (ℓ := s2Loc d) (set_s2 L).symm (m (s2Loc d))) $$ H2
    iexact HO
  iintro %_ ⟨⟨HX0, HX1, HB0, HB1⟩, Hbufs, Hsems, ⟨H0, H1, H2⟩, HO⟩
  ihave H0 := (held_congr (thr := VT d L) (outM L s0M) _ (V0 m d) (read_V0 m d L)) $$ H0
  ihave H1 := (held_congr (thr := VT d L) (outM L s1M) _ (V1 m d) (read_V1 m d L)) $$ H1
  ihave H2 := (held_congr (thr := VT d L) (outM L s2M) _ (V2 m d) (read_V2 m d L)) $$ H2
  isplitl [HX0 HX1 HB0 HB1 H0 H1 H2]
  · isplitl [HX0 HX1]
    · isplitl [HX0]; · iexact HX0
      iexact HX1
    isplitl [HB0 HB1]
    · isplitl [HB0]; · iexact HB0
      iexact HB1
    isplitl [H0]; · iapply (on_set (ℓ := s0Loc d) (set_s0 L) (V0 m d)) $$ H0
    isplitl [H1]; · iapply (on_set (ℓ := s1Loc d) (set_s1 L) (V1 m d)) $$ H1
    iapply (on_set (ℓ := s2Loc d) (set_s2 L) (V2 m d)) $$ H2
  isplitl [Hbufs Hrb]
  · isplitl [Hbufs]; · iexact Hbufs
    iexact Hrb
  isplitl [Hsems Hrs]
  · isplitl [Hsems]; · iexact Hsems
    iexact Hrs
  iexact HO

/-- The second call's task, likewise. -/
theorem tile1 (hO : ∀ g, O g none = 0) :
    iprop(levAts (K (F := F)).L (K (F := F)).lev ∗ emp ∗ G1 m d (num L) ∗ scopedBufs (VT d L) ∗ scopedSems0 (VT d L) ∗ owes (VT d L) O W)
      ⊢ wp (M := 𝕄) frame (wpE (defs₀ (F := F)) 𝒱₀ (VT d L) none) Set.univ
          (cc1__combine_body (F := F) L s0M (Memref.isWhole_whole _) s1M (Memref.isWhole_whole _) s2M (Memref.isWhole_whole _) o0M (Memref.isWhole_whole _)
            o1M (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            (Memref.whole cc1_scratch5) (Memref.isWhole_whole _) cc1_scoped0 cc1_scoped1 cc1_scoped2 cc1_scoped3 cc1_scoped4 cc1_scoped5 cc1_scoped6 cc1_scoped7
            cc1_scoped8 cc1_scoped9 cc1_scoped10 cc1_scoped11 cc1_scoped12 cc1_scoped13)
          fun _ => iprop(T1 m d (num L) ∗ scopedBufs (VT d L) ∗ scopedSems0 (VT d L) ∗ owing d L O W 1) := by
  by_cases hh : k1_cond1 L = 1#1
  · rw [(K (F := F)).scopedBufs_V facts d (cV L) (jV L), SparseCore.Cfg.scopedSems0_V (Val := Elt F) d (cV L) (jV L), ownSems_1, ownBufs_1]
    unfold G1 T1
    iintro ⟨#Hlv, -, ⟨H0, H1, H2, HR0, HR1⟩, ⟨Hbufs, Hrb⟩, ⟨Hsems, Hrs⟩, HO⟩
    ihave Hmw := (show levAts (K (F := F)).L (K (F := F)).lev ⊢ Transfers.MayWaits (VT d L) (none : HIx 2) O from (K (F := F)).mayWaits_none (thr := VT d L) hO) $$ Hlv
    iapply (wp_wand_r frame (wpE (defs₀ (F := F)) 𝒱₀ (VT d L) none) Set.univ)
    isplitl [Hmw H0 H1 H2 HR0 HR1 Hbufs Hsems HO]
    · iapply (task1 d L s0M (Memref.isWhole_whole _) s1M (Memref.isWhole_whole _) s2M (Memref.isWhole_whole _) o0M (Memref.isWhole_whole _)
            o1M (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            (Memref.whole cc1_scratch5) (Memref.isWhole_whole _) cc1_scoped0 cc1_scoped1 cc1_scoped2 cc1_scoped3 cc1_scoped4 cc1_scoped5 cc1_scoped6 cc1_scoped7
            cc1_scoped8 cc1_scoped9 cc1_scoped10 cc1_scoped11 cc1_scoped12 cc1_scoped13 hh (V0 m d) (V1 m d) (V2 m d) (qw (num L)) O W (m (o0Loc d)) (m (o1Loc d)))
      isplitl [Hmw]; · iexact Hmw
      isplitl [H0 H1 H2]
      · isplitl [H0]; · iexact H0
        isplitl [H1]; · iexact H1
        iexact H2
      isplitl [Hbufs]; · iexact Hbufs
      isplitl [Hsems]; · iexact Hsems
      isplitl [HR0 HR1]
      · isplitl [HR0]; · iapply (on_set (ℓ := o0Loc d) (set_o0 L hh).symm (m (o0Loc d))) $$ HR0
        iapply (on_set (ℓ := o1Loc d) (set_o1 L hh).symm (m (o1Loc d))) $$ HR1
      iexact HO
    iintro %_ ⟨⟨H0, H1, H2⟩, Hbufs, Hsems, ⟨HR0, HR1⟩, HO⟩
    ihave HR0 := (held_congr (thr := VT d L) (resM L hh o0M) _ (R0 m d) (read_R0 m d L hh)) $$ HR0
    ihave HR1 := (held_congr (thr := VT d L) (resM L hh o1M) _ (R1 m d) (read_R1 m d L hh)) $$ HR1
    isplitl [H0 H1 H2 HR0 HR1]
    · isplitl [H0]; · iexact H0
      isplitl [H1]; · iexact H1
      isplitl [H2]; · iexact H2
      isplitl [HR0]; · iapply (on_set (ℓ := o0Loc d) (set_o0 L hh) (R0 m d)) $$ HR0
      iapply (on_set (ℓ := o1Loc d) (set_o1 L hh) (R1 m d)) $$ HR1
    isplitl [Hbufs Hrb]
    · isplitl [Hbufs]; · iexact Hbufs
      iexact Hrb
    isplitl [Hsems Hrs]
    · isplitl [Hsems]; · iexact Hsems
      iexact Hrs
    iexact HO
  · have e : (G1 m d (num L) : sProp 𝕄) = T1 m d (num L) := by
      unfold G1 T1
      rw [oSet_idle L hh]
      congr 4
    rw [e]
    iintro ⟨-, -, HT, Hb, Hs, HO⟩
    iapply (task1_idle d L s0M (Memref.isWhole_whole _) s1M (Memref.isWhole_whole _) s2M (Memref.isWhole_whole _) o0M (Memref.isWhole_whole _)
            o1M (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            (Memref.whole cc1_scratch5) (Memref.isWhole_whole _) cc1_scoped0 cc1_scoped1 cc1_scoped2 cc1_scoped3 cc1_scoped4 cc1_scoped5 cc1_scoped6 cc1_scoped7
            cc1_scoped8 cc1_scoped9 cc1_scoped10 cc1_scoped11 cc1_scoped12 cc1_scoped13 hh _)
    isplitl [HT]; · iexact HT
    isplitl [Hb]; · iexact Hb
    isplitl [Hs]; · iexact Hs
    iexists W; isplitr; · ipureintro; exact fun p hp => .inl hp
    iexact HO

end Cert.Proof
-- ==== Proof.Pre.lean ====
/-
  What the precondition says of the segment numbers: each is below 512, and they do not decrease.
-/
module

public import proofs.«01_k».proof.Proof.Tiles
public import proofs.«01_k».proof.Proof.Gen.Pre_sorted_ids
public import Idealize.ShloMosaic.Lib.ReduceAll

@[expose] public section

noncomputable section

namespace Cert.Proof

open Idealize.ShloMosaic

variable {F : FTy → Type} [FloatOps F]

/-- The list of segment numbers read at a row. -/
abbrev ix1 (n : Fin 100000) : Cert.Pre_sorted_ids.S100000.Idx := fun | 0 => n | ⟨_ + 1, h⟩ => absurd h (Nat.not_lt.2 (Nat.le_add_left _ _))

instance : Subsingleton Cert.Pre_sorted_ids.S_.Idx := ⟨fun _ _ => funext fun i => i.elim0⟩

section
variable (x : FVec F Cert.Pre_sorted_ids.S100000x128 .f32) (ids : IVec Cert.Pre_sorted_ids.S100000 32)
  (W : FVec F Cert.Pre_sorted_ids.S256x128 .f32) (b : FVec F Cert.Pre_sorted_ids.S128 .f32)
  (h : Cert.Pre_sorted_ids.fn (F := F) x ids W b = fun _ => 1#1)
include h

/-- The precondition's three parts, each at every entry. -/
theorem pre_parts : (∀ j, 0 ≤ (ids j).toInt) ∧ (∀ j, (ids j).toInt < 512)
    ∧ ∀ j, (extractStridedSlice Cert.Pre_sorted_ids.S99999 ![0] ids Cert.Pre_sorted_ids.Facts.slices_S100000_S99999_0 j).toInt
      ≤ (extractStridedSlice Cert.Pre_sorted_ids.S99999 ![1] ids Cert.Pre_sorted_ids.Facts.slices_S100000_S99999_1 j).toInt := by
  have h0 := congrFun h (fun i => i.elim0)
  simp only [Cert.Pre_sorted_ids.fn] at h0
  obtain ⟨h1, h3⟩ := IntOp.andi_eq_one.1 h0
  obtain ⟨h1, h2⟩ := IntOp.andi_eq_one.1 h1
  refine ⟨fun j => ?_, fun j => ?_, fun j => ?_⟩
  · exact IntOp.cmpi_sge.1 (Host.reduce_andi_all _ _ _ _ _ h1 j)
  · exact IntOp.cmpi_slt.1 (Host.reduce_andi_all _ _ _ _ _ h2 j)
  · exact IntOp.cmpi_sge.1 (Host.reduce_andi_all _ _ _ _ _ h3 j)

/-- Every segment number is below 512. -/
theorem ids_lt (j : Cert.Pre_sorted_ids.S100000.Idx) : (ids j).toNat < 512 := by
  obtain ⟨h1, h2, _⟩ := pre_parts x ids W b h
  have := h1 j; have := h2 j
  have := (ids j).isLt
  rw [BitVec.toInt_eq_toNat_cond] at *
  split at * <;> omega

/-- A row's segment number is at most the next row's. -/
theorem ids_step (n : ℕ) (hn : n + 1 < 100000) : (ids (ix1 ⟨n, by omega⟩)).toNat ≤ (ids (ix1 ⟨n + 1, hn⟩)).toNat := by
  have h3 := (pre_parts x ids W b h).2.2 (fun | 0 => ⟨n, by show n < 99999; omega⟩ | ⟨_ + 1, h⟩ => absurd h (Nat.not_lt.2 (Nat.le_add_left _ _)))
  have e0 : extractStridedSlice Cert.Pre_sorted_ids.S99999 ![0] ids Cert.Pre_sorted_ids.Facts.slices_S100000_S99999_0
      (fun | 0 => ⟨n, by show n < 99999; omega⟩ | ⟨_ + 1, h⟩ => absurd h (Nat.not_lt.2 (Nat.le_add_left _ _))) = ids (ix1 ⟨n, by omega⟩) := by
    refine congrArg ids (funext fun i => ?_)
    match i with
    | 0 => exact Fin.ext (Nat.zero_add n)
  have e1 : extractStridedSlice Cert.Pre_sorted_ids.S99999 ![1] ids Cert.Pre_sorted_ids.Facts.slices_S100000_S99999_1
      (fun | 0 => ⟨n, by show n < 99999; omega⟩ | ⟨_ + 1, h⟩ => absurd h (Nat.not_lt.2 (Nat.le_add_left _ _))) = ids (ix1 ⟨n + 1, hn⟩) := by
    refine congrArg ids (funext fun i => ?_)
    match i with
    | 0 => exact Fin.ext (Nat.add_comm 1 n)
  rw [e0, e1] at h3
  have a := ids_lt x ids W b h (ix1 ⟨n, by omega⟩)
  have c := ids_lt x ids W b h (ix1 ⟨n + 1, hn⟩)
  rw [BitVec.toInt_eq_toNat_cond, BitVec.toInt_eq_toNat_cond] at h3
  rw [if_pos (by omega), if_pos (by omega)] at h3
  exact_mod_cast h3

/-- The segment numbers do not decrease. -/
theorem ids_mono (i j : ℕ) (hij : i ≤ j) (hj : j < 100000) :
    (ids (ix1 ⟨i, by omega⟩)).toNat ≤ (ids (ix1 ⟨j, hj⟩)).toNat := by
  induction j, hij using Nat.le_induction with
  | base => exact le_rfl
  | succ j hij ih => exact (ih (by omega)).trans (ids_step x ids W b h j hj)

end

/-- A segment number below 512 has its slot in the accumulators. -/
theorem slot_of_lt {c : BitVec 32} (h : c.toNat < 512) : slot c = (c.toNat + 1) * 16 := by
  simp only [slot, BitVec.toNat_mul, BitVec.toNat_add, BitVec.toNat_ofNat]
  omega

theorem ok_of_lt {c : BitVec 32} (h : c.toNat < 512) : Ok c := by
  rw [Ok, slot_of_lt h]; omega

end Cert.Proof

end
-- ==== Proof.Region.lean ====
/-
  The TensorCore call that merges the two pooled arrays: one run of its body over the staged operands, and the
  call as a region of the host program, entered at any contents of the host's buffers and left with the result's
  buffer at what the body stored.
-/
module

public import proofs.«01_k».proof.Proof.Common

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 2) (Elt F) ℕ UU ℕ

/-- The contents of a memref's buffer on the TensorCore of `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the result's staging buffer, with the proof that it runs from the five staging buffers
    to its return, the four operands' as they were. -/
noncomputable def mergeRun (c : Dev nD) (M0 : Memref sig .tc .vmem S512x128 .f32) (h0 : M0.IsWhole) (M1 : Memref sig .tc .vmem S512x128 .f32) (h1 : M1.IsWhole)
    (M2 : Memref sig .tc .vmem S256x128 .f32) (h2 : M2.IsWhole) (M3 : Memref sig .tc .vmem S1x128 .f32) (h3 : M3.IsWhole)
    (M4 : Memref sig .tc .vmem S512x128 .f32) (h4 : M4.IsWhole)
    (f0 : Bf (F := F) c M0) (f1 : Bf (F := F) c M1) (f2 : Bf (F := F) c M2) (f3 : Bf (F := F) c M3) :
    { W : Bf (F := F) c M4 // ∀ (f4 : Bf (F := F) c M4) (E : Set ℕ) (Q : PUnit → sProp 𝕄),
        iprop(pt c M0 f0 ∗ pt c M1 f1 ∗ pt c M2 f2 ∗ pt c M3 f3 ∗ pt c M4 f4
            ∗ (iprop(pt c M0 f0 ∗ pt c M1 f1 ∗ pt c M2 f2 ∗ pt c M3 f3 ∗ pt c M4 W) -∗ Q ⟨⟩))
          ⊢ wp frame (wpE (defs₀ (F := F)) 𝒱₀ c none) E (cc2__merge_tc_body M0 h0 M1 h1 M2 h2 M3 h3 M4 h4) Q } := by
  refine ⟨?_, fun f4 E Q => ?run⟩
  case run =>
    iintro ⟨H0, H1, H2, H3, H4, Hk⟩
    rw [cc2__merge_tc_body_eq_skeleton]
    sl_exec!
    sl_step
    iapply Hk
    isplitl [H0]; · iexact H0
    isplitl [H1]; · iexact H1
    isplitl [H2]; · iexact H2
    isplitl [H3]; · iexact H3
    iexact H4

variable (V : Dev nD → Valuation τ sig (Elt F))

/-! ## What the fetches stage, and the run over it -/

/-- The block staged for operand 0: its array at the entry contents, read through the window. -/
abbrev stg0 (c : Dev nD) : (cfg2.win 0).block.Idx → Elt F (cfg2.win 0).elt :=
  ((cfg2.win 0).blk t2_0).view.read (Elt F) (V c (Proc.devRef .tc main_v4))
/-- The block staged for operand 1: its array at the entry contents, read through the window. -/
abbrev stg1 (c : Dev nD) : (cfg2.win 1).block.Idx → Elt F (cfg2.win 1).elt :=
  ((cfg2.win 1).blk t2_0).view.read (Elt F) (V c (Proc.devRef .tc main_v7))
/-- The block staged for operand 2: its array at the entry contents, read through the window. -/
abbrev stg2 (c : Dev nD) : (cfg2.win 2).block.Idx → Elt F (cfg2.win 2).elt :=
  ((cfg2.win 2).blk t2_0).view.read (Elt F) (V c (Proc.devRef .tc main_arg2))
/-- The block staged for operand 3: its array at the entry contents, read through the window. -/
abbrev stg3 (c : Dev nD) : (cfg2.win 3).block.Idx → Elt F (cfg2.win 3).elt :=
  ((cfg2.win 3).blk t2_0).view.read (Elt F) (V c (Proc.devRef .tc main_v8))

/-- The body's run over the staged blocks. -/
abbrev runAt (c : Dev nD) := mergeRun (F := F) c (stage2_0 0) (hstage2_0 0) (stage2_1 0) (hstage2_1 0) (stage2_2 0) (hstage2_2 0)
  (stage2_3 0) (hstage2_3 0) (stage2_4 0) (hstage2_4 0) (stg0 V c) (stg1 V c) (stg2 V c) (stg3 V c)

/-- Nothing but the staging buffers is scoped on the TensorCore. -/
abbrev Φc (c : Dev nD) : sProp 𝕄 := Pipeline.scopedRest (Ix := HIx 2) (Name := ℕ) (U := UU) (Lvl := ℕ) (Val := Elt F) spec2 c

/-- The waits the host program may have recorded: those at the level of no call, or of a call already made. -/
abbrev below (c : Dev nD) : Set (SemLoc sig × HIx 2) := {p | (K (F := F)).lev ((c : Thread nD τ), p.1) p.2 ≤ 16}

/-- The data of the region entered at the contents `V`: the operands staged, the result at the run's witness. -/
def dat (c : Dev nD) : Dat τ (Elt F) (HIx 2) ℕ UU ℕ cfg2 c where
  A w := V c (Proc.devRef .tc (Pipeline.arrRef spec2 w))
  after w _ := match w with
    | ⟨0, _⟩ => stg0 V c
    | ⟨1, _⟩ => stg1 V c
    | ⟨2, _⟩ => stg2 V c
    | ⟨3, _⟩ => stg3 V c
    | ⟨4, _⟩ => (runAt V c).1
  Φ _ := Φc c
  q _ := fullShare
  owed _ := 0
  recorded _ := below (F := F) c

variable (adm : (p : Fin 1) → (pcfgs (F := F) p).Adm)

def pdats : (p : Fin 1) → (c : Dev nD) → Dat τ (Elt F) (HIx 2) ℕ UU ℕ (Pipeline.pin (pcfgs (F := F)) adm p) c
  | ⟨0, _⟩ => fun c => dat V c

theorem before_0 (c : Dev nD) (d : (cfg2.win 0).block.Idx → Elt F (cfg2.win 0).elt) : (dat V c).before 0 t2_0 d = stg0 V c := by
  unfold Dat.before; rw [if_pos (fetch2_0 _)]; rfl
theorem before_1 (c : Dev nD) (d : (cfg2.win 1).block.Idx → Elt F (cfg2.win 1).elt) : (dat V c).before 1 t2_0 d = stg1 V c := by
  unfold Dat.before; rw [if_pos (fetch2_1 _)]; rfl
theorem before_2 (c : Dev nD) (d : (cfg2.win 2).block.Idx → Elt F (cfg2.win 2).elt) : (dat V c).before 2 t2_0 d = stg2 V c := by
  unfold Dat.before; rw [if_pos (fetch2_2 _)]; rfl
theorem before_3 (c : Dev nD) (d : (cfg2.win 3).block.Idx → Elt F (cfg2.win 3).elt) : (dat V c).before 3 t2_0 d = stg3 V c := by
  unfold Dat.before; rw [if_pos (fetch2_3 _)]; rfl

/-- The body at the one grid point: from the staged operands to the result's staging buffer at the run's witness. -/
theorem body_obligation (c : Dev nD) : BodyObligation (dat V c) (defs₀ (F := F)) 𝒱₀ (none : HIx 2) Set.univ := fun t => by
  obtain rfl := fin_N2 t
  rw [bigSep_W2, bigSep_W2]
  simp only [owns_whole_eq]
  rw [show (dat V c).Φ t2_0.castSucc = Φc c from rfl, show (dat V c).Φ t2_0.succ = Φc c from rfl,
    show (dat V c).owesAt none t2_0.succ = (dat V c).owesAt none t2_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before_0] at hf0
  rw [before_1] at hf1
  rw [before_2] at hf2
  rw [before_3] at hf3
  subst hf0 hf1 hf2 hf3
  iapply ((runAt V c).2 f4 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  iexists _; isplitr; swap; (· iexact H4); ipureintro; dsimp only [dat]

/-- The result's array after the region: the write-back of what the body stored. -/
def merged (c : Dev nD) : Buf (Elt F) ((c : Thread nD τ).loc main_v9) := (dat V c).arrAt 4 cfg2.N

/-- The host's buffers after the region. -/
def Vend (c : Dev nD) : Valuation τ sig (Elt F) := Function.update (V c) (Proc.devRef .tc main_v9) (merged V c)

theorem Vend_out (c : Dev nD) : Vend V c (Proc.devRef .tc main_v9) = merged V c := Function.update_self ..

theorem Vend_ne (c : Dev nD) (b : Ref sig .tc) (h : b ≠ main_v9) : Vend V c (Proc.devRef .tc b) = V c (Proc.devRef .tc b) :=
  Function.update_of_ne (fun e => h (Proc.devRef_injective .tc e)) ..

set_option backward.isDefEq.respectTransparency.types false in
/-- The region: entered with every buffer of the host at `V c`, left with them at `Vend V c`; whatever else the
    host holds rides along. -/
def reg (lv : GSem nD τ sig → HIx 2 → ℕ) (L : GSem nD τ sig → Finset (HIx 2)) :
    Pipeline.RegionSeg (pcfgs (F := F)) adm (pdats V adm) (none : HIx 2) defs₀ 𝒱₀ L lv 0 where
  win := launch2.win.to₀
  block_pos := launch2.block_pos
  stage_whole := launch2.stage_whole
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (fun b => V c (Proc.devRef .tc b)) ∗ ∃ W, ⌜(K (F := F)).WBelow (c : Thread nD τ) W 16⌝ ∗ owes (c : Thread nD τ) (0 : CellTallies nD τ sig (HIx 2)) W)
  post c := iprop(unscopedBufs c (fun b => Vend V c (Proc.devRef .tc b)) ∗ ∃ W, ⌜(K (F := F)).WBelow (c : Thread nD τ) W 16⌝ ∗ owes (c : Thread nD τ) (0 : CellTallies nD τ sig (HIx 2)) W)
  X _ := BI.emp
  Y _ := BI.emp
  Z c := Pipeline.unscopedRest (Ix := HIx 2) (Name := ℕ) (U := UU) (Lvl := ℕ) spec2 c (fun b => V c (Proc.devRef .tc b))
  hentry c := by
    rw [Pipeline.ownSems0_none]
    have hsplit := Pipeline.arrays_of_unscopedBufs (p := 0) (pcfgs (F := F)) adm (pdats V adm) launch2.win launch2.arr_whole c
      ((pdats V adm 0 c).share_full fun _ => rfl) (fun b => V c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch2.win launch2.arr_whole c
      (pdats V adm) ((pdats V adm 0 c).share_full fun _ => rfl) (fun b => V c (Proc.devRef .tc b)) (fun b => Vend V c (Proc.devRef .tc b)) ((pdats V adm 0 c).arrAt · cfg2.N)
      (fun w => by
        fin_cases w
        · exact ((pdats V adm 0 c).arrAt_in 0 rfl _).trans (Vend_ne V c main_v4 (by decide)).symm
        · exact ((pdats V adm 0 c).arrAt_in 1 rfl _).trans (Vend_ne V c main_v7 (by decide)).symm
        · exact ((pdats V adm 0 c).arrAt_in 2 rfl _).trans (Vend_ne V c main_arg2 (by decide)).symm
        · exact ((pdats V adm 0 c).arrAt_in 3 rfl _).trans (Vend_ne V c main_v8 (by decide)).symm
        · exact (Vend_out V c).symm)
      (fun b hb => Vend_ne V c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof

end
-- ==== Proof.Launch.lean ====
/-
  The whole program's run: the two SparseCore calls from their tiles' runs, the host's reshapes and transposes between
  them and the TensorCore call, that call as a region, and the launch that starts every thread.
-/
module

public import proofs.«01_k».proof.Proof.Tiles
public import proofs.«01_k».proof.Proof.Region

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-! ## The tiles' obligations -/

theorem defs₀_vector0 (c : Fin τ.nSC) (s : Fin τ.nSub) :
    defs₀ (F := F) (.scVector c s) 0 () = SparseCore.onTile hcore0 hsub0 (fun c s =>
      cc0__seg_partials_body (coords0 c s) xM (Memref.isWhole_whole _) bM (Memref.isWhole_whole _) s0M (Memref.isWhole_whole _) s1M (Memref.isWhole_whole _)
            s2M (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            (Memref.whole cc0_scratch5) (Memref.isWhole_whole _) (Memref.whole cc0_scratch6) (Memref.isWhole_whole _) (Memref.whole cc0_scratch7) (Memref.isWhole_whole _)
            (Memref.whole cc0_scratch8) (Memref.isWhole_whole _) cc0_scratch9 cc0_scratch10 cc0_scratch11 cc0_scratch12 cc0_scoped0 cc0_scoped1 cc0_scoped2) ⟨⟩ c s := rfl

theorem defs₀_vector1 (c : Fin τ.nSC) (s : Fin τ.nSub) :
    defs₀ (F := F) (.scVector c s) 1 () = SparseCore.onTile hcore1 hsub1 (fun c s =>
      cc1__combine_body (coords0 c s) s0M (Memref.isWhole_whole _) s1M (Memref.isWhole_whole _) s2M (Memref.isWhole_whole _) o0M (Memref.isWhole_whole _)
            o1M (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            (Memref.whole cc1_scratch5) (Memref.isWhole_whole _) cc1_scoped0 cc1_scoped1 cc1_scoped2 cc1_scoped3 cc1_scoped4 cc1_scoped5 cc1_scoped6 cc1_scoped7
            cc1_scoped8 cc1_scoped9 cc1_scoped10 cc1_scoped11 cc1_scoped12 cc1_scoped13) ⟨⟩ c s := rfl

/-- The number of a task is the number of its tile. -/
theorem wF_num0 (c : Fin ((K (F := F)).nCore 0)) (i : Fin ((K (F := F)).nSub 0)) : wF (F := F) 0 c i = num (coords0 c i) :=
  Fin.ext (Nat.add_comm _ _)
theorem wF_num1 (c : Fin ((K (F := F)).nCore 1)) (i : Fin ((K (F := F)).nSub 1)) : wF (F := F) 1 c i = num (coords0 c i) :=
  Fin.ext (Nat.add_comm _ _)

/-- Every task of the first call runs from its pieces to its pieces' results. -/
theorem tileObl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]
  simp only [SparseCore.onTile, hci, and_self, ↓reduceDIte]
  change iprop(_ ∗ emp ∗ G0 m d (wF (F := F) 0 c i) ∗ _) ⊢ wp _ _ _ _ (fun _ => iprop(T0 m d (wF (F := F) 0 c i) ∗ _))
  rw [wF_num0]
  exact tile0 m d (coords0 c i) O W hpre hO

/-- Every task of the second call runs from its pieces to its pieces' results. -/
theorem tileObl1 : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]
  simp only [SparseCore.onTile, hci, and_self, ↓reduceDIte]
  change iprop(_ ∗ emp ∗ G1 m d (wF (F := F) 1 c i) ∗ _) ⊢ wp _ _ _ _ (fun _ => iprop(T1 m d (wF (F := F) 1 c i) ∗ _))
  rw [wF_num1]
  exact tile1 m d (coords0 c i) O W hO

/-! ## The launch element -/

abbrev adm : (p : Fin 1) → (pcfgs (F := F) p).Adm := fun p => (cfgs p).toPCfg_adm

/-- The configurations of the TensorCore calls, as the region theorem spells them. -/
abbrev pins : Fin 1 → Pipeline.Cfg sig Λ₀ := Pipeline.pin (pcfgs (F := F)) adm

theorem pins_inj : Function.Injective (Pipeline.cellOf (nD := nD) (τ := τ) (pins (F := F))) := cellOf_inj

/-- What the host starts the TensorCore call with: its staging buffers' rounds. -/
abbrev GG (d : Dev nD) : sProp 𝕄 := iprop(Pipeline.cellsGhost (pins (F := F)) EP 0 d ∗ Pipeline.toksInit (pins (F := F)) EP 0 d)

/-- The launch element: the handshakes' rounds and the staging buffers'. -/
def u₀ : UU := (initOf (K (F := F)).hsCells (K (F := F)).hsToks,
  (initOf (Pipeline.cells (pins (F := F)) pins_inj) (Pipeline.launchToks (pins (F := F)) pins_inj), 1))

theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks)
    (initOf (Pipeline.cells (pins (F := F)) pins_inj) (Pipeline.launchToks (pins (F := F)) pins_inj), (1 : Counters))) $$ Hu
  icases H with ⟨HH, HR⟩
  ihave H := (own_pair_emb embR (initOf (Pipeline.cells (pins (F := F)) pins_inj) (Pipeline.launchToks (pins (F := F)) pins_inj)) (1 : Counters)) $$ HR
  icases H with ⟨HR, -⟩
  imod (Pipeline.fund_ghost (pins (F := F)) EP pins_inj) $$ HR with ⟨Hc, Ht⟩
  imodintro
  isplitl [HH]; · iexact HH
  isplitl [Hc Ht]
  · rw [bigSep_sep']
    simp only [bigSep_univ_of_subsingleton (0 : Fin 1)]
    isplitl [Hc] <;> iassumption
  rw [show (bigSep Finset.univ fun thr : Thread nD τ => bigSep Finset.univ fun q : Fin 2 => (P (F := F) m).x q thr) = bigSep Finset.univ fun _ => iprop(emp) from
    bigSep_congr fun _ _ => bigSep_emps _, bigSep_emps]
  iempintro

/-! ## The host program -/

/-- The host's operations between the SparseCore calls and the TensorCore call. -/
def ops : List (HloOp τ sig (Elt F)) :=
  [StableHlo.reshape main_v1_0 main_v2 (rfl : (.f32 : EltTy) = .f32) shapeCasts_S8x8192_S8x512x16,
   StableHlo.unary main_v2 main_v3 ((transpose S512x8x16 [1, 0, 2] · transposes_S8x512x16_S512x8x16_1_0_2) : (⟨S8x512x16, .f32⟩ : BufTy).Contents (Elt F) → (⟨S512x8x16, .f32⟩ : BufTy).Contents (Elt F)),
   StableHlo.reshape main_v3 main_v4 (rfl : (.f32 : EltTy) = .f32) shapeCasts_S512x8x16_S512x128,
   StableHlo.reshape main_v1_1 main_v5 (rfl : (.f32 : EltTy) = .f32) shapeCasts_S8x8192_S8x512x16,
   StableHlo.unary main_v5 main_v6 ((transpose S512x8x16 [1, 0, 2] · transposes_S8x512x16_S512x8x16_1_0_2) : (⟨S8x512x16, .f32⟩ : BufTy).Contents (Elt F) → (⟨S512x8x16, .f32⟩ : BufTy).Contents (Elt F)),
   StableHlo.reshape main_v6 main_v7 (rfl : (.f32 : EltTy) = .f32) shapeCasts_S512x8x16_S512x128,
   StableHlo.reshape main_arg3 main_v8 (rfl : (.f32 : EltTy) = .f32) shapeCasts_S128_S1x128]

/-- The host program is the two calls, these operations and the TensorCore call, in order. -/
theorem main_eq (d : Dev nD) : main (F := F) d = (sc.run d 0 >>= fun _ => sc.run d 1 >>= fun _ => StableHlo.seq ops >>= fun _ =>
    Prog.lift (.customCall (SparseCore.inner (Pipeline.entry 0)) ())) := by
  simp only [main, ops, StableHlo.seq]
  rfl

theorem ops_bufs : ∀ op ∈ ops (F := F), op.bufs ⊆ Pipeline.ucRefs τ sig := by
  intro op hop
  refine Pipeline.sub_ucRefs op ?_
  simp only [ops, List.mem_cons, List.not_mem_nil, or_false] at hop
  rcases hop with rfl | rfl | rfl | rfl | rfl | rfl | rfl <;> simp only [StableHlo.reshape_bufs_sub, StableHlo.unary_bufs_sub]

theorem ops_fresh : ∀ op ∈ ops (F := F), op.fresh = ∅ := by
  intro op hop
  simp only [ops, List.mem_cons, List.not_mem_nil, or_false] at hop
  rcases hop with rfl | rfl | rfl | rfl | rfl | rfl | rfl <;> rfl

/-- The host's buffers after the two SparseCore calls. -/
def Vmid (d : Dev nD) : Valuation τ sig (Elt F) :=
  Function.update (Function.update (Function.update (Function.update (Function.update (fun b => m (d, b))
    (Proc.devRef .tc main_v0_0) (V0 m d)) (Proc.devRef .tc main_v0_1) (V1 m d)) (Proc.devRef .tc main_v0_2) (V2 m d))
    (Proc.devRef .tc main_v1_0) (R0 m d)) (Proc.devRef .tc main_v1_1) (R1 m d)

/-- The host's buffers when the TensorCore call starts. -/
def Vops (d : Dev nD) : Valuation τ sig (Elt F) := StableHlo.after ops (Vmid m d)

/-- The host's buffers the SparseCore calls do not touch. -/
abbrev restRefs : Finset (Ref sig .tc) := {main_arg2, main_arg3, main_v2, main_v3, main_v4, main_v5, main_v6, main_v7, main_v8, main_v9}

theorem unscoped_split (d : Dev nD) (W : (b : Ref sig .tc) → Buf (Elt F) ((d.tc : Thread nD τ).loc b)) :
    (unscopedBufs d W : sProp 𝕄) = iprop((xLoc d ↦{fullShare} W main_arg0) ∗ (bLoc d ↦{fullShare} W main_arg1) ∗ (s0Loc d ↦{fullShare} W main_v0_0)
      ∗ (s1Loc d ↦{fullShare} W main_v0_1) ∗ (s2Loc d ↦{fullShare} W main_v0_2) ∗ (o0Loc d ↦{fullShare} W main_v1_0) ∗ (o1Loc d ↦{fullShare} W main_v1_1)
      ∗ bigSep restRefs fun b => (d.tc : Thread nD τ).loc b ↦{fullShare} W b) := by
  unfold unscopedBufs
  rw [show (Finset.univ.filter fun b : Ref sig .tc => ¬ b.isScoped) = insert main_arg0 (insert main_arg1 (insert main_v0_0 (insert main_v0_1 (insert main_v0_2
      (insert main_v1_0 (insert main_v1_1 restRefs)))))) by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide)]

theorem devRef_ne {a b : Ref sig .tc} (h : a ≠ b) : (Proc.devRef .tc a : DevRef τ sig) ≠ Proc.devRef .tc b := fun e => h (Proc.devRef_injective .tc e)

theorem Vmid_other (d : Dev nD) (b : Ref sig .tc) (h0 : b ≠ main_v0_0) (h1 : b ≠ main_v0_1) (h2 : b ≠ main_v0_2) (h3 : b ≠ main_v1_0) (h4 : b ≠ main_v1_1) :
    Vmid m d (Proc.devRef .tc b) = m ((SparseCore.T d).loc b) := by
  unfold Vmid
  rw [Function.update_of_ne (devRef_ne h4), Function.update_of_ne (devRef_ne h3), Function.update_of_ne (devRef_ne h2), Function.update_of_ne (devRef_ne h1),
    Function.update_of_ne (devRef_ne h0)]
theorem Vmid_s0 (d : Dev nD) : Vmid m d (Proc.devRef .tc main_v0_0) = V0 m d := by
  unfold Vmid
  rw [Function.update_of_ne (devRef_ne (by decide)), Function.update_of_ne (devRef_ne (by decide)), Function.update_of_ne (devRef_ne (by decide)),
    Function.update_of_ne (devRef_ne (by decide)), Function.update_self]
theorem Vmid_s1 (d : Dev nD) : Vmid m d (Proc.devRef .tc main_v0_1) = V1 m d := by
  unfold Vmid
  rw [Function.update_of_ne (devRef_ne (by decide)), Function.update_of_ne (devRef_ne (by decide)), Function.update_of_ne (devRef_ne (by decide)),
    Function.update_self]
theorem Vmid_s2 (d : Dev nD) : Vmid m d (Proc.devRef .tc main_v0_2) = V2 m d := by
  unfold Vmid
  rw [Function.update_of_ne (devRef_ne (by decide)), Function.update_of_ne (devRef_ne (by decide)), Function.update_self]
theorem Vmid_o0 (d : Dev nD) : Vmid m d (Proc.devRef .tc main_v1_0) = R0 m d := by
  unfold Vmid
  rw [Function.update_of_ne (devRef_ne (by decide)), Function.update_self]
theorem Vmid_o1 (d : Dev nD) : Vmid m d (Proc.devRef .tc main_v1_1) = R1 m d := by
  unfold Vmid
  rw [Function.update_self]

/-- The arrays after the two calls, beside the buffers they do not touch, are the host's buffers at `Vmid`. -/
theorem unscoped_mid (d : Dev nD) :
    iprop((xLoc d ↦{fullShare} m (xLoc d)) ∗ (bLoc d ↦{fullShare} m (bLoc d)) ∗ (s0Loc d ↦{fullShare} V0 m d)
      ∗ (s1Loc d ↦{fullShare} V1 m d) ∗ (s2Loc d ↦{fullShare} V2 m d) ∗ (o0Loc d ↦{fullShare} R0 m d) ∗ (o1Loc d ↦{fullShare} R1 m d)
      ∗ bigSep restRefs fun b => (d.tc : Thread nD τ).loc b ↦{fullShare} m ((SparseCore.T d).loc b))
    = (unscopedBufs d (fun b => Vmid m d (Proc.devRef .tc b)) : sProp 𝕄) := by
  rw [unscoped_split, Vmid_s0, Vmid_s1, Vmid_s2, Vmid_o0, Vmid_o1, Vmid_other m d main_arg0 (by decide) (by decide) (by decide) (by decide) (by decide),
    Vmid_other m d main_arg1 (by decide) (by decide) (by decide) (by decide) (by decide)]
  congr 7

/-- The TensorCore call, as a program of the kernels' own labels. -/
abbrev callP : Prog (TpuEff nD τ sig (Elt F) (ΛP (F := F)) .tc) PUnit := .op (.customCall (Pipeline.entry 0) ()) .ret

set_option backward.isDefEq.respectTransparency.types false in
/-- The TensorCore call as a step of the host program. -/
theorem region_step (W : Dev nD → Valuation τ sig (Elt F)) (d : Dev nD) (Q : PUnit → sProp 𝕄) :
    iprop((iprop(boundary (d.tc : Thread nD τ) ∗ (reg W adm (K (F := F)).lev (K (F := F)).L).post d) -∗ Q ⟨⟩)
        ∗ boundary (d.tc : Thread nD τ) ∗ (reg W adm (K (F := F)).lev (K (F := F)).L).pre d ∗ levAts (K (F := F)).L (K (F := F)).lev ∗ GG (F := F) d)
      ⊢ wp frame (wpE ((K (F := F)).defs (D (F := F))) 𝒱 (SparseCore.T d) none) Set.univ (Prog.lift (.customCall (SparseCore.inner (Pipeline.entry 0)) ())) Q := by
  change _ ⊢ wp _ _ _ (SparseCore.liftProg (callP (F := F))) _
  refine BI.Entails.trans ?_ ((K (F := F)).wp_liftProg (D (F := F)) 𝒱 (SparseCore.T d) Set.univ none (callP (F := F)) Q)
  refine BI.Entails.trans ?_ (Pipeline.RegionSeg.wp (pcfgs (F := F)) adm (pdats W adm) (none : HIx 2) pins_inj EP defs₀ 𝒱₀ (K (F := F)).L (K (F := F)).lev
    (reg W adm (K (F := F)).lev (K (F := F)).L) d none (fun _ h => nomatch h) .ret Q)
  change iprop((iprop(boundary (d.tc : Thread nD τ) ∗ (reg W adm (K (F := F)).lev (K (F := F)).L).post d) -∗ Q ⟨⟩)
        ∗ boundary (d.tc : Thread nD τ) ∗ (reg W adm (K (F := F)).lev (K (F := F)).L).pre d ∗ levAts (K (F := F)).L (K (F := F)).lev ∗ GG (F := F) d)
    ⊢ (iprop((iprop(boundary (d.tc : Thread nD τ) ∗ (reg W adm (K (F := F)).lev (K (F := F)).L).post d)
          -∗ wp frame (wpE (D (F := F)) 𝒱 (d.tc : Thread nD τ) none) Set.univ (.ret ⟨⟩) Q)
        ∗ boundary (d.tc : Thread nD τ) ∗ (reg W adm (K (F := F)).lev (K (F := F)).L).pre d ∗ levAts (K (F := F)).L (K (F := F)).lev ∗ GG (F := F) d) : sProp 𝕄)
  iintro ⟨Hk, Hb, Hpre, Hlv, Hc, Ht⟩
  isplitl [Hk]
  · iintro H
    rw [wp_ret]; imodintro
    iapply Hk; iexact H
  isplitl [Hb]; · iexact Hb
  isplitl [Hpre]; · iexact Hpre
  isplitl [Hlv]; · iexact Hlv
  isplitl [Hc] <;> iassumption

/-- The host's buffers at the end. -/
abbrev Vfin (d : Dev nD) : Valuation τ sig (Elt F) := Vend (Vops m) d

/-- What the host keeps at the end: its buffers. -/
abbrev FIN (d : Dev nD) : sProp 𝕄 := unscopedBufs d (fun b => Vfin m d (Proc.devRef .tc b))

theorem Otc_end (d : Dev nD) : (K (F := F)).Otc d 2 = 0 := by
  unfold SparseCore.Cfg.Otc
  refine Finset.sum_eq_zero fun q _ => if_neg ?_
  have := q.isLt; omega

set_option backward.isDefEq.respectTransparency.types false in
/-- The host program's run. -/
theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_split, main_eq, wp_bind]
  iintro ⟨#Hctx, Hst, ⟨Hb, ⟨Hx, Hi, H0, H1, H2, Ho0, Ho1, Hrest⟩, Hts, -⟩, HG⟩
  iapply ((K (F := F)).wp_run (D (F := F)) 𝒱 (EH := EH) (P := P m) κ d 0) $$ [Hst Hx Hi H0 H1 H2 Ho0 Ho1 Hrest Hb Hts HG]
  isplitr; · iexact Hctx
  isplitl [Hst]; · iexact Hst
  isplitl [Hx Hi H0 H1 H2]
  · rw [st_all m 0 d]
    iapply (Entails.of_eq (G0_all m d).symm)
    isplitl [Hx]; · iexact Hx
    isplitl [Hi]; · iexact Hi
    isplitl [H0]; · iexact H0
    isplitl [H1] <;> iassumption
  iintro ⟨Hst, Hdn⟩
  ihave Hdn' := (Entails.of_eq ((dn_all m 0 d).trans (T0_all m d))) $$ Hdn
  icases Hdn' with ⟨Hx, Hi, H0, H1, H2⟩
  rw [wp_bind]
  iapply ((K (F := F)).wp_run (D (F := F)) 𝒱 (EH := EH) (P := P m) κ d 1) $$ [Hst Hx Hi H0 H1 H2 Ho0 Ho1 Hrest Hb Hts HG]
  isplitr; · iexact Hctx
  isplitl [Hst]; · iexact Hst
  isplitl [H0 H1 H2 Ho0 Ho1]
  · rw [st_all m 1 d]
    iapply (Entails.of_eq (G1_all m d).symm)
    isplitl [H0]; · iexact H0
    isplitl [H1]; · iexact H1
    isplitl [H2]; · iexact H2
    isplitl [Ho0] <;> iassumption
  iintro ⟨Hst, Hdn⟩
  ihave Hdn' := (Entails.of_eq ((dn_all m 1 d).trans (T1_all m d))) $$ Hdn
  icases Hdn' with ⟨H0, H1, H2, Ho0, Ho1⟩
  ihave Hub := (Entails.of_eq ((unscoped_mid m d).trans (Pipeline.unscopedBufs_held d (Vmid m d)))) $$ [Hx Hi H0 H1 H2 Ho0 Ho1 Hrest]
  · isplitl [Hx]; · iexact Hx
    isplitl [Hi]; · iexact Hi
    isplitl [H0]; · iexact H0
    isplitl [H1]; · iexact H1
    isplitl [H2]; · iexact H2
    isplitl [Ho0]; · iexact Ho0
    isplitl [Ho1] <;> iassumption
  iapply (StableHlo.wp_seq 𝒱 none Set.univ d (Pipeline.ucRefs τ sig) _ ops ops_bufs ops_fresh (Vmid m d)) $$ [Hb Hub]
  · isplitl [Hb] <;> iassumption
  iintro ⟨Hb, Hub⟩
  iapply (region_step (Vops m) d _)
  ihave Hub := (show StableHlo.held d.tc (Pipeline.ucRefs τ sig) (StableHlo.after ops (Vmid m d)) ⊢ (unscopedBufs d (fun b => Vops m d (Proc.devRef .tc b)) : sProp 𝕄) from
    Entails.of_eq (Pipeline.unscopedBufs_held (Ix := HIx 2) (Name := ℕ) (U := UU) (Lvl := ℕ) d (Vops m d)).symm) $$ Hub
  unfold SparseCore.Cfg.tcSt
  icases Hst with ⟨⟨%W, %hW, HO⟩, Hrst⟩
  simp only [reg]
  isplitl [Hrst Hts]
  · iintro ⟨Hb, Hub, ⟨%W', %hW', HO⟩⟩
    isplitl [HO Hrst]
    · isplitl [HO]
      · iexists W'; isplitr; · ipureintro; exact hW'
        rw [Otc_end]; iexact HO
      iexact Hrst
    isplitl [Hub]; · iexact Hub
    isplitl [Hb] <;> iassumption
  isplitl [Hb]; · iexact Hb
  isplitl [Hub HO]
  · isplitl [Hub]; · iexact Hub
    iexists W; isplitr; · ipureintro; exact hW
    ihave HO' := (show owes (SparseCore.T d) ((K (F := F)).Otc d ((1 : Fin 2).val + 1)) W ⊢ (owes (SparseCore.T d) 0 W : sProp 𝕄) from
      Entails.of_eq (congrArg (fun O => (owes (SparseCore.T d) O W : sProp 𝕄)) (Otc_end (F := F) d))) $$ HO
    iexact HO'
  isplitr [HG]
  · iapply (SparseCore.Cfg.ctx_levAts (K := K (F := F)) (EH := EH) (P := P m) κ); iexact Hctx
  iexact HG

/-! ## What the final memory holds -/

/-- The memory holds the host's buffers at their final contents. -/
def fq (d : Dev nD) (s' : Phys nD τ sig (Elt F)) : Prop := ∀ b : Ref sig .tc, ¬ b.isScoped → s'.mem.mem ((SparseCore.T d).loc b) = Vfin m d (Proc.devRef .tc b)

theorem hfin (d : Dev nD) (s' : Phys nD τ sig (Elt F)) : iprop(FIN m d ∗ SI s') ⊢ (⌜fq m d s'⌝ : sProp 𝕄) := by
  unfold fq
  refine (forall_intro fun b => ?_).trans pure_forall.2
  by_cases hb : b.isScoped
  · iintro -; ipureintro; exact fun h => absurd hb h
  unfold FIN unscopedBufs
  iintro ⟨HF, HSI⟩
  ihave H := (show (bigSep (Finset.univ.filter fun b : Ref sig .tc => ¬ b.isScoped) fun b => (SparseCore.T d).loc b ↦{fullShare} Vfin m d (Proc.devRef .tc b))
    ⊢ ((SparseCore.T d).loc b ↦{fullShare} Vfin m d (Proc.devRef .tc b) : sProp 𝕄) from bigSep_elim (Finset.mem_filter.mpr ⟨Finset.mem_univ b, hb⟩)) $$ HF
  ihave H := (SI_pointsTo_agree (st := s') (ℓ := (SparseCore.T d).loc b) (I := Finset.univ) (q := fullShare) (f := Vfin m d (Proc.devRef .tc b))) $$ [HSI H]
  · isplitl [HSI] <;> iassumption
  icases H with %h
  ipureintro
  exact fun _ => funext fun i => h i (Finset.mem_univ _)

/-- The program terminates with the host's buffers at `Vfin` and every semaphore at zero. -/
theorem run_main [∀ e, Nonempty (Elt F e)] (hpre : PreOK m) :
    θ_run (Cert.KernelIdeal.defs (F := F)) (Cert.KernelIdeal.threads (F := F)) ⟨m, fun _ => 0, ρ⟩
      (fun r => (∀ (d : Dev nD) (b : Ref sig .tc), ¬ b.isScoped → r.2.mem ((SparseCore.T d).loc b) = Vfin m d (Proc.devRef .tc b)) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m)
    (fun q _ => SparseCore.Cfg.VecSplit.of_plain (vecSplit m q))
    m ρ main (fun d => GG (F := F) d) (FIN m) (u₀ (F := F)) (sep_elim_left.trans (hu₀ m)) (hmain m ρ) (fq m) (hfin m) _ (fun _ h hz => ⟨h, hz⟩)

/-! ## The arguments keep their contents -/

/-- No host operation writes an argument or the calls' own arrays. -/
theorem Vops_arg (d : Dev nD) (b : Ref sig .tc) (h : b ∉ ([main_v2, main_v3, main_v4, main_v5, main_v6, main_v7, main_v8] : List (Ref sig .tc))) :
    Vops m d (Proc.devRef .tc b) = Vmid m d (Proc.devRef .tc b) := by
  refine StableHlo.after_of_writes_sub ops (Vmid m d) (W := [main_v2, main_v3, main_v4, main_v5, main_v6, main_v7, main_v8]) ?_ h
  simp only [ops, List.Forall, StableHlo.reshape_writes, StableHlo.unary_writes]
  decide

theorem Vfin_arg (d : Dev nD) (b : Ref sig .tc)
    (h : b ∉ ([main_v2, main_v3, main_v4, main_v5, main_v6, main_v7, main_v8, main_v9, main_v0_0, main_v0_1, main_v0_2, main_v1_0, main_v1_1] : List (Ref sig .tc))) :
    Vfin m d (Proc.devRef .tc b) = m ((SparseCore.T d).loc b) := by
  simp only [List.mem_cons, List.not_mem_nil, or_false, not_or] at h
  obtain ⟨h2, h3, h4, h5, h6, h7, h8, h9, ha, hb, hc, hd, he⟩ := h
  rw [Vfin, Vend_ne _ _ _ h9, Vops_arg, Vmid_other m d b ha hb hc hd he]
  simp only [List.mem_cons, List.not_mem_nil, or_false, not_or]
  exact ⟨h2, h3, h4, h5, h6, h7, h8⟩

end Cert.Proof

end
-- ==== Proof.Frames.lean ====
/-
  The frames: the program, its idealisation and the reference terminate, leave their arguments unchanged and leave every
  semaphore at zero.
-/
module

public import proofs.«01_k».proof.Defs
public import proofs.«01_k».proof.Proof.Pre
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

/-- The run of the program, read at its arguments: they end unchanged. -/
theorem args_end {F : FTy → Type} [FloatOps F] (m : (ℓ : Loc Cert.KernelIdeal.nD Cert.KernelIdeal.τ Cert.KernelIdeal.sig) → Buf (Elt F) ℓ)
    (mem : (ℓ : Loc Cert.KernelIdeal.nD Cert.KernelIdeal.τ Cert.KernelIdeal.sig) → Buf (Elt F) ℓ)
    (h : ∀ (d : Dev Cert.KernelIdeal.nD) (b : Ref Cert.KernelIdeal.sig .tc), ¬ b.isScoped →
      mem ((SparseCore.T d).loc b) = Vfin m d (Proc.devRef .tc b)) (d : Dev Cert.KernelIdeal.nD) :
    mem ((SparseCore.T d).loc Cert.KernelIdeal.main_arg0) = m ((SparseCore.T d).loc Cert.KernelIdeal.main_arg0)
    ∧ mem ((SparseCore.T d).loc Cert.KernelIdeal.main_arg1) = m ((SparseCore.T d).loc Cert.KernelIdeal.main_arg1)
    ∧ mem ((SparseCore.T d).loc Cert.KernelIdeal.main_arg2) = m ((SparseCore.T d).loc Cert.KernelIdeal.main_arg2)
    ∧ mem ((SparseCore.T d).loc Cert.KernelIdeal.main_arg3) = m ((SparseCore.T d).loc Cert.KernelIdeal.main_arg3) :=
  ⟨(h d Cert.KernelIdeal.main_arg0 (by decide)).trans (Vfin_arg m d _ (by decide)),
    (h d Cert.KernelIdeal.main_arg1 (by decide)).trans (Vfin_arg m d _ (by decide)),
    (h d Cert.KernelIdeal.main_arg2 (by decide)).trans (Vfin_arg m d _ (by decide)),
    (h d Cert.KernelIdeal.main_arg3 (by decide)).trans (Vfin_arg m d _ (by decide))⟩

theorem preOK_ideal {m} (h : Cert.Pre_KernelIdeal m) : PreOK m := fun d j => ok_of_lt (ids_lt _ _ _ _ (h d) j)

/-- The idealised program's frame. -/
theorem frame_ideal : Cert.quiescent_KernelIdeal := fun m ρ hpre =>
  (θ_run Cert.KernelIdeal.defs _ _).mono (fun r h => ⟨args_end m r.2.mem h.1, h.2⟩) (run_main (F := Ideal) m ρ (preOK_ideal hpre))

/-- The two printed programs' kernels are the same, label by label. -/
theorem defs₀_same {F : FTy → Type} [FloatOps F] : Cert.Kernel.defs₀ (F := F) = Cert.KernelIdeal.defs₀ (F := F) := by
  funext p ℓ a
  match p, ℓ, a with
  | .scVector c s, 0, _ => rfl
  | .scVector c s, 1, _ => rfl
  | .scVector c s, 2, _ => rfl
  | .tc, 0, _ => rfl
  | .tc, 1, _ => rfl
  | .tc, 2, (t, s) => rfl
  | .scScalar c, 0, _ => rfl
  | .scScalar c, 1, _ => rfl
  | .scScalar c, 2, _ => rfl

theorem defs_same {F : FTy → Type} [FloatOps F] : Cert.Kernel.defs (F := F) = Cert.KernelIdeal.defs (F := F) :=
  congrArg (fun e => SparseCore.Cfg.defs Cert.KernelIdeal.sc (Pipeline.defs Cert.KernelIdeal.pcfgs e)) defs₀_same

/-- The program's frame. -/
theorem frame_kernel : Cert.quiescent_Kernel := by
  intro m ρ hpre
  rw [defs_same]
  exact (θ_run Cert.KernelIdeal.defs _ _).mono (fun r h => ⟨args_end m r.2.mem h.1, h.2⟩)
    (run_main (F := Bits) m ρ (fun d j => ok_of_lt (ids_lt _ _ _ _ (hpre d) j)))

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_pre : Cert.quiescent_ReferenceIdeal_pre_sorted_ids := fun m ρ _ => frame_reference m ρ trivial

end Cert.Proof

end
-- ==== Proof.Host.lean ====
/-
  The host's reshapes and transposes between the calls: what the TensorCore call is handed, entry by entry.
-/
module

public import proofs.«01_k».proof.Proof.Launch
public import Idealize.ShloMosaic.Lib.ValueIdx
public import Idealize.ShloMosaic.Lib.StableHlo.Run

@[expose] public section

noncomputable section

namespace Cert.Proof

open Cert.KernelIdeal Cert.KernelIdeal.Gen
open Idealize.ShloMosaic
open Idealize.ShloMosaic.StableHlo

variable {F : FTy → Type} [FloatOps F]

/-! ## From column groups to rows -/

/-- A result of the second call, regrouped: rows of 8 groups of 16 columns. -/
def regroup (R : S8x8192.Idx → F .f32) : S512x128.Idx → F .f32 :=
  shapeCast S512x128 (transpose S512x8x16 [1, 0, 2] (shapeCast S8x512x16 R shapeCasts_S8x8192_S8x512x16) transposes_S8x512x16_S512x8x16_1_0_2) shapeCasts_S512x8x16_S512x128

/-- Entry `(g, 16 p + l)` of the rows is entry `16 g + l` of column group `p`. -/
theorem regroup_apply (R : S8x8192.Idx → F .f32) (g : Fin 512) (p : Fin 8) (l : Fin 16) (h : 16 * p.val + l.val < 128) (h' : 16 * g.val + l.val < 8192) :
    regroup R (ValueIdx.ix2 g (⟨16 * p.val + l.val, h⟩ : Fin 128)) = R (ValueIdx.ix2 p (⟨16 * g.val + l.val, h'⟩ : Fin 8192)) := by
  have e1 : Shape.reshapeEquiv shapeCasts_S512x8x16_S512x128 (ValueIdx.ix2 g (⟨16 * p.val + l.val, h⟩ : Fin 128)) = (ValueIdx.ix3 g p l : S512x8x16.Idx) := by
    refine Shape.reshapeEquiv_eq_of_rowMajor _ ?_
    rw [Shape.rowMajor_val_three, Shape.rowMajor_val_two]
    show (g.val * 8 + p.val) * 16 + l.val = g.val * 128 + (16 * p.val + l.val)
    omega
  have e2 : transposes_S8x512x16_S512x8x16_1_0_2.src (ValueIdx.ix3 g p l : S512x8x16.Idx) = (ValueIdx.ix3 p g l : S8x512x16.Idx) := by
    funext a
    match a with
    | ⟨0, _⟩ => rfl
    | ⟨1, _⟩ => rfl
    | ⟨2, _⟩ => rfl
  have e3 : Shape.reshapeEquiv shapeCasts_S8x8192_S8x512x16 (ValueIdx.ix3 p g l : S8x512x16.Idx) = (ValueIdx.ix2 p (⟨16 * g.val + l.val, h'⟩ : Fin 8192) : S8x8192.Idx) := by
    refine Shape.reshapeEquiv_eq_of_rowMajor _ ?_
    rw [Shape.rowMajor_val_three, Shape.rowMajor_val_two]
    show p.val * 8192 + (16 * g.val + l.val) = (p.val * 512 + g.val) * 16 + l.val
    omega
  unfold regroup shapeCast transpose
  rw [e1, e2]
  exact congrArg R e3

/-- The bias as a row. -/
def biasRow (b : S128.Idx → F .f32) : S1x128.Idx → F .f32 := shapeCast S1x128 b shapeCasts_S128_S1x128

theorem biasRow_apply (b : S128.Idx → F .f32) (j : Fin 128) : biasRow b (ValueIdx.ix2 (0 : Fin 1) j) = b (ValueIdx.ix1 j) := by
  have e : Shape.reshapeEquiv shapeCasts_S128_S1x128 (ValueIdx.ix2 (0 : Fin 1) j : S1x128.Idx) = (ValueIdx.ix1 j : S128.Idx) := by
    refine Shape.reshapeEquiv_eq_of_rowMajor _ ?_
    rw [Shape.rowMajor_val_one, Shape.rowMajor_val_two]
    show j.val = 0 * 128 + j.val
    omega
  unfold biasRow shapeCast
  rw [e]

/-! ## What the TensorCore call is handed -/

variable (m : (ℓ : Loc nD τ sig) → Buf (Elt F) ℓ) (d : Dev nD)

theorem Vops_v4 : Vops m d (Proc.devRef .tc main_v4) = regroup (R0 m d) := by
  rw [← Vmid_o0 m d]
  unfold Vops ops regroup
  after_results_simp <;> rfl
theorem Vops_v7 : Vops m d (Proc.devRef .tc main_v7) = regroup (R1 m d) := by
  rw [← Vmid_o1 m d]
  unfold Vops ops regroup
  after_results_simp <;> rfl
theorem Vops_v8 : Vops m d (Proc.devRef .tc main_v8) = biasRow (m ((SparseCore.T d).loc main_arg3)) := by
  rw [← Vmid_other m d main_arg3 (by decide) (by decide) (by decide) (by decide) (by decide)]
  unfold Vops ops biasRow
  after_results_simp <;> rfl
theorem Vops_w : Vops m d (Proc.devRef .tc main_arg2) = m ((SparseCore.T d).loc main_arg2) := by
  rw [Vops_arg m d main_arg2 (by decide), Vmid_other m d main_arg2 (by decide) (by decide) (by decide) (by decide) (by decide)]

end Cert.Proof

end
-- ==== Proof.Fold.lean ====
/-
  Running folds over rows: the total of the rows of one segment among the first `n`, for an operation with a neutral
  element (a sum from zero, a maximum from minus infinity).
-/
module

public import proofs.«01_k».proof.Proof.Model
public import Idealize.ShloMosaic.PureOps.Ideal
public import Idealize.ShloMosaic.Lib.IdealHost

@[expose] public section

noncomputable section

namespace Cert.Proof

open Idealize.ShloMosaic

/-- An associative operation with a neutral element. -/
structure Neutral (op : EReal → EReal → EReal) (e : EReal) : Prop where
  assoc : ∀ a b c, op (op a b) c = op a (op b c)
  left : ∀ a, op e a = a
  right : ∀ a, op a e = a

theorem neutral_add : Neutral (· + ·) 0 := ⟨add_assoc, zero_add, add_zero⟩
theorem neutral_max : Neutral max ⊥ := ⟨max_assoc, fun a => max_eq_right bot_le, fun a => max_eq_left bot_le⟩

variable {op : EReal → EReal → EReal} {e : EReal}

/-- The fold of the first `n` values of `f`. -/
def acc (op : EReal → EReal → EReal) (e : EReal) (f : ℕ → EReal) : ℕ → EReal
  | 0 => e
  | n + 1 => op (acc op e f n) (f n)

/-- The values of the rows of segment `c`, the others neutral. -/
def pick (e : EReal) (b : ℕ → BitVec 32) (x : ℕ → EReal) (c : BitVec 32) : ℕ → EReal := fun r => if b r = c then x r else e

/-- The total of segment `c` over the first `n` rows. -/
abbrev tot (op : EReal → EReal → EReal) (e : EReal) (b : ℕ → BitVec 32) (x : ℕ → EReal) (c : BitVec 32) (n : ℕ) : EReal := acc op e (pick e b x c) n

theorem acc_congr {f g : ℕ → EReal} {n : ℕ} (h : ∀ r < n, f r = g r) : acc op e f n = acc op e g n := by
  induction n with
  | zero => rfl
  | succ n ih => rw [acc, acc, ih fun r hr => h r (Nat.lt_succ_of_lt hr), h n (Nat.lt_succ_self n)]

theorem acc_add (H : Neutral op e) (f : ℕ → EReal) (n k : ℕ) : acc op e f (n + k) = op (acc op e f n) (acc op e (fun r => f (n + r)) k) := by
  induction k with
  | zero => exact (H.right _).symm
  | succ k ih => rw [← Nat.add_assoc, acc, ih, acc, H.assoc]

theorem tot_hit {b : ℕ → BitVec 32} {x : ℕ → EReal} {c : BitVec 32} {n : ℕ} (h : b n = c) : tot op e b x c (n + 1) = op (tot op e b x c n) (x n) := by
  rw [tot, acc, pick, if_pos h]
theorem tot_miss (H : Neutral op e) {b : ℕ → BitVec 32} {x : ℕ → EReal} {c : BitVec 32} {n : ℕ} (h : b n ≠ c) : tot op e b x c (n + 1) = tot op e b x c n := by
  rw [tot, acc, pick, if_neg h, H.right]

theorem acc_none (H : Neutral op e) {f : ℕ → EReal} {n : ℕ} (h : ∀ r < n, f r = e) : acc op e f n = e := by
  induction n with
  | zero => rfl
  | succ n ih => rw [acc, ih fun r hr => h r (Nat.lt_succ_of_lt hr), h n (Nat.lt_succ_self n), H.left]
theorem tot_none (H : Neutral op e) {b : ℕ → BitVec 32} {x : ℕ → EReal} {c : BitVec 32} {n : ℕ} (h : ∀ r < n, b r ≠ c) : tot op e b x c n = e :=
  acc_none H fun r hr => if_neg (h r hr)

/-- A run of rows of other segments adds nothing. -/
theorem tot_skip (H : Neutral op e) {b : ℕ → BitVec 32} {x : ℕ → EReal} {c : BitVec 32} {n k : ℕ} (h : ∀ r < k, b (n + r) ≠ c) :
    tot op e b x c (n + k) = tot op e b x c n := by
  induction k with
  | zero => rfl
  | succ k ih => rw [← Nat.add_assoc, tot_miss H (h k (Nat.lt_succ_self k)), ih fun r hr => h r (Nat.lt_succ_of_lt hr)]

/-- A sum of ones is the number of them. -/
theorem acc_one (n : ℕ) : acc (· + ·) 0 (fun _ => 1) n = (n : EReal) := by
  induction n with
  | zero => exact Nat.cast_zero.symm
  | succ n ih => rw [acc, ih, Nat.cast_succ]

/-- A sum is over the rows in any order. -/
theorem acc_sum (f : ℕ → EReal) (n : ℕ) : acc (· + ·) 0 f n = ∑ r : Fin n, f r.val := by
  induction n with
  | zero => rfl
  | succ n ih => rw [acc, ih, Fin.sum_univ_castSucc]; rfl

/-! ## The constants -/

theorem one1_ideal : (one1 : Ideal .f32) = (1 : EReal) := Ideal.ofBits_one_f32
theorem zero_ideal : (Scalar.ofBits .f32 0x00000000#32 : Ideal .f32) = (0 : EReal) := by
  show Ideal.ofBits .f32 0x00000000#32 = 0
  simp [Ideal.ofBits, Ideal.ieee]
theorem bot_ideal : (Scalar.ofBits .f32 0xFF800000#32 : Ideal .f32) = (⊥ : EReal) := by
  show Ideal.ofBits .f32 0xFF800000#32 = ⊥
  simp [Ideal.ofBits, Ideal.ieee]
theorem thirtytwo_ideal : (Scalar.ofBits .f32 0x42000000#32 : Ideal .f32) = ((32 : ℕ) : EReal) := by
  show Ideal.ofBits .f32 0x42000000#32 = _
  simp [Ideal.ofBits, Ideal.ieee, -EReal.coe_mul]; norm_num
  exact EReal.coe_natCast (n := 32)

end Cert.Proof

end
-- ==== Proof.Inv.lean ====
/-
  What a tile's state holds after its first `n` rows, over the extended reals: the current segment's totals in the running
  values, and every other segment's totals in the accumulators.
-/
module

public import proofs.«01_k».proof.Proof.Fold
public import proofs.«01_k».proof.Proof.Pre

@[expose] public section

noncomputable section

namespace Cert.Proof

open Cert.KernelIdeal Cert.KernelIdeal.Gen
open Idealize.ShloMosaic

/-! ## Entries of an accumulator -/

/-- Entry `n` of an accumulator. -/
abbrev ixN (n : ℕ) : S8208.Idx := fun | 0 => (Fin.ofNat 8208 n : Fin 8208) | ⟨_ + 1, h⟩ => absurd h (Nat.not_lt.2 (Nat.le_add_left _ _))

theorem put_hit (A : Acc Ideal) (o : ℕ) (p : V16 Ideal) (l : Fin 16) (h : o + 16 ≤ 8208) : put A o p (ixN (o + l.val)) = p (ix16 l) := by
  have e : (ixN (o + l.val) 0).val = o + l.val := Nat.mod_eq_of_lt (by omega)
  unfold put
  rw [dif_pos (by rw [e]; omega)]
  congr 2
  exact Fin.ext (by show (ixN (o + l.val) 0).val - o = l.val; rw [e]; omega)

theorem put_miss (A : Acc Ideal) (o : ℕ) (p : V16 Ideal) (n : ℕ) (h : n < 8208) (hn : ¬ (o ≤ n ∧ n < o + 16)) : put A o p (ixN n) = A (ixN n) := by
  have e : (ixN n 0).val = n := Nat.mod_eq_of_lt h
  unfold put
  rw [dif_neg (by rw [e]; exact hn)]

/-! ## The segment numbers -/

/-- The first `N` segment numbers do not decrease, and each is below 512. -/
structure Sorted (b : ℕ → BitVec 32) (N : ℕ) : Prop where
  lt : ∀ i, (b i).toNat < 512
  mono : ∀ i j, i ≤ j → j < N → (b i).toNat ≤ (b j).toNat

/-- The current segment after `n` rows: none at first, then the last row's. -/
def CurAt (b : ℕ → BitVec 32) (n : ℕ) (cur : BitVec 32) : Prop := (n = 0 ∧ cur = 4294967295#32) ∨ (0 < n ∧ b (n - 1) = cur)

theorem slot_none : slot 4294967295#32 = 0 := by decide

/-- Different segments have disjoint slots. -/
theorem slot_apart {b : ℕ → BitVec 32} {N n : ℕ} (S : Sorted b N) {c cur : BitVec 32} (hc : c.toNat < 512) (hcur : CurAt b n cur) (h : c ≠ cur) (l : Fin 16) :
    ¬ (slot cur ≤ slot c + l.val ∧ slot c + l.val < slot cur + 16) := by
  rw [slot_of_lt hc]
  rcases hcur with ⟨-, rfl⟩ | ⟨-, rfl⟩
  · rw [slot_none]; omega
  · rw [slot_of_lt (S.lt _)]
    have : c.toNat ≠ (b (n - 1)).toNat := fun e => h (BitVec.eq_of_toNat_eq e)
    omega

/-- A row that starts a segment is its first. -/
theorem fresh {b : ℕ → BitVec 32} {N n : ℕ} (S : Sorted b N) (hn : n < N) {cur : BitVec 32} (hcur : CurAt b n cur) (h : b n ≠ cur) : ∀ r < n, b r ≠ b n := by
  intro r hr e
  rcases hcur with ⟨rfl, -⟩ | ⟨h0, rfl⟩
  · omega
  · have h1 := S.mono r (n - 1) (by omega) (by omega)
    have h2 := S.mono (n - 1) n (by omega) hn
    rw [e] at h1
    exact h (BitVec.eq_of_toNat_eq (le_antisymm h1 h2))

/-- Between two rows of one segment all rows are of it. -/
theorem between {b : ℕ → BitVec 32} {N n k : ℕ} (S : Sorted b N) (hn : n + k < N) {cur : BitVec 32} (h0 : b n = cur) (h1 : b (n + k) = cur) :
    ∀ r < k + 1, b (n + r) = cur := by
  intro r hr
  have a := S.mono n (n + r) (by omega) (by omega)
  have c := S.mono (n + r) (n + k) (by omega) hn
  rw [h0] at a; rw [h1] at c
  exact BitVec.eq_of_toNat_eq (le_antisymm c a)

/-! ## One running value and its accumulator -/

section
variable {op : EReal → EReal → EReal} {e : EReal}

/-- After `n` rows the running value `v` is the current segment's total, and lane `l` of every other segment's slot of `A`
    is that segment's total. -/
structure Comp (op : EReal → EReal → EReal) (e : EReal) (b : ℕ → BitVec 32) (x : ℕ → EReal) (l : Fin 16) (n : ℕ) (cur : BitVec 32) (v : EReal) (A : Acc Ideal) : Prop where
  now : v = tot op e b x cur n
  done : ∀ c : BitVec 32, c.toNat < 512 → c ≠ cur → A (ixN (slot c + l.val)) = tot op e b x c n

variable {b : ℕ → BitVec 32} {x : ℕ → EReal} {l : Fin 16} {n N : ℕ} {cur : BitVec 32} {v : EReal} {A : Acc Ideal}

theorem slot_le {c : BitVec 32} (h : c.toNat < 512) : slot c + 16 ≤ 8208 := ok_of_lt h

/-- Writing the running value out completes the accumulator. -/
theorem Comp.out (S : Sorted b N) (hcur : CurAt b n cur) (h : Comp op e b x l n cur v A) (p : V16 Ideal) (hp : p (ix16 l) = v)
    (c : BitVec 32) (hc : c.toNat < 512) : put A (slot cur) p (ixN (slot c + l.val)) = tot op e b x c n := by
  by_cases hcc : c = cur
  · subst hcc
    rw [put_hit _ _ _ _ (slot_le hc), hp, h.now]
  · rw [put_miss _ _ _ _ (by have := slot_le hc; omega) (slot_apart S hc hcur hcc l), h.done c hc hcc]

/-- One row. -/
theorem Comp.row (H : Neutral op e) (S : Sorted b N) (hn : n < N) (hcur : CurAt b n cur) (h : Comp op e b x l n cur v A) (p : V16 Ideal) (hp : p (ix16 l) = v) :
    Comp op e b x l (n + 1) (b n) (if b n = cur then op v (x n) else x n) (put A (slot cur) p) := by
  refine ⟨?_, fun c hc hcb => ?_⟩
  · rw [tot_hit rfl]
    by_cases hb : b n = cur
    · rw [if_pos hb, hb, h.now]
    · rw [if_neg hb, tot_none H (fresh S hn hcur hb), H.left]
  · rw [tot_miss H (Ne.symm hcb)]
    exact h.out S hcur p hp c hc

/-- A run of rows of the current segment. -/
theorem Comp.run (H : Neutral op e) (h : Comp op e b x l n cur v A) (k : ℕ) (hb : ∀ r < k, b (n + r) = cur) :
    Comp op e b x l (n + k) cur (op v (acc op e (fun r => x (n + r)) k)) A := by
  refine ⟨?_, fun c hc hcb => ?_⟩
  · rw [tot, acc_add H]
    refine congrArg₂ op h.now (acc_congr fun r hr => ?_)
    simp only [pick]; rw [if_pos (hb r hr)]
  · rw [tot_skip H (fun r hr e => hcb (e.symm.trans (hb r hr)))]
    exact h.done c hc hcb

end

/-! ## The state -/

/-- The state after `n` rows. -/
structure Inv (b : ℕ → BitVec 32) (x : ℕ → V16 Ideal) (n : ℕ) (st : St Ideal) : Prop where
  cur : CurAt b n st.cur
  sum : ∀ l, Comp (· + ·) 0 b (fun r => x r (ix16 l)) l n st.cur (st.sm (ix16 l)) st.As
  max : ∀ l, Comp Max.max ⊥ b (fun r => x r (ix16 l)) l n st.cur (st.mx (ix16 l)) st.Am
  cnt : ∀ l, Comp (· + ·) 0 b (fun _ => 1) l n st.cur st.cnt st.Ac

variable {b : ℕ → BitVec 32} {x : ℕ → V16 Ideal} {n N : ℕ} {st : St Ideal}

theorem cnt_lane (c : Ideal .f32) (l : Fin 16) : (mulf (broadcast S16 one1) (broadcast S16 c) : V16 Ideal) (ix16 l) = c := by
  show (one1 : Ideal .f32) * c = c
  rw [one1_ideal]; exact one_mul (M := EReal) c

theorem inv_zero : Inv b x 0 (st0 (F := Ideal)) :=
  ⟨Or.inl ⟨rfl, rfl⟩, fun _ => ⟨zero_ideal, fun _ _ _ => zero_ideal⟩, fun _ => ⟨bot_ideal, fun _ _ _ => bot_ideal⟩, fun _ => ⟨zero_ideal, fun _ _ _ => zero_ideal⟩⟩

theorem ite_lane (p : Prop) [Decidable p] (u w : V16 Ideal) (l : S16.Idx) : (if p then u else w) l = if p then u l else w l := by split <;> rfl

theorem inv_row (S : Sorted b N) (hn : n < N) (h : Inv b x n st) : Inv b x (n + 1) (rowStep (b n) (x n) st) := by
  refine ⟨Or.inr ⟨Nat.succ_pos n, rfl⟩, fun l => ?_, fun l => ?_, fun l => ?_⟩
  · have := (h.sum l).row neutral_add S hn h.cur st.sm rfl
    unfold rowStep; simp only [ite_lane]; exact this
  · have := (h.max l).row neutral_max S hn h.cur st.mx rfl
    unfold rowStep; simp only [ite_lane]; exact this
  · have := (h.cnt l).row neutral_add S hn h.cur _ (cnt_lane st.cnt l)
    unfold rowStep
    simp only [one1_ideal]
    exact this

theorem inv_rows (S : Sorted b N) (o : ℕ) (h : Inv b x o st) : ∀ k, o + k ≤ N → Inv b x (o + k) (rows b x o k st)
  | 0, _ => h
  | k + 1, hk => inv_row (n := o + k) S (Nat.lt_of_lt_of_le (Nat.lt_succ_self (o + k)) hk) (inv_rows S o h k (le_trans (Nat.le_succ (o + k)) hk))

theorem addRows_lane (o : ℕ) (s : V16 Ideal) (l : S16.Idx) : ∀ k, addRows x o k s l = s l + acc (· + ·) 0 (fun r => x (o + r) l) k
  | 0 => (add_zero (M := EReal) _).symm
  | k + 1 => by
    show addRows x o k s l + x (o + k) l = _
    rw [addRows_lane o s l k, acc]; exact add_assoc (G := EReal) _ _ _

theorem maxRows_lane (o : ℕ) (s : V16 Ideal) (l : S16.Idx) : ∀ k, maxRows x o k s l = Max.max (s l) (acc Max.max ⊥ (fun r => x (o + r) l) k)
  | 0 => (max_eq_left bot_le).symm
  | k + 1 => by
    show Max.max (maxRows x o k s l) (x (o + k) l) = _
    rw [maxRows_lane o s l k, acc]; exact max_assoc (α := EReal) _ _ _

theorem inv_fast (S : Sorted b N) (hn : n + 32 ≤ N) (h0 : b n = st.cur) (h1 : b (n + 31) = st.cur) (h : Inv b x n st) : Inv b x (n + 32) (fastStep x n st) := by
  have hb := between S (k := 31) (by omega) h0 h1
  refine ⟨Or.inr ⟨by omega, h1⟩, fun l => ?_, fun l => ?_, fun l => ?_⟩
  · have := (h.sum l).run neutral_add 32 hb
    unfold fastStep; simp only [addRows_lane]; exact this
  · have := (h.max l).run neutral_max 32 hb
    unfold fastStep; simp only [maxRows_lane]; exact this
  · have := (h.cnt l).run neutral_add 32 hb
    rw [acc_one] at this
    unfold fastStep; simp only [thirtytwo_ideal]; exact this

theorem inv_block (S : Sorted b N) (hn : n + 32 ≤ N) (h : Inv b x n st) : Inv b x (n + 32) (blockStep b x n st) := by
  unfold blockStep
  split
  · next hb => exact inv_fast S hn hb.1 hb.2 h
  · exact inv_rows S n h 32 hn

theorem inv_blocks (S : Sorted b N) (o : ℕ) (h : Inv b x o st) : ∀ k, o + 32 * k ≤ N → Inv b x (o + 32 * k) (blocks b x o k st)
  | 0, _ => h
  | k + 1, hk => inv_block S (by omega) (inv_blocks S o h k (by omega))

theorem inv_chunk (S : Sorted b N) (hn : n + 1000 ≤ N) (h : Inv b x n st) : Inv b x (n + 1000) (chunkStep b x n st) :=
  inv_rows S (n + 992) (inv_blocks S n h 31 (by omega)) 8 hn

theorem inv_chunks (S : Sorted b N) : ∀ k, 1000 * k ≤ N → Inv b x (1000 * k) (chunks b x k (st0 (F := Ideal)))
  | 0, _ => inv_zero
  | k + 1, hk => inv_chunk S (by omega) (inv_chunks S k (by omega))

/-- What the three accumulators hold at the end: every segment's totals. -/
theorem flush_sum (S : Sorted b N) (h : Inv b x n st) (l : Fin 16) (c : BitVec 32) (hc : c.toNat < 512) :
    (flush st).As (ixN (slot c + l.val)) = tot (· + ·) 0 b (fun r => x r (ix16 l)) c n := (h.sum l).out S h.cur _ rfl c hc
theorem flush_max (S : Sorted b N) (h : Inv b x n st) (l : Fin 16) (c : BitVec 32) (hc : c.toNat < 512) :
    (flush st).Am (ixN (slot c + l.val)) = tot Max.max ⊥ b (fun r => x r (ix16 l)) c n := (h.max l).out S h.cur _ rfl c hc
theorem flush_cnt (S : Sorted b N) (h : Inv b x n st) (l : Fin 16) (c : BitVec 32) (hc : c.toNat < 512) :
    (flush st).Ac (ixN (slot c + l.val)) = tot (· + ·) 0 b (fun _ => 1) c n := (h.cnt l).out S h.cur _ (cnt_lane _ l) c hc

end Cert.Proof

end
-- ==== Proof.Pool.lean ====
/-
  The pooled arrays: what the two SparseCore calls leave for the rows and segment numbers they read, each entry a total
  over all 100000 rows.
-/
module

public import proofs.«01_k».proof.Proof.Inv
public import proofs.«01_k».proof.Proof.Pieces

@[expose] public section

noncomputable section

namespace Cert.Proof

open Cert.KernelIdeal Cert.KernelIdeal.Gen
open Idealize.ShloMosaic

/-! ## The totals -/

/-- Row `n`'s place in the list of segment numbers, and column `j` of it in the rows. -/
abbrev ixIds (n : ℕ) : S100000.Idx := fun | 0 => (Fin.ofNat 100000 n : Fin 100000) | ⟨_ + 1, h⟩ => absurd h (Nat.not_lt.2 (Nat.le_add_left _ _))
abbrev ixRow (n j : ℕ) : S100000x128.Idx :=
  fun | 0 => (Fin.ofNat 100000 n : Fin 100000) | 1 => (Fin.ofNat 128 j : Fin 128) | ⟨_ + 2, h⟩ => absurd h (Nat.not_lt.2 (Nat.le_add_left _ _))

variable (ids : S100000.Idx → BitVec 32) (x : S100000x128.Idx → EReal)

/-- The sum of column `j` over the rows of segment `g`, their maximum, and the number of these rows. -/
def segSum (g j : ℕ) : EReal := tot (· + ·) 0 (fun n => ids (ixIds n)) (fun n => x (ixRow n j)) (BitVec.ofNat 32 g) 100000
def segMax (g j : ℕ) : EReal := tot Max.max ⊥ (fun n => ids (ixIds n)) (fun n => x (ixRow n j)) (BitVec.ofNat 32 g) 100000
def segCnt (g : ℕ) : EReal := tot (· + ·) 0 (fun n => ids (ixIds n)) (fun _ => 1) (BitVec.ofNat 32 g) 100000
/-- The mean: the sum over the number of rows, no rows taken as one. -/
def segMean (g j : ℕ) : EReal := Ideal.div (segSum ids x g j) (Max.max (segCnt ids g) 1)

/-- Four groups of 25000 rows make the whole. -/
theorem tot_four {op : EReal → EReal → EReal} {e : EReal} (H : Neutral op e) (b : ℕ → BitVec 32) (x : ℕ → EReal) (c : BitVec 32) :
    op (op (op (tot op e (fun r => b (25000 * 0 + r)) (fun r => x (25000 * 0 + r)) c 25000) (tot op e (fun r => b (25000 * 1 + r)) (fun r => x (25000 * 1 + r)) c 25000))
        (tot op e (fun r => b (25000 * 2 + r)) (fun r => x (25000 * 2 + r)) c 25000)) (tot op e (fun r => b (25000 * 3 + r)) (fun r => x (25000 * 3 + r)) c 25000)
      = tot op e b x c 100000 := by
  have h1 := acc_add H (pick e b x c) 25000 25000
  have h2 := acc_add H (pick e b x c) 50000 25000
  have h3 := acc_add H (pick e b x c) 75000 25000
  simp only [show 25000 * 0 = 0 from rfl, show 25000 * 1 = 25000 from rfl, show 25000 * 2 = 50000 from rfl, show 25000 * 3 = 75000 from rfl, Nat.zero_add]
  exact ((congrArg₂ op ((congrArg₂ op h1.symm rfl).trans h2.symm) rfl).trans h3.symm)

/-! ## One tile -/

variable (m : (ℓ : Loc nD τ sig) → Buf (Elt Ideal) ℓ) (d : Dev nD)

theorem wid_tileOf (w : Fin 32) : wid (tileOf w) = w.val := by
  show 16 * (w.val / 16) + w.val % 16 = w.val; omega
theorem row0_tileOf (w : Fin 32) : row0 (tileOf w) = 25000 * (w.val / 8) := by rw [row0, wid_tileOf]
theorem col0_tileOf (w : Fin 32) : col0 (tileOf w) = 16 * (w.val % 8) := by rw [col0, wid_tileOf]

theorem bt_tile (w : Fin 32) (r : ℕ) : bt d (tileOf w) bM (m (bLoc d)) r = m (bLoc d) (ixIds (25000 * (w.val / 8) + r)) := by
  unfold bt; rw [row0_tileOf]; rfl
theorem xt_tile (w : Fin 32) (r : ℕ) (l : Fin 16) : xt d (tileOf w) xM (m (xLoc d)) r (ix16 l) = m (xLoc d) (ixRow (25000 * (w.val / 8) + r) (16 * (w.val % 8) + l.val)) := by
  unfold xt; rw [row0_tileOf, col0_tileOf]; rfl

/-- Lane `l` of segment `g` in a row of the results is that lane of the segment's slot. -/
theorem slots_ix (A : Acc Ideal) (g : ℕ) (hg : g < 512) (l : Fin 16) (h : 16 * g + l.val < 8192) :
    slots A (ixE ⟨16 * g + l.val, h⟩) = A (ixN (slot (BitVec.ofNat 32 g) + l.val)) := by
  have hc : (BitVec.ofNat 32 g).toNat = g := by simp only [BitVec.toNat_ofNat]; omega
  rw [slot_of_lt (by rw [hc]; exact hg), hc]
  refine congrArg A (funext fun k => ?_)
  match k with
  | 0 => exact Fin.ext (show 16 * g + l.val + 16 = ((g + 1) * 16 + l.val) % 8208 by omega)

variable (S : Sorted (fun n => m (bLoc d) (ixIds n)) 100000)
include S

theorem sorted_tile (w : Fin 32) : Sorted (bt d (tileOf w) bM (m (bLoc d))) 25000 :=
  ⟨fun i => by rw [bt_tile]; exact S.lt _, fun i j hij hj => by rw [bt_tile, bt_tile]; exact S.mono _ _ (by omega) (by omega)⟩

theorem inv_tile (w : Fin 32) : Inv (bt d (tileOf w) bM (m (bLoc d))) (xt d (tileOf w) xM (m (xLoc d))) 25000
    (chunks (bt d (tileOf w) bM (m (bLoc d))) (xt d (tileOf w) xM (m (xLoc d))) 25 st0) :=
  inv_chunks (sorted_tile m d S w) 25 (by norm_num)

/-- A row of the sums, the maxima and the counts: the totals of its tile's 25000 rows. -/
theorem row_sum (r q p g : ℕ) (hr : r < 32) (hq : r / 8 = q) (hp : r % 8 = p) (hg : g < 512) (l : Fin 16) (h : 16 * g + l.val < 8192) :
    rowOf (V0 m d) r (ixE ⟨16 * g + l.val, h⟩)
      = tot (· + ·) 0 (fun n => m (bLoc d) (ixIds (25000 * q + n))) (fun n => m (xLoc d) (ixRow (25000 * q + n) (16 * p + l.val))) (BitVec.ofNat 32 g) 25000 := by
  subst hq hp
  have e : rowOf (V0 m d) r (ixE ⟨16 * g + l.val, h⟩) = slots (tileFin m d (tileOf (Fin.ofNat 32 r))).As (ixE ⟨16 * g + l.val, h⟩) := by
    unfold rowOf V0; rfl
  rw [e, show Fin.ofNat 32 r = ⟨r, hr⟩ from Fin.ext (Nat.mod_eq_of_lt hr), slots_ix _ g hg]
  unfold tileFin
  rw [flush_sum (sorted_tile m d S ⟨r, hr⟩) (inv_tile m d S ⟨r, hr⟩) l _ (by simp only [BitVec.toNat_ofNat]; omega)]
  simp only [funext (bt_tile m d ⟨r, hr⟩), xt_tile]
theorem row_max (r q p g : ℕ) (hr : r < 32) (hq : r / 8 = q) (hp : r % 8 = p) (hg : g < 512) (l : Fin 16) (h : 16 * g + l.val < 8192) :
    rowOf (V1 m d) r (ixE ⟨16 * g + l.val, h⟩)
      = tot Max.max ⊥ (fun n => m (bLoc d) (ixIds (25000 * q + n))) (fun n => m (xLoc d) (ixRow (25000 * q + n) (16 * p + l.val))) (BitVec.ofNat 32 g) 25000 := by
  subst hq hp
  have e : rowOf (V1 m d) r (ixE ⟨16 * g + l.val, h⟩) = slots (tileFin m d (tileOf (Fin.ofNat 32 r))).Am (ixE ⟨16 * g + l.val, h⟩) := by
    unfold rowOf V1; rfl
  rw [e, show Fin.ofNat 32 r = ⟨r, hr⟩ from Fin.ext (Nat.mod_eq_of_lt hr), slots_ix _ g hg]
  unfold tileFin
  rw [flush_max (sorted_tile m d S ⟨r, hr⟩) (inv_tile m d S ⟨r, hr⟩) l _ (by simp only [BitVec.toNat_ofNat]; omega)]
  simp only [funext (bt_tile m d ⟨r, hr⟩), xt_tile]
theorem row_cnt (r q g : ℕ) (hr : r < 32) (hq : r / 8 = q) (hg : g < 512) (l : Fin 16) (h : 16 * g + l.val < 8192) :
    rowOf (V2 m d) r (ixE ⟨16 * g + l.val, h⟩)
      = tot (· + ·) 0 (fun n => m (bLoc d) (ixIds (25000 * q + n))) (fun _ => 1) (BitVec.ofNat 32 g) 25000 := by
  subst hq
  have e : rowOf (V2 m d) r (ixE ⟨16 * g + l.val, h⟩) = slots (tileFin m d (tileOf (Fin.ofNat 32 r))).Ac (ixE ⟨16 * g + l.val, h⟩) := by
    unfold rowOf V2; rfl
  rw [e, show Fin.ofNat 32 r = ⟨r, hr⟩ from Fin.ext (Nat.mod_eq_of_lt hr), slots_ix _ g hg]
  unfold tileFin
  rw [flush_cnt (sorted_tile m d S ⟨r, hr⟩) (inv_tile m d S ⟨r, hr⟩) l _ (by simp only [BitVec.toNat_ofNat]; omega)]
  rw [funext (bt_tile m d ⟨r, hr⟩)]

/-! ## The merge -/

omit S in
theorem mergedS_apply (P : S32x8192.Idx → Ideal .f32) (p : ℕ) (y : S8192.Idx) :
    mergedS P p y = ((rowOf P p y + rowOf P (8 * 0 + p + 8) y) + rowOf P (8 * 1 + p + 8) y) + rowOf P (8 * 2 + p + 8) y := rfl
omit S in
theorem mergedM_apply (P : S32x8192.Idx → Ideal .f32) (p : ℕ) (y : S8192.Idx) :
    mergedM P p y = Max.max (Max.max (Max.max (rowOf P p y) (rowOf P (8 * 0 + p + 8) y)) (rowOf P (8 * 1 + p + 8) y)) (rowOf P (8 * 2 + p + 8) y) := rfl

/-- The merged rows: the totals of all rows. -/
theorem merged_sum (p g : ℕ) (hp : p < 8) (hg : g < 512) (l : Fin 16) (h : 16 * g + l.val < 8192) :
    mergedS (V0 m d) p (ixE ⟨16 * g + l.val, h⟩) = segSum (m (bLoc d)) (m (xLoc d)) g (16 * p + l.val) := by
  rw [mergedS_apply, row_sum m d S p 0 p g (by omega) (by omega) (by omega) hg, row_sum m d S (8 * 0 + p + 8) 1 p g (by omega) (by omega) (by omega) hg,
    row_sum m d S (8 * 1 + p + 8) 2 p g (by omega) (by omega) (by omega) hg, row_sum m d S (8 * 2 + p + 8) 3 p g (by omega) (by omega) (by omega) hg]
  unfold segSum
  exact tot_four neutral_add (fun n => m (bLoc d) (ixIds n)) (fun n => m (xLoc d) (ixRow n (16 * p + l.val))) (BitVec.ofNat 32 g)
theorem merged_max (p g : ℕ) (hp : p < 8) (hg : g < 512) (l : Fin 16) (h : 16 * g + l.val < 8192) :
    mergedM (V1 m d) p (ixE ⟨16 * g + l.val, h⟩) = segMax (m (bLoc d)) (m (xLoc d)) g (16 * p + l.val) := by
  rw [mergedM_apply, row_max m d S p 0 p g (by omega) (by omega) (by omega) hg, row_max m d S (8 * 0 + p + 8) 1 p g (by omega) (by omega) (by omega) hg,
    row_max m d S (8 * 1 + p + 8) 2 p g (by omega) (by omega) (by omega) hg, row_max m d S (8 * 2 + p + 8) 3 p g (by omega) (by omega) (by omega) hg]
  unfold segMax
  exact tot_four neutral_max (fun n => m (bLoc d) (ixIds n)) (fun n => m (xLoc d) (ixRow n (16 * p + l.val))) (BitVec.ofNat 32 g)
theorem merged_cnt (p g : ℕ) (hp : p < 8) (hg : g < 512) (l : Fin 16) (h : 16 * g + l.val < 8192) :
    mergedS (V2 m d) p (ixE ⟨16 * g + l.val, h⟩) = segCnt (m (bLoc d)) g := by
  rw [mergedS_apply, row_cnt m d S p 0 g (by omega) (by omega) hg, row_cnt m d S (8 * 0 + p + 8) 1 g (by omega) (by omega) hg,
    row_cnt m d S (8 * 1 + p + 8) 2 g (by omega) (by omega) hg, row_cnt m d S (8 * 2 + p + 8) 3 g (by omega) (by omega) hg]
  unfold segCnt
  exact tot_four neutral_add (fun n => m (bLoc d) (ixIds n)) (fun _ => 1) (BitVec.ofNat 32 g)

omit S in
/-- A row times one over its counts is the mean. -/
theorem meanRow_apply (s c : Row Ideal) (y : S8192.Idx) : meanRow s c y = Ideal.div (s y) (Max.max (c y) 1) := by
  have e : meanRow s c y = s y * Ideal.div (one1 : Ideal .f32) (Max.max (c y) (one1 : Ideal .f32)) := rfl
  rw [e, one1_ideal]
  exact Ideal.mul_one_div (ne_of_gt (lt_of_lt_of_le zero_lt_one (le_max_right _ _)))

/-- The second call's results, entry by entry. -/
theorem R0_apply (p : Fin 8) (g : ℕ) (hg : g < 512) (l : Fin 16) (h : 16 * g + l.val < 8192) :
    R0 m d (ValueIdx.ix2 p (⟨16 * g + l.val, h⟩ : Fin 8192)) = segMean (m (bLoc d)) (m (xLoc d)) g (16 * p.val + l.val) := by
  have e : R0 m d (ValueIdx.ix2 p (⟨16 * g + l.val, h⟩ : Fin 8192)) = meanRow (mergedS (V0 m d) p.val) (mergedS (V2 m d) p.val) (ixE ⟨16 * g + l.val, h⟩) := by
    unfold R0; rfl
  rw [e, meanRow_apply, merged_sum m d S p.val g p.isLt hg, merged_cnt m d S p.val g p.isLt hg, segMean]
theorem R1_apply (p : Fin 8) (g : ℕ) (hg : g < 512) (l : Fin 16) (h : 16 * g + l.val < 8192) :
    R1 m d (ValueIdx.ix2 p (⟨16 * g + l.val, h⟩ : Fin 8192)) = segMax (m (bLoc d)) (m (xLoc d)) g (16 * p.val + l.val) := by
  have e : R1 m d (ValueIdx.ix2 p (⟨16 * g + l.val, h⟩ : Fin 8192)) = mergedM (V1 m d) p.val (ixE ⟨16 * g + l.val, h⟩) := by
    unfold R1; rfl
  rw [e, merged_max m d S p.val g p.isLt hg]

end Cert.Proof

end
-- ==== Proof.RefPool.lean ====
/-
  The reference's pooled arrays, entry by entry: its sums over a segment's rows, its counts and its masked maximum are the
  totals over all rows.
-/
module

public import proofs.«01_k».proof.Proof.Pool
public import proofs.«01_k».proof.Proof.Gen.ReferenceIdeal.Run
public import Idealize.ShloMosaic.Lib.ValueIdx
public import Idealize.ShloMosaic.Lib.ValueIdxRank1
public import Idealize.ShloMosaic.Lib.IdealHost
public import Idealize.ShloMosaic.Lib.WordCmp
public import Idealize.ShloMosaic.Lib.Routing.OpsPair
public import Idealize.ShloMosaic.Lib.Pointwise.Index
public import Idealize.ShloMosaic.Lib.Pointwise.Reduce
public import Idealize.ShloMosaic.Lib.Pipeline.Value

@[expose] public section

noncomputable section

namespace Cert.Proof

open Cert.ReferenceIdeal Cert.ReferenceIdeal.Gen
open Idealize.ShloMosaic

/-! ## Places and words -/

theorem ixIds_eq (r : Fin 100000) : ixIds r.val = ValueIdx.ix1 r := by
  funext a
  match a with
  | 0 => exact Fin.ext (Nat.mod_eq_of_lt r.isLt)
theorem ixRow_eq (r : Fin 100000) (j : Fin 128) : ixRow r.val j.val = ValueIdx.ix2 r j := by
  funext a
  match a with
  | 0 => exact Fin.ext (Nat.mod_eq_of_lt r.isLt)
  | 1 => exact Fin.ext (Nat.mod_eq_of_lt j.isLt)

/-- A word read signed is a small number exactly when it is that number's word. -/
theorem toInt_eq_iff (w : BitVec 32) (g : ℕ) (hg : g < 512) : w.toInt = (g : ℤ) ↔ w = BitVec.ofNat 32 g := by
  have e : (BitVec.ofNat 32 g).toInt = (g : ℤ) := by
    rw [BitVec.toInt_eq_toNat_cond, BitVec.toNat_ofNat, Nat.mod_eq_of_lt (by omega), if_pos (by omega)]
  rw [← e, BitVec.toInt_inj]

/-- A maximum over all rows, in any order. -/
theorem acc_fold (f : ℕ → EReal) (n : ℕ) : (Finset.univ : Finset (Fin n)).fold Max.max ⊥ (fun k => f k.val) = acc Max.max ⊥ f n := by
  induction n with
  | zero => rfl
  | succ n ih =>
    rw [Fin.univ_castSuccEmb, Finset.fold_cons, Finset.fold_map, acc, ← ih, max_comm]
    rfl

/-! ## Where a row's update lands -/

variable (ids : S100000.Idx → BitVec 32)

/-- The segment numbers as a column of index words. -/
def idsCol : IVec S100000x1 32 := broadcastInDim S100000x1 ![0] bcast_S100000_S100000x1_0 ids

theorem idsCol_apply (r : Fin 100000) (z : Fin 1) : idsCol ids (ValueIdx.ix2 r z) = ids (ixIds r.val) := by
  rw [ixIds_eq]
  refine broadcastInDim_apply _ _ _ _ _ fun a => ?_
  match a with
  | ⟨0, _⟩ => rfl

/-- Row `r`'s entry of column `c` is added at `(g, j)` when the row is of segment `g` and the columns are one. -/
theorem lands_rows (r : Fin 100000) (c : Fin 128) (g : Fin 512) (j : Fin 128) :
    scatter_S512x128_S100000x1_S100000x128_1_0_0_1.resultIdx? (ValueIdx.ix2 r c) (idsCol ids) = some (ValueIdx.ix2 g j)
      ↔ ids (ixIds r.val) = BitVec.ofNat 32 g.val ∧ c = j := by
  have hs0 : scatter_S512x128_S100000x1_S100000x128_1_0_0_1.start (ValueIdx.ix2 r c) (idsCol ids) 0 = (ids (ixIds r.val)).toInt := by
    rw [← idsCol_apply ids r 0]
    unfold ScatterDims.start
    rw [dif_pos (by decide)]
    refine congrArg (fun i => (idsCol ids i).toInt) (funext fun b => ?_)
    match b with
    | ⟨0, _⟩ => rfl
    | ⟨1, _⟩ => rfl
  have hs1 : scatter_S512x128_S100000x1_S100000x128_1_0_0_1.start (ValueIdx.ix2 r c) (idsCol ids) 1 = 0 := by
    unfold ScatterDims.start
    rw [dif_neg (by decide)]
  have hw0 : scatter_S512x128_S100000x1_S100000x128_1_0_0_1.window (ValueIdx.ix2 r c) 0 = 0 := by
    unfold ScatterDims.window
    rw [dif_neg (by decide)]
  have hw1 : scatter_S512x128_S100000x1_S100000x128_1_0_0_1.window (ValueIdx.ix2 r c) 1 = c.val := by
    unfold ScatterDims.window
    rw [dif_pos (by decide)]
    rfl
  refine (Routing.resultIdx?_ix2 _ _ _ g j).trans ?_
  rw [hs0, hw0, hs1, hw1, ← toInt_eq_iff _ _ g.isLt]
  simp [Fin.ext_iff]

/-- Row `r` is counted at `g` when it is of segment `g`. -/
theorem lands_count (r : Fin 100000) (g : Fin 512) :
    scatter_S512_S100000x1_S100000_n_0_0_1.resultIdx? (ValueIdx.ix1 r) (idsCol ids) = some (ValueIdx.ix1 g) ↔ ids (ixIds r.val) = BitVec.ofNat 32 g.val := by
  have hs0 : scatter_S512_S100000x1_S100000_n_0_0_1.start (ValueIdx.ix1 r) (idsCol ids) 0 = (ids (ixIds r.val)).toInt := by
    rw [← idsCol_apply ids r 0]
    unfold ScatterDims.start
    rw [dif_pos (by decide)]
    refine congrArg (fun i => (idsCol ids i).toInt) (funext fun b => ?_)
    match b with
    | ⟨0, _⟩ => rfl
    | ⟨1, _⟩ => rfl
  have hw0 : scatter_S512_S100000x1_S100000_n_0_0_1.window (ValueIdx.ix1 r) 0 = 0 := by
    unfold ScatterDims.window
    rw [dif_neg (by decide)]
  refine (Routing.resultIdx?_ix1 _ _ _ g).trans ?_
  rw [hs0, hw0, ← toInt_eq_iff _ _ g.isLt]
  simp

/-! ## The sums, the counts, the maximum -/

variable (x : S100000x128.Idx → EReal)

/-- The reference's sums. -/
def refSum : FVec Ideal S512x128 .f32 :=
  Host.scatterAdd scatter_S512x128_S100000x1_S100000x128_1_0_0_1 (broadcastInDim S512x128 ![] bcast_S_S512x128 (constant S_ .f32 0x00000000#32)) (idsCol ids) x

theorem refSum_apply (g : Fin 512) (j : Fin 128) : refSum ids x (ValueIdx.ix2 g j) = segSum ids x g.val j.val := by
  have h : refSum ids x (ValueIdx.ix2 g j) = (Scalar.ofBits .f32 0x00000000#32 : Ideal .f32)
      + ∑ k ∈ Finset.univ.filter (fun k => scatter_S512x128_S100000x1_S100000x128_1_0_0_1.resultIdx? k (idsCol ids) = some (ValueIdx.ix2 g j)), x k := rfl
  rw [h, zero_ideal, zero_add, Finset.sum_filter, ValueIdx.sum_idx2]
  unfold segSum
  rw [tot, acc_sum]
  refine Finset.sum_congr rfl fun r _ => ?_
  unfold pick
  by_cases hr : ids (ixIds r.val) = BitVec.ofNat 32 g.val
  · rw [if_pos hr]
    show _ = x (ixRow r.val j.val)
    rw [ixRow_eq, Finset.sum_eq_single j]
    · exact if_pos ((lands_rows ids r j g j).2 ⟨hr, rfl⟩)
    · exact fun c _ hc => if_neg fun e => hc ((lands_rows ids r c g j).1 e).2
    · exact fun hj => absurd (Finset.mem_univ j) hj
  · rw [if_neg hr]
    exact Finset.sum_eq_zero fun c _ => if_neg fun e => hr ((lands_rows ids r c g j).1 e).1

/-- The reference's counts. -/
def refCnt : FVec Ideal S512 .f32 :=
  Host.scatterAdd scatter_S512_S100000x1_S100000_n_0_0_1 (broadcastInDim S512 ![] bcast_S_S512 (constant S_ .f32 0x00000000#32)) (idsCol ids)
    (broadcastInDim S100000 ![] bcast_S_S100000 (constant S_ .f32 0x3F800000#32))

theorem refCnt_apply (g : Fin 512) : refCnt ids (ValueIdx.ix1 g) = segCnt ids g.val := by
  have h : refCnt ids (ValueIdx.ix1 g) = (Scalar.ofBits .f32 0x00000000#32 : Ideal .f32)
      + ∑ k ∈ Finset.univ.filter (fun k => scatter_S512_S100000x1_S100000_n_0_0_1.resultIdx? k (idsCol ids) = some (ValueIdx.ix1 g)), (Scalar.ofBits .f32 0x3F800000#32 : Ideal .f32) := rfl
  have ho : (Scalar.ofBits .f32 0x3F800000#32 : Ideal .f32) = (1 : EReal) := Ideal.ofBits_one_f32
  rw [h, zero_ideal, zero_add, ho, Finset.sum_filter, ← Equiv.sum_comp (ValueIdx.idxEquiv1 (n := 100000)).symm]
  unfold segCnt
  rw [tot, acc_sum]
  refine Finset.sum_congr rfl fun r _ => ?_
  unfold pick
  exact if_congr (lands_count ids r g) rfl rfl

/-- The reference's means. -/
def refMean : FVec Ideal S512x128 .f32 :=
  Host.divf (refSum ids x) (broadcastInDim S512x128 ![0, 1] bcast_S512x1_S512x128_0_1 (broadcastInDim S512x1 ![0] bcast_S512_S512x1_0
    (maximumf (refCnt ids) (broadcastInDim S512 ![] bcast_S_S512 (constant S_ .f32 0x3F800000#32)))))

theorem refMean_apply (g : Fin 512) (j : Fin 128) : refMean ids x (ValueIdx.ix2 g j) = segMean ids x g.val j.val := by
  have hb : (broadcastInDim S512x128 ![0, 1] bcast_S512x1_S512x128_0_1 (broadcastInDim S512x1 ![0] bcast_S512_S512x1_0
      (maximumf (refCnt ids) (broadcastInDim S512 ![] bcast_S_S512 (constant S_ .f32 0x3F800000#32)))) : FVec Ideal S512x128 .f32) (ValueIdx.ix2 g j)
      = Max.max (segCnt ids g.val) 1 := by
    refine (broadcastInDim_apply _ _ _ _ (ValueIdx.ix2 g (0 : Fin 1)) fun a => ?_).trans ((broadcastInDim_apply _ _ _ _ (ValueIdx.ix1 g) fun a => ?_).trans ?_)
    · match a with
      | ⟨0, _⟩ => rfl
      | ⟨1, _⟩ => rfl
    · match a with
      | ⟨0, _⟩ => rfl
    · rw [← refCnt_apply, ← (Ideal.ofBits_one_f32 : Ideal.ofBits .f32 0x3F800000#32 = 1)]
      rfl
  unfold segMean
  rw [← hb, ← refSum_apply]
  unfold refMean Host.divf
  exact Ideal.hostDivf_def _ _

/-- Which rows are of which segment, as a mask over segments, rows and columns. -/
def refMask : IVec S512x100000x128 1 :=
  broadcastInDim S512x100000x128 ![0, 1, 2] bcast_S512x100000x1_S512x100000x128_0_1_2 (broadcastInDim S512x100000x1 ![0, 1] bcast_S512x100000_S512x100000x1_0_1
    (cmpi .eq (broadcastInDim S512x100000 ![0, 1] bcast_S1x100000_S512x100000_0_1 (broadcastInDim S1x100000 ![1] bcast_S100000_S1x100000_1 ids))
      (broadcastInDim S512x100000 ![0, 1] bcast_S512x1_S512x100000_0_1 (broadcastInDim S512x1 ![0] bcast_S512_S512x1_0 (iotaInDim S512 32 0)))))
/-- The rows, once for each segment. -/
def refRows : FVec Ideal S512x100000x128 .f32 :=
  broadcastInDim S512x100000x128 ![0, 1, 2] bcast_S1x100000x128_S512x100000x128_0_1_2 (broadcastInDim S1x100000x128 ![1, 2] bcast_S100000x128_S1x100000x128_1_2 x)
/-- The reference's maxima. -/
def refMax : FVec Ideal S512x128 .f32 :=
  Host.reduce FloatOps.maximumf (select (refMask ids) (refRows x) (broadcastInDim S512x100000x128 ![] bcast_S_S512x100000x128 (id (constant S_ .f32 0xFF800000#32))))
    (constant S_ .f32 0xFF800000#32) reducesTo_S512x100000x128_S512x128_d1 h_S_

theorem refMask_apply (g : Fin 512) (r : Fin 100000) (j : Fin 128) :
    refMask ids (ValueIdx.ix3 g r j) = IntOp.cmpi .eq (ids (ixIds r.val)) (BitVec.ofNat 32 g.val) := by
  refine (broadcastInDim_apply _ _ _ _ (ValueIdx.ix3 g r (0 : Fin 1)) fun a => ?_).trans ((broadcastInDim_apply _ _ _ _ (ValueIdx.ix2 g r) fun a => ?_).trans ?_)
  · match a with
    | ⟨0, _⟩ => rfl
    | ⟨1, _⟩ => rfl
    | ⟨2, _⟩ => rfl
  · match a with
    | ⟨0, _⟩ => rfl
    | ⟨1, _⟩ => rfl
  refine congrArg₂ (IntOp.cmpi .eq) ?_ ?_
  · rw [ixIds_eq]
    refine (broadcastInDim_apply _ _ _ _ (ValueIdx.ix2 (0 : Fin 1) r) fun a => ?_).trans (broadcastInDim_apply _ _ _ _ (ValueIdx.ix1 r) fun a => ?_)
    · match a with
      | ⟨0, _⟩ => rfl
      | ⟨1, _⟩ => rfl
    · match a with
      | ⟨0, _⟩ => rfl
  · refine (broadcastInDim_apply _ _ _ _ (ValueIdx.ix2 g (0 : Fin 1)) fun a => ?_).trans ((broadcastInDim_apply _ _ _ _ (ValueIdx.ix1 g) fun a => ?_).trans rfl)
    · match a with
      | ⟨0, _⟩ => rfl
      | ⟨1, _⟩ => rfl
    · match a with
      | ⟨0, _⟩ => rfl

theorem refRows_apply (g : Fin 512) (r : Fin 100000) (j : Fin 128) : refRows x (ValueIdx.ix3 g r j) = x (ixRow r.val j.val) := by
  rw [ixRow_eq]
  refine (broadcastInDim_apply _ _ _ _ (ValueIdx.ix3 (0 : Fin 1) r j) fun a => ?_).trans (broadcastInDim_apply _ _ _ _ (ValueIdx.ix2 r j) fun a => ?_)
  · match a with
    | ⟨0, _⟩ => rfl
    | ⟨1, _⟩ => rfl
    | ⟨2, _⟩ => rfl
  · match a with
    | ⟨0, _⟩ => rfl
    | ⟨1, _⟩ => rfl

/-- The masked rows: those of other segments at minus infinity. -/
theorem masked_apply (g : Fin 512) (r : Fin 100000) (j : Fin 128) :
    select (refMask ids) (refRows x) (broadcastInDim S512x100000x128 ![] bcast_S_S512x100000x128 (id (constant S_ .f32 0xFF800000#32))) (ValueIdx.ix3 g r j)
      = pick ⊥ (fun n => ids (ixIds n)) (fun n => x (ixRow n j.val)) (BitVec.ofNat 32 g.val) r.val := by
  have hbot : broadcastInDim S512x100000x128 ![] bcast_S_S512x100000x128 (id (constant (F := Ideal) S_ .f32 0xFF800000#32)) (ValueIdx.ix3 g r j) = (⊥ : EReal) := bot_ideal
  unfold select Scalar.select pick
  rw [refMask_apply, refRows_apply, hbot, WordCmp.cmpi_eq_eq]
  by_cases h : ids (ixIds r.val) = BitVec.ofNat 32 g.val
  · rw [if_pos h, if_pos (by rw [decide_eq_true h]; rfl)]
  · rw [if_neg h, if_neg (by rw [decide_eq_false h]; decide)]

theorem refMax_apply (g : Fin 512) (j : Fin 128) : refMax ids x (ValueIdx.ix2 g j) = segMax ids x g.val j.val := by
  have hf : (FloatOps.maximumf : Ideal .f32 → Ideal .f32 → Ideal .f32) = (Max.max : EReal → EReal → EReal) := rfl
  have hi : (constant (F := Ideal) S_ .f32 0xFF800000#32) (Shape.Idx.first h_S_) = (⊥ : EReal) := bot_ideal
  unfold refMax segMax
  rw [hf]
  refine (Host.reduce_eq_fold (Max.max : EReal → EReal → EReal) _ _ _ _ _).trans ?_
  rw [hi]
  refine (Shape.ReducesTo.fold_fiber_r3_a1 reducesTo_S512x100000x128_S512x128_d1 (ValueIdx.ix2 g j) (Max.max : EReal → EReal → EReal) ⊥ _).trans ?_
  rw [tot, ← acc_fold]
  exact Finset.fold_congr fun r _ => masked_apply ids x g r j

end Cert.Proof

end
-- ==== Proof.Merged.lean ====
/-
  What the TensorCore call leaves in the result's array: the body's value of the arrays it was entered with.
-/
module

public import proofs.«01_k».proof.Proof.Region
public import Idealize.ShloMosaic.Lib.ValueIdx
public import Idealize.ShloMosaic.Lib.VecWindow
public import Idealize.ShloMosaic.Lib.Pipeline.ValueKit

@[expose] public section

noncomputable section

namespace Cert.Proof

open Cert.KernelIdeal Cert.KernelIdeal.Gen
open Idealize.ShloMosaic
open Idealize.ShloMosaic.TcCoe

variable {F : FTy → Type} [FloatOps F]

/-! ## The call's one block of each array is the array -/

theorem emb_0 (j : S512x128.Idx) : ((cfg2.win 0).blk t2_0).view.emb j = j := by
  funext a; apply Fin.ext
  match a with
  | ⟨0, _⟩ => show 0 * 512 + 1 * (j 0).val = (j 0).val; omega
  | ⟨1, _⟩ => show 0 * 128 + 1 * (j 1).val = (j 1).val; omega
theorem emb_1 (j : S512x128.Idx) : ((cfg2.win 1).blk t2_0).view.emb j = j := by
  funext a; apply Fin.ext
  match a with
  | ⟨0, _⟩ => show 0 * 512 + 1 * (j 0).val = (j 0).val; omega
  | ⟨1, _⟩ => show 0 * 128 + 1 * (j 1).val = (j 1).val; omega
theorem emb_2 (j : S256x128.Idx) : ((cfg2.win 2).blk t2_0).view.emb j = j := by
  funext a; apply Fin.ext
  match a with
  | ⟨0, _⟩ => show 0 * 256 + 1 * (j 0).val = (j 0).val; omega
  | ⟨1, _⟩ => show 0 * 128 + 1 * (j 1).val = (j 1).val; omega
theorem emb_3 (j : S1x128.Idx) : ((cfg2.win 3).blk t2_0).view.emb j = j := by
  funext a; apply Fin.ext
  match a with
  | ⟨0, _⟩ => show 0 * 1 + 1 * (j 0).val = (j 0).val; omega
  | ⟨1, _⟩ => show 0 * 128 + 1 * (j 1).val = (j 1).val; omega
theorem emb_4 (j : S512x128.Idx) : ((cfg2.win 4).blk t2_0).view.emb j = j := by
  funext a; apply Fin.ext
  match a with
  | ⟨0, _⟩ => show 0 * 512 + 1 * (j 0).val = (j 0).val; omega
  | ⟨1, _⟩ => show 0 * 128 + 1 * (j 1).val = (j 1).val; omega

variable (V : Dev nD → Valuation τ sig (Elt F)) (c : Dev nD)

theorem stg0_eq : stg0 V c = V c (Proc.devRef .tc main_v4) := by
  funext y; show (V c (Proc.devRef .tc main_v4)) (((cfg2.win 0).blk t2_0).view.emb y) = _; rw [emb_0]
theorem stg1_eq : stg1 V c = V c (Proc.devRef .tc main_v7) := by
  funext y; show (V c (Proc.devRef .tc main_v7)) (((cfg2.win 1).blk t2_0).view.emb y) = _; rw [emb_1]
theorem stg2_eq : stg2 V c = V c (Proc.devRef .tc main_arg2) := by
  funext y; show (V c (Proc.devRef .tc main_arg2)) (((cfg2.win 2).blk t2_0).view.emb y) = _; rw [emb_2]
theorem stg3_eq : stg3 V c = V c (Proc.devRef .tc main_v8) := by
  funext y; show (V c (Proc.devRef .tc main_v8)) (((cfg2.win 3).blk t2_0).view.emb y) = _; rw [emb_3]

/-! ## The body's value -/

/-- 128 rows of the weights, from row `o` on. -/
def rowsFrom (o : ℕ) (h : o + 128 ≤ 256) (W : S256x128.Idx → Elt F .f32) : S128x128.Idx → Elt F .f32 :=
  fun y => W (ValueIdx.ix2 (⟨o + (y 0).val, by have h : (y 0).val < 128 := (y 0).isLt; omega⟩ : Fin 256) (⟨(y 1).val, (y 1).isLt⟩ : Fin 128))

theorem readAt_rows (o : ℕ) (h : o + 128 ≤ 256) (inb) (W : S256x128.Idx → Elt F .f32) :
    View.readAt (Elt F) (View.whole cc2_stg2_0) (Rect.unit (s := S256x128) ![o, 0] ![128, 128] inb).toLoadRect W = rowsFrom o h W := by
  funext y
  rw [View.readAt_apply]
  refine congrArg W (funext fun a => ?_)
  match a with
  | ⟨0, _⟩ => exact Fin.ext (show o + 1 * (y 0).val = o + (y 0).val by omega)
  | ⟨1, _⟩ => exact Fin.ext (show 0 + 1 * (y 1).val = (y 1).val by omega)

theorem runAt_eq : (runAt V c).1 = k2_pay1 (V c (Proc.devRef .tc main_v4)) (V c (Proc.devRef .tc main_v7))
    (rowsFrom 0 (by omega) (V c (Proc.devRef .tc main_arg2))) (rowsFrom 128 (by omega) (V c (Proc.devRef .tc main_arg2))) (V c (Proc.devRef .tc main_v8)) := by
  unfold runAt mergeRun mergeRun.sl.H4_1
  dsimp only
  rw [readAt_rows 0 (by omega), readAt_rows 128 (by omega), View.readAt_full, View.readAt_full, View.readAt_full, stg0_eq, stg1_eq, stg2_eq, stg3_eq]
  exact View.read_writes_full (Val := Elt F) (View.whole cc2_stg4_0) (View.whole cc2_stg4_0).junk (off := ![0, 0]) inb_S512x128_S512x128_0_0
    (k2_pay1 (V c (Proc.devRef .tc main_v4)) (V c (Proc.devRef .tc main_v7))
      (rowsFrom 0 (by omega) (V c (Proc.devRef .tc main_arg2))) (rowsFrom 128 (by omega) (V c (Proc.devRef .tc main_arg2))) (V c (Proc.devRef .tc main_v8))) []

/-- The result's array after the call. -/
theorem merged_eq : merged V c = k2_pay1 (V c (Proc.devRef .tc main_v4)) (V c (Proc.devRef .tc main_v7))
    (rowsFrom 0 (by omega) (V c (Proc.devRef .tc main_arg2))) (rowsFrom 128 (by omega) (V c (Proc.devRef .tc main_arg2))) (V c (Proc.devRef .tc main_v8)) := by
  rw [← runAt_eq]
  refine (dat V c).arrAt_eq_of_cover 4 _ (fun t _ => ?_) (fun i => ⟨t2_0, flush2_4 _, ?_⟩)
  · obtain rfl := fin_N2 t
    funext j
    show (runAt V c).1 j = (runAt V c).1 (((cfg2.win 4).blk t2_0).view.emb j)
    rw [emb_4]
  · have h := ((cfg2.win 4).blk t2_0).view.emb_mem_set i; rwa [emb_4] at h

end Cert.Proof

end
-- ==== Proof.Gate.lean ====
/-
  The gated sum of the two pooled arrays as a formula of their entries, and the TensorCore call's value as that formula.
-/
module

public import proofs.«01_k».proof.Proof.Merged
public import proofs.«01_k».proof.Proof.Fold
public import Idealize.ShloMosaic.Lib.MatmulPlain
public import Idealize.ShloMosaic.Lib.IdealHost

@[expose] public section

noncomputable section

namespace Cert.Proof

open Cert.KernelIdeal Cert.KernelIdeal.Gen
open Idealize.ShloMosaic

/-! ## The formula -/

/-- Row `k` of the upper half of the weights, and of the lower half. -/
abbrev upper (k : Fin 128) : Fin 256 := ⟨k.val, by omega⟩
abbrev lower (k : Fin 128) : Fin 256 := ⟨128 + k.val, by omega⟩

variable (p q : S512x128.Idx → EReal) (W : S256x128.Idx → EReal) (b : S128.Idx → EReal)

/-- What the gate is the logistic function of: row `g` of the two arrays side by side times column `j` of the weights, plus the bias. -/
def logit (g : Fin 512) (j : Fin 128) : EReal :=
  ((∑ k : Fin 128, p (ValueIdx.ix2 g k) * W (ValueIdx.ix2 (upper k) j)) + ∑ k : Fin 128, q (ValueIdx.ix2 g k) * W (ValueIdx.ix2 (lower k) j)) + b (ValueIdx.ix1 j)

/-- The gate's share of the one array and the rest of the other. -/
def gated (g : Fin 512) (j : Fin 128) : EReal :=
  Ideal.logistic (logit p q W b g j) * p (ValueIdx.ix2 g j) + (1 - Ideal.logistic (logit p q W b g j)) * q (ValueIdx.ix2 g j)

/-! ## The call's value -/

theorem rowsFrom_upper (k j : Fin 128) : rowsFrom (F := Ideal) 0 (by norm_num) W (ValueIdx.ix2 k j) = W (ValueIdx.ix2 (upper k) j) := by
  unfold rowsFrom
  refine congrArg W (funext fun a => ?_)
  match a with
  | ⟨0, _⟩ => exact Fin.ext (show 0 + k.val = k.val by omega)
  | ⟨1, _⟩ => rfl
theorem rowsFrom_lower (k j : Fin 128) : rowsFrom (F := Ideal) 128 (by norm_num) W (ValueIdx.ix2 k j) = W (ValueIdx.ix2 (lower k) j) := by
  unfold rowsFrom
  refine congrArg W (funext fun a => ?_)
  match a with
  | ⟨0, _⟩ => rfl
  | ⟨1, _⟩ => rfl

/-- A product with one half of the weights, at an entry. -/
def product (x : FVec Ideal S512x128 .f32) (w : FVec Ideal S128x128 .f32) : FVec Ideal S512x128 .f32 :=
  matmul dot_S512x128_S128x128_S512x128_1_0_0_1_n_n none x w (constant S512x128 .f32 0x00000000#32)
theorem product_apply (x : FVec Ideal S512x128 .f32) (w : FVec Ideal S128x128 .f32) (g : Fin 512) (j : Fin 128) :
    product x w (ValueIdx.ix2 g j) = ∑ k : Fin 128, x (ValueIdx.ix2 g k) * w (ValueIdx.ix2 k j) := by
  refine (Ideal.matmul_plain_apply none x w _ g j).trans ?_
  show (Scalar.ofBits .f32 0x00000000#32 : Ideal .f32) + _ = _
  rw [zero_ideal]
  exact zero_add _

/-- The body's value at entry `(g, j)`, for the bias `b` given as a row. -/
theorem pay_apply (r : S1x128.Idx → EReal) (hr : ∀ j : Fin 128, r (ValueIdx.ix2 (0 : Fin 1) j) = b (ValueIdx.ix1 j)) (g : Fin 512) (j : Fin 128) :
    k2_pay1 (F := Ideal) p q (rowsFrom (F := Ideal) 0 (by norm_num) W) (rowsFrom (F := Ideal) 128 (by norm_num) W) r (ValueIdx.ix2 g j) = gated p q W b g j := by
  have hb : broadcastTo S512x128 r broadcasts_S1x128_S512x128 (ValueIdx.ix2 g j) = b (ValueIdx.ix1 j) := by
    rw [← hr j]
    refine broadcastTo_apply r _ _ _ fun a => ?_
    match a with
    | ⟨0, _⟩ => rfl
    | ⟨1, _⟩ => rfl
  have h1 := product_apply p (rowsFrom (F := Ideal) 0 (by norm_num) W) g j
  have h2 := product_apply q (rowsFrom (F := Ideal) 128 (by norm_num) W) g j
  simp only [rowsFrom_upper, rowsFrom_lower] at h1 h2
  have hl : (product p (rowsFrom (F := Ideal) 0 (by norm_num) W) (ValueIdx.ix2 g j) + product q (rowsFrom (F := Ideal) 128 (by norm_num) W) (ValueIdx.ix2 g j))
      + broadcastTo S512x128 r broadcasts_S1x128_S512x128 (ValueIdx.ix2 g j) = logit p q W b g j := by
    rw [h1, h2, hb]
    rfl
  have ho : (Scalar.ofBits .f32 0x3F800000#32 : Ideal .f32) = (1 : EReal) := Ideal.ofBits_one_f32
  unfold k2_pay1 gated
  simp only [shapeCast_self]
  rw [← hl, ← ho]
  rfl

end Cert.Proof

end
-- ==== Proof.RefGate.lean ====
/-
  The reference's result, entry by entry: the gated sum of its pooled arrays.
-/
module

public import proofs.«01_k».proof.Proof.RefPool
public import proofs.«01_k».proof.Proof.Gate
public import Idealize.ShloMosaic.Lib.StackMember

@[expose] public section

noncomputable section

namespace Cert.Proof

open Cert.ReferenceIdeal Cert.ReferenceIdeal.Gen
open Idealize.ShloMosaic

variable (p q : FVec Ideal S512x128 .f32) (W : FVec Ideal S256x128 .f32) (b : FVec Ideal S128 .f32)

/-- The two arrays side by side. -/
def sideBySide : FVec Ideal S512x256 .f32 := concatenate S512x256 1 [⟨S512x128, p⟩, ⟨S512x128, q⟩] concatenates_S512x128_S512x128_S512x256_d1

theorem sideBySide_upper (g : Fin 512) (k : Fin 128) : sideBySide p q (ValueIdx.ix2 g (upper k)) = p (ValueIdx.ix2 g k) := by
  refine concatenate_pair_apply_left (1 : Fin S512x256.rank) p q _ _ rfl (ValueIdx.ix2 g k) fun a => ?_
  match a with
  | ⟨0, _⟩ => rfl
  | ⟨1, _⟩ => rfl
theorem sideBySide_lower (g : Fin 512) (k : Fin 128) : sideBySide p q (ValueIdx.ix2 g (lower k)) = q (ValueIdx.ix2 g k) := by
  refine concatenate_pair_apply_right (1 : Fin S512x256.rank) p q _ _ rfl rfl (ValueIdx.ix2 g k) (fun a ha => ?_) ?_
  · match a with
    | ⟨0, _⟩ => rfl
    | ⟨1, _⟩ => exact absurd rfl ha
  · exact Nat.add_comm k.val 128

/-- The product with all the weights, at an entry: its sum over 256 columns is the one over the first half and the one over the second. -/
theorem dot_apply (g : Fin 512) (j : Fin 128) :
    Host.dotGeneral dot_S512x256_S256x128_S512x128_1_0_0_1_n_n none (sideBySide p q) W (ValueIdx.ix2 g j)
      = (∑ k : Fin 128, p (ValueIdx.ix2 g k) * W (ValueIdx.ix2 (upper k) j)) + ∑ k : Fin 128, q (ValueIdx.ix2 g k) * W (ValueIdx.ix2 (lower k) j) := by
  refine (Idealize.ShloMosaic.StackMember.dotGeneral_plain_apply none (sideBySide p q) W g j).trans ?_
  refine (Fin.sum_univ_add (a := 128) (b := 128) fun c : Fin 256 => sideBySide p q (ValueIdx.ix2 g c) * W (ValueIdx.ix2 c j)).trans ?_
  refine congrArg₂ (· + ·) (Finset.sum_congr rfl fun k _ => ?_) (Finset.sum_congr rfl fun k _ => ?_)
  · rw [← sideBySide_upper p q]; rfl
  · rw [← sideBySide_lower p q]; rfl

/-- The bias, once for each row. -/
def biasRows : FVec Ideal S512x128 .f32 := broadcastInDim S512x128 ![0, 1] bcast_S1x128_S512x128_0_1 (broadcastInDim S1x128 ![1] bcast_S128_S1x128_1 b)
theorem biasRows_apply (g : Fin 512) (j : Fin 128) : biasRows b (ValueIdx.ix2 g j) = b (ValueIdx.ix1 j) := by
  refine (broadcastInDim_apply _ _ _ _ (ValueIdx.ix2 (0 : Fin 1) j) fun a => ?_).trans (broadcastInDim_apply _ _ _ _ (ValueIdx.ix1 j) fun a => ?_)
  · match a with
    | ⟨0, _⟩ => rfl
    | ⟨1, _⟩ => rfl
  · match a with
    | ⟨0, _⟩ => rfl

/-- All ones. -/
def ones : FVec Ideal S512x128 .f32 := broadcastInDim S512x128 ![] bcast_S_S512x128 (constant S_ .f32 0x3F800000#32)
theorem ones_apply (i : S512x128.Idx) : ones i = (1 : EReal) := Ideal.ofBits_one_f32

/-- The reference's gate. -/
def refGate : FVec Ideal S512x128 .f32 :=
  Host.divf ones (addf ones (Host.exp (Host.negf (addf (Host.dotGeneral dot_S512x256_S256x128_S512x128_1_0_0_1_n_n none (sideBySide p q) W) (biasRows b)))))

theorem refGate_apply (g : Fin 512) (j : Fin 128) : refGate p q W b (ValueIdx.ix2 g j) = Ideal.logistic (logit p q W b g j) := by
  have h : refGate p q W b (ValueIdx.ix2 g j) = Ideal.div (ones (ValueIdx.ix2 g j)) (ones (ValueIdx.ix2 g j)
      + Ideal.exp (-(Host.dotGeneral dot_S512x256_S256x128_S512x128_1_0_0_1_n_n none (sideBySide p q) W (ValueIdx.ix2 g j) + biasRows b (ValueIdx.ix2 g j)))) := rfl
  rw [h, ones_apply, dot_apply, biasRows_apply]
  rfl

/-- The reference's gated sum. -/
def refGated : FVec Ideal S512x128 .f32 := addf (mulf (refGate p q W b) p) (mulf (subf ones (refGate p q W b)) q)

theorem refGated_apply (g : Fin 512) (j : Fin 128) : refGated p q W b (ValueIdx.ix2 g j) = gated p q W b g j := by
  have h : refGated p q W b (ValueIdx.ix2 g j) = refGate p q W b (ValueIdx.ix2 g j) * p (ValueIdx.ix2 g j)
      + (ones (ValueIdx.ix2 g j) - refGate p q W b (ValueIdx.ix2 g j)) * q (ValueIdx.ix2 g j) := rfl
  rw [h, refGate_apply, ones_apply]
  rfl

/-- The reference's result is that sum of its means and maxima. -/
theorem ref_result (m : (ℓ : Loc nD τ sig) → Buf (Elt Ideal) ℓ) (c : Dev nD) :
    Value.res_main_v37 m c = refGated (refMean (m ((c.tc : Thread nD τ).loc main_arg1)) (m ((c.tc : Thread nD τ).loc main_arg0)))
      (refMax (m ((c.tc : Thread nD τ).loc main_arg1)) (m ((c.tc : Thread nD τ).loc main_arg0)))
      (m ((c.tc : Thread nD τ).loc main_arg2)) (m ((c.tc : Thread nD τ).loc main_arg3)) := by
  unfold Value.res_main_v37 refGated refGate ones biasRows sideBySide refMean refMax refSum refCnt idsCol refMask refRows
  rfl

end Cert.Proof

end
-- ==== Proof.Value.lean ====
/-
  The equation: from memories that agree on the arguments, the idealised program and the reference end with the same result.
-/
module

public import proofs.«01_k».proof.Proof.Frames
public import proofs.«01_k».proof.Proof.Host
public import proofs.«01_k».proof.Proof.RefGate

@[expose] public section

noncomputable section

namespace Cert.Proof

open Cert.KernelIdeal Cert.KernelIdeal.Gen
open Idealize.ShloMosaic Idealize.SL.Sem

variable (m : (ℓ : Loc nD τ sig) → Buf (Elt Ideal) ℓ)

/-- Under the precondition the segment numbers are sorted and below 512. -/
theorem sorted_ids (h : Cert.Pre_KernelIdeal m) (d : Dev nD) : Sorted (fun n => m (bLoc d) (ixIds n)) 100000 := by
  refine ⟨fun i => ids_lt _ _ _ _ (h d) _, fun i j hij hj => ?_⟩
  have e : ∀ (n : ℕ) (hn : n < 100000), (ixIds n) = ix1 ⟨n, hn⟩ := fun n hn => funext fun a => by
    match a with
    | 0 => exact Fin.ext (Nat.mod_eq_of_lt hn)
  have := ids_mono _ _ _ _ (h d) i j hij hj
  rw [← e i (by omega), ← e j hj] at this
  exact this

/-- The pooled arrays the TensorCore call is handed: the means and the maxima. -/
theorem handed_mean (h : Cert.Pre_KernelIdeal m) (d : Dev nD) (g : Fin 512) (j : Fin 128) :
    regroup (R0 m d) (ValueIdx.ix2 g j) = segMean (m (bLoc d)) (m (xLoc d)) g.val j.val := by
  have e : j = (⟨16 * (j.val / 16) + j.val % 16, by omega⟩ : Fin 128) := Fin.ext (Nat.div_add_mod j.val 16).symm
  have r := regroup_apply (R0 m d) g (⟨j.val / 16, by omega⟩ : Fin 8) (⟨j.val % 16, by omega⟩ : Fin 16) (by omega) (by omega)
  exact (congrArg (fun k => regroup (R0 m d) (ValueIdx.ix2 g k)) e).trans (r.trans ((R0_apply m d (sorted_ids m h d) _ g.val g.isLt _ _).trans
    (congrArg (segMean (m (bLoc d)) (m (xLoc d)) g.val) (Nat.div_add_mod j.val 16))))
theorem handed_max (h : Cert.Pre_KernelIdeal m) (d : Dev nD) (g : Fin 512) (j : Fin 128) :
    regroup (R1 m d) (ValueIdx.ix2 g j) = segMax (m (bLoc d)) (m (xLoc d)) g.val j.val := by
  have e : j = (⟨16 * (j.val / 16) + j.val % 16, by omega⟩ : Fin 128) := Fin.ext (Nat.div_add_mod j.val 16).symm
  have r := regroup_apply (R1 m d) g (⟨j.val / 16, by omega⟩ : Fin 8) (⟨j.val % 16, by omega⟩ : Fin 16) (by omega) (by omega)
  exact (congrArg (fun k => regroup (R1 m d) (ValueIdx.ix2 g k)) e).trans (r.trans ((R1_apply m d (sorted_ids m h d) _ g.val g.isLt _ _).trans
    (congrArg (segMax (m (bLoc d)) (m (xLoc d)) g.val) (Nat.div_add_mod j.val 16))))

/-- The program's result is the gated sum of the reference's means and maxima. -/
theorem kernel_result (h : Cert.Pre_KernelIdeal m) (d : Dev nD) :
    merged (Vops m) d = refGated (refMean (m (bLoc d)) (m (xLoc d))) (refMax (m (bLoc d)) (m (xLoc d)))
      (m ((SparseCore.T d).loc main_arg2)) (m ((SparseCore.T d).loc main_arg3)) := by
  have hp : regroup (R0 m d) = refMean (m (bLoc d)) (m (xLoc d)) := funext fun i => by
    rw [ValueIdx.eq_ix2 i]; exact (handed_mean m h d _ _).trans (refMean_apply _ _ _ _).symm
  have hq : regroup (R1 m d) = refMax (m (bLoc d)) (m (xLoc d)) := funext fun i => by
    rw [ValueIdx.eq_ix2 i]; exact (handed_max m h d _ _).trans (refMax_apply _ _ _ _).symm
  rw [merged_eq, Vops_v4, Vops_v7, Vops_w, Vops_v8, hp, hq]
  funext i
  rw [ValueIdx.eq_ix2 i]
  exact (pay_apply _ _ _ _ _ (biasRow_apply _) _ _).trans (refGated_apply _ _ _ _ _ _).symm

/-- The two results are equal. -/
theorem algebraic : Cert.algebraic_KernelIdeal_ReferenceIdeal := by
  intro m ρ m' ρ' hpre hargs
  refine ⟨fun c => merged (Vops m) c, ?_, ?_⟩
  · exact (θ_run Cert.KernelIdeal.defs _ _).mono
      (fun r h c => ⟨(h.1 c main_v9 (by decide)).trans (Vend_out (Vops m) c), args_end m r.2.mem h.1 c⟩)
      (run_main (F := Ideal) m ρ (preOK_ideal hpre))
  · refine (θ_run Cert.ReferenceIdeal.defs _ _).mono (fun r h c => ⟨(h c).1.trans ?_, (h c).2⟩) (Cert.ReferenceIdeal.Value.run (F := Ideal) m' ρ')
    obtain ⟨h0, h1, h2, h3⟩ := hargs c
    rw [ref_result, h0, h1, h2, h3]
    exact (kernel_result m hpre c).symm

end Cert.Proof

end
-- ==== Proof.lean ====
/-
  The claims, assembled: the frames (Proof/Frames.lean), the idealisation, which rewrites nothing, and the equation with
  the reference (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_sorted_ids
public import Idealize.ShloMosaic.Adequacy
public import Idealize.ShloMosaic.Init
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_sorted_ids.Gen.facts,
  frame_kernel, frame_ideal, frame_reference, frame_reference_pre, trivial, algebraic⟩

end Cert.Proof

end
